-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x2048x1024 : Shape := ⟨3, ![2, 2048, 1024]⟩
abbrev S4384x1024 : Shape := ⟨2, ![4384, 1024]⟩
abbrev S2304x1x4 : Shape := ⟨3, ![2304, 1, 4]⟩
abbrev S2304 : Shape := ⟨1, ![2304]⟩
abbrev S32 : Shape := ⟨1, ![32]⟩
abbrev S2048 : Shape := ⟨1, ![2048]⟩
abbrev S1024x2048 : Shape := ⟨2, ![1024, 2048]⟩
abbrev S_ : Shape := ⟨0, ![]⟩
abbrev S32x1024 : Shape := ⟨2, ![32, 1024]⟩
abbrev S2x2048x32 : Shape := ⟨3, ![2, 2048, 32]⟩
abbrev S1x1x32 : Shape := ⟨3, ![1, 1, 32]⟩

class Facts : Prop where
  bcast_S_S2x2048x1024 : S_.BroadcastsInDim S2x2048x1024 (![] : Fin 0 → Fin S2x2048x1024.rank)
  bcast_S_S4384x1024 : S_.BroadcastsInDim S4384x1024 (![] : Fin 0 → Fin S4384x1024.rank)
  bcast_S_S2304x1x4 : S_.BroadcastsInDim S2304x1x4 (![] : Fin 0 → Fin S2304x1x4.rank)
  bcast_S_S2304 : S_.BroadcastsInDim S2304 (![] : Fin 0 → Fin S2304.rank)
  bcast_S_S32 : S_.BroadcastsInDim S32 (![] : Fin 0 → Fin S32.rank)
  bcast_S_S2048 : S_.BroadcastsInDim S2048 (![] : Fin 0 → Fin S2048.rank)
  bcast_S_S1024x2048 : S_.BroadcastsInDim S1024x2048 (![] : Fin 0 → Fin S1024x2048.rank)
  slices_S4384x1024_S32x1024_4352_0 : S4384x1024.Slices ![4352, 0] S32x1024
  bcast_S32_S1x1x32_2 : S32.BroadcastsInDim S1x1x32 (![2] : Fin 1 → Fin S1x1x32.rank)
  bcast_S1x1x32_S2x2048x32_0_1_2 : S1x1x32.BroadcastsInDim S2x2048x32 (![0, 1, 2] : Fin 3 → Fin S2x2048x32.rank)
  bcast_S_S2x2048x32 : S_.BroadcastsInDim S2x2048x32 (![] : Fin 0 → Fin S2x2048x32.rank)
  dot_S2x2048x1024_S32x1024_S2x2048x32_2_1_01_0_n_n_wf : DotDims.WF S2x2048x1024 S32x1024 S2x2048x32 [2] [1] [0, 1] [0] [] []

variable [Facts]

def dot_S2x2048x1024_S32x1024_S2x2048x32_2_1_01_0_n_n : DotDims S2x2048x1024 S32x1024 S2x2048x32 where
  lhsContracting := [2]
  rhsContracting := [1]
  lhsNonContracting := [0, 1]
  rhsNonContracting := [0]
  lhsBatch := []
  rhsBatch := []
  wf := dot_S2x2048x1024_S32x1024_S2x2048x32_2_1_01_0_n_n_wf
def fn_part3 {F : FTy → Type} [FloatOps F] (main_arg0 : FVec F S2x2048x1024 .f32) (main_arg9 : FVec F S4384x1024 .f32) (main_arg12 : FVec F S32 .f32) (main_v2 : IVec S2x2048x1024 1) (main_v5 : IVec S4384x1024 1) (main_v8 : IVec S2304x1x4 1) (main_v11 : IVec S2304 1) (main_v14 : IVec S32 1) (main_v17 : IVec S32 1) (main_v20 : IVec S32 1) (main_v23 : IVec S2048 1) (main_v26 : IVec S1024x2048 1) (main_v29 : IVec S4384x1024 1) (main_v32 : IVec S2304x1x4 1) (main_v35 : IVec S2304 1) (main_v38 : IVec S32 1) (main_v41 : IVec S32 1) (main_v44 : IVec S32 1) (main_v47 : IVec S2048 1) (main_v50 : IVec S1024x2048 1) (main_v52 : FVec F S2x2048x32 .f32) (main_v54 : FVec F S2x2048x32 .f32) : IVec S2x2048x1024 1 × IVec S4384x1024 1 × IVec S2304x1x4 1 × IVec S2304 1 × IVec S32 1 × IVec S32 1 × IVec S32 1 × IVec S2048 1 × IVec S1024x2048 1 × IVec S4384x1024 1 × IVec S2304x1x4 1 × IVec S2304 1 × IVec S32 1 × IVec S32 1 × IVec S32 1 × IVec S2048 1 × IVec S1024x2048 1 × IVec S2x2048x32 1 × IVec S2x2048x32 1 :=
  let main_v55 : FVec F S2x2048x32 .f32 := addf main_v52 main_v54
  let main_cst_16 : FVec F S_ .f32 := constant S_ .f32 0x41A00000#32
  let main_v56 : FVec F S2x2048x32 .f32 := broadcastInDim S2x2048x32 ![] bcast_S_S2x2048x32 main_cst_16
  let main_v57 : IVec S2x2048x32 1 := cmpf .ole main_v55 main_v56
  let main_v58 : FVec F S32x1024 .f32 := (extractStridedSlice S32x1024 ![4352, 0] · slices_S4384x1024_S32x1024_4352_0) main_arg9
  let main_v59 : FVec F S2x2048x32 .f32 := (fun l r => Host.dotGeneral dot_S2x2048x1024_S32x1024_S2x2048x32_2_1_01_0_n_n none l r) main_arg0 main_v58
  let main_v60 : FVec F S1x1x32 .f32 := broadcastInDim S1x1x32 ![2] bcast_S32_S1x1x32_2 main_arg12
  let main_v61 : FVec F S2x2048x32 .f32 := broadcastInDim S2x2048x32 ![0, 1, 2] bcast_S1x1x32_S2x2048x32_0_1_2 main_v60
  let main_v62 : FVec F S2x2048x32 .f32 := addf main_v59 main_v61
  let main_cst_17 : FVec F S_ .f32 := constant S_ .f32 0x41A00000#32
  let main_v63 : FVec F S2x2048x32 .f32 := broadcastInDim S2x2048x32 ![] bcast_S_S2x2048x32 main_cst_17
  let main_v64 : IVec S2x2048x32 1 := cmpf .ole main_v62 main_v63
  (main_v2, main_v5, main_v8, main_v11, main_v14, main_v17, main_v20, main_v23, main_v26, main_v29, main_v32, main_v35, main_v38, main_v41, main_v44, main_v47, main_v50, main_v57, main_v64)

def fn_part2 {F : FTy → Type} [FloatOps F] (main_arg0 : FVec F S2x2048x1024 .f32) (main_arg1 : FVec F S4384x1024 .f32) (main_arg4 : FVec F S32 .f32) (main_arg9 : FVec F S4384x1024 .f32) (main_arg12 : FVec F S32 .f32) (main_arg13 : FVec F S32 .f32) (main_arg14 : FVec F S32 .f32) (main_arg15 : FVec F S2048 .f32) (main_arg16 : FVec F S1024x2048 .f32) (main_v2 : IVec S2x2048x1024 1) (main_v5 : IVec S4384x1024 1) (main_v8 : IVec S2304x1x4 1) (main_v11 : IVec S2304 1) (main_v14 : IVec S32 1) (main_v17 : IVec S32 1) (main_v20 : IVec S32 1) (main_v23 : IVec S2048 1) (main_v26 : IVec S1024x2048 1) (main_v29 : IVec S4384x1024 1) (main_v32 : IVec S2304x1x4 1) (main_v35 : IVec S2304 1) : IVec S2x2048x1024 1 × IVec S4384x1024 1 × IVec S2304x1x4 1 × IVec S2304 1 × IVec S32 1 × IVec S32 1 × IVec S32 1 × IVec S2048 1 × IVec S1024x2048 1 × IVec S4384x1024 1 × IVec S2304x1x4 1 × IVec S2304 1 × IVec S32 1 × IVec S32 1 × IVec S32 1 × IVec S2048 1 × IVec S1024x2048 1 × IVec S2x2048x32 1 × IVec S2x2048x32 1 :=
  let main_v36 : FVec F S32 .f32 := Host.absf main_arg12
  let main_cst_11 : FVec F S_ .f32 := constant S_ .f32 0x7F800000#32
  let main_v37 : FVec F S32 .f32 := broadcastInDim S32 ![] bcast_S_S32 main_cst_11
  let main_v38 : IVec S32 1 := cmpf .olt main_v36 main_v37
  let main_v39 : FVec F S32 .f32 := Host.absf main_arg13
  let main_cst_12 : FVec F S_ .f32 := constant S_ .f32 0x7F800000#32
  let main_v40 : FVec F S32 .f32 := broadcastInDim S32 ![] bcast_S_S32 main_cst_12
  let main_v41 : IVec S32 1 := cmpf .olt main_v39 main_v40
  let main_v42 : FVec F S32 .f32 := Host.absf main_arg14
  let main_cst_13 : FVec F S_ .f32 := constant S_ .f32 0x7F800000#32
  let main_v43 : FVec F S32 .f32 := broadcastInDim S32 ![] bcast_S_S32 main_cst_13
  let main_v44 : IVec S32 1 := cmpf .olt main_v42 main_v43
  let main_v45 : FVec F S2048 .f32 := Host.absf main_arg15
  let main_cst_14 : FVec F S_ .f32 := constant S_ .f32 0x7F800000#32
  let main_v46 : FVec F S2048 .f32 := broadcastInDim S2048 ![] bcast_S_S2048 main_cst_14
  let main_v47 : IVec S2048 1 := cmpf .olt main_v45 main_v46
  let main_v48 : FVec F S1024x2048 .f32 := Host.absf main_arg16
  let main_cst_15 : FVec F S_ .f32 := constant S_ .f32 0x7F800000#32
  let main_v49 : FVec F S1024x2048 .f32 := broadcastInDim S1024x2048 ![] bcast_S_S1024x2048 main_cst_15
  let main_v50 : IVec S1024x2048 1 := cmpf .olt main_v48 main_v49
  let main_v51 : FVec F S32x1024 .f32 := (extractStridedSlice S32x1024 ![4352, 0] · slices_S4384x1024_S32x1024_4352_0) main_arg1
  let main_v52 : FVec F S2x2048x32 .f32 := (fun l r => Host.dotGeneral dot_S2x2048x1024_S32x1024_S2x2048x32_2_1_01_0_n_n none l r) main_arg0 main_v51
  let main_v53 : FVec F S1x1x32 .f32 := broadcastInDim S1x1x32 ![2] bcast_S32_S1x1x32_2 main_arg4
  let main_v54 : FVec F S2x2048x32 .f32 := broadcastInDim S2x2048x32 ![0, 1, 2] bcast_S1x1x32_S2x2048x32_0_1_2 main_v53
  fn_part3 (F := F) main_arg0 main_arg9 main_arg12 main_v2 main_v5 main_v8 main_v11 main_v14 main_v17 main_v20 main_v23 main_v26 main_v29 main_v32 main_v35 main_v38 main_v41 main_v44 main_v47 main_v50 main_v52 main_v54

def fn_part1 {F : FTy → Type} [FloatOps F] (main_arg0 : FVec F S2x2048x1024 .f32) (main_arg1 : FVec F S4384x1024 .f32) (main_arg4 : FVec F S32 .f32) (main_arg6 : FVec F S32 .f32) (main_arg7 : FVec F S2048 .f32) (main_arg8 : FVec F S1024x2048 .f32) (main_arg9 : FVec F S4384x1024 .f32) (main_arg10 : FVec F S2304x1x4 .f32) (main_arg11 : FVec F S2304 .f32) (main_arg12 : FVec F S32 .f32) (main_arg13 : FVec F S32 .f32) (main_arg14 : FVec F S32 .f32) (main_arg15 : FVec F S2048 .f32) (main_arg16 : FVec F S1024x2048 .f32) (main_v2 : IVec S2x2048x1024 1) (main_v5 : IVec S4384x1024 1) (main_v8 : IVec S2304x1x4 1) (main_v11 : IVec S2304 1) (main_v14 : IVec S32 1) (main_v17 : IVec S32 1) : IVec S2x2048x1024 1 × IVec S4384x1024 1 × IVec S2304x1x4 1 × IVec S2304 1 × IVec S32 1 × IVec S32 1 × IVec S32 1 × IVec S2048 1 × IVec S1024x2048 1 × IVec S4384x1024 1 × IVec S2304x1x4 1 × IVec S2304 1 × IVec S32 1 × IVec S32 1 × IVec S32 1 × IVec S2048 1 × IVec S1024x2048 1 × IVec S2x2048x32 1 × IVec S2x2048x32 1 :=
  let main_v18 : FVec F S32 .f32 := Host.absf main_arg6
  let main_cst_5 : FVec F S_ .f32 := constant S_ .f32 0x7F800000#32
  let main_v19 : FVec F S32 .f32 := broadcastInDim S32 ![] bcast_S_S32 main_cst_5
  let main_v20 : IVec S32 1 := cmpf .olt main_v18 main_v19
  let main_v21 : FVec F S2048 .f32 := Host.absf main_arg7
  let main_cst_6 : FVec F S_ .f32 := constant S_ .f32 0x7F800000#32
  let main_v22 : FVec F S2048 .f32 := broadcastInDim S2048 ![] bcast_S_S2048 main_cst_6
  let main_v23 : IVec S2048 1 := cmpf .olt main_v21 main_v22
  let main_v24 : FVec F S1024x2048 .f32 := Host.absf main_arg8
  let main_cst_7 : FVec F S_ .f32 := constant S_ .f32 0x7F800000#32
  let main_v25 : FVec F S1024x2048 .f32 := broadcastInDim S1024x2048 ![] bcast_S_S1024x2048 main_cst_7
  let main_v26 : IVec S1024x2048 1 := cmpf .olt main_v24 main_v25
  let main_v27 : FVec F S4384x1024 .f32 := Host.absf main_arg9
  let main_cst_8 : FVec F S_ .f32 := constant S_ .f32 0x7F800000#32
  let main_v28 : FVec F S4384x1024 .f32 := broadcastInDim S4384x1024 ![] bcast_S_S4384x1024 main_cst_8
  let main_v29 : IVec S4384x1024 1 := cmpf .olt main_v27 main_v28
  let main_v30 : FVec F S2304x1x4 .f32 := Host.absf main_arg10
  let main_cst_9 : FVec F S_ .f32 := constant S_ .f32 0x7F800000#32
  let main_v31 : FVec F S2304x1x4 .f32 := broadcastInDim S2304x1x4 ![] bcast_S_S2304x1x4 main_cst_9
  let main_v32 : IVec S2304x1x4 1 := cmpf .olt main_v30 main_v31
  let main_v33 : FVec F S2304 .f32 := Host.absf main_arg11
  let main_cst_10 : FVec F S_ .f32 := constant S_ .f32 0x7F800000#32
  let main_v34 : FVec F S2304 .f32 := broadcastInDim S2304 ![] bcast_S_S2304 main_cst_10
  let main_v35 : IVec S2304 1 := cmpf .olt main_v33 main_v34
  fn_part2 (F := F) main_arg0 main_arg1 main_arg4 main_arg9 main_arg12 main_arg13 main_arg14 main_arg15 main_arg16 main_v2 main_v5 main_v8 main_v11 main_v14 main_v17 main_v20 main_v23 main_v26 main_v29 main_v32 main_v35

def fn {F : FTy → Type} [FloatOps F] (main_arg0 : FVec F S2x2048x1024 .f32) (main_arg1 : FVec F S4384x1024 .f32) (main_arg2 : FVec F S2304x1x4 .f32) (main_arg3 : FVec F S2304 .f32) (main_arg4 : FVec F S32 .f32) (main_arg5 : FVec F S32 .f32) (main_arg6 : FVec F S32 .f32) (main_arg7 : FVec F S2048 .f32) (main_arg8 : FVec F S1024x2048 .f32) (main_arg9 : FVec F S4384x1024 .f32) (main_arg10 : FVec F S2304x1x4 .f32) (main_arg11 : FVec F S2304 .f32) (main_arg12 : FVec F S32 .f32) (main_arg13 : FVec F S32 .f32) (main_arg14 : FVec F S32 .f32) (main_arg15 : FVec F S2048 .f32) (main_arg16 : FVec F S1024x2048 .f32) : IVec S2x2048x1024 1 × IVec S4384x1024 1 × IVec S2304x1x4 1 × IVec S2304 1 × IVec S32 1 × IVec S32 1 × IVec S32 1 × IVec S2048 1 × IVec S1024x2048 1 × IVec S4384x1024 1 × IVec S2304x1x4 1 × IVec S2304 1 × IVec S32 1 × IVec S32 1 × IVec S32 1 × IVec S2048 1 × IVec S1024x2048 1 × IVec S2x2048x32 1 × IVec S2x2048x32 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S4384x1024 .f32 := Host.absf main_arg1
  let main_cst_0 : FVec F S_ .f32 := constant S_ .f32 0x7F800000#32
  let main_v4 : FVec F S4384x1024 .f32 := broadcastInDim S4384x1024 ![] bcast_S_S4384x1024 main_cst_0
  let main_v5 : IVec S4384x1024 1 := cmpf .olt main_v3 main_v4
  let main_v6 : FVec F S2304x1x4 .f32 := Host.absf main_arg2
  let main_cst_1 : FVec F S_ .f32 := constant S_ .f32 0x7F800000#32
  let main_v7 : FVec F S2304x1x4 .f32 := broadcastInDim S2304x1x4 ![] bcast_S_S2304x1x4 main_cst_1
  let main_v8 : IVec S2304x1x4 1 := cmpf .olt main_v6 main_v7
  let main_v9 : FVec F S2304 .f32 := Host.absf main_arg3
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_v12 : FVec F S32 .f32 := Host.absf main_arg4
  let main_cst_3 : FVec F S_ .f32 := constant S_ .f32 0x7F800000#32
  let main_v13 : FVec F S32 .f32 := broadcastInDim S32 ![] bcast_S_S32 main_cst_3
  let main_v14 : IVec S32 1 := cmpf .olt main_v12 main_v13
  let main_v15 : FVec F S32 .f32 := Host.absf main_arg5
  let main_cst_4 : FVec F S_ .f32 := constant S_ .f32 0x7F800000#32
  let main_v16 : FVec F S32 .f32 := broadcastInDim S32 ![] bcast_S_S32 main_cst_4
  let main_v17 : IVec S32 1 := cmpf .olt main_v15 main_v16
  fn_part1 (F := F) main_arg0 main_arg1 main_arg4 main_arg6 main_arg7 main_arg8 main_arg9 main_arg10 main_arg11 main_arg12 main_arg13 main_arg14 main_arg15 main_arg16 main_v2 main_v5 main_v8 main_v11 main_v14 main_v17
-- ==== Kernel.lean ====
abbrev S2x2048x1024 : Shape := ⟨3, ![2, 2048, 1024]⟩
abbrev S4384x1024 : Shape := ⟨2, ![4384, 1024]⟩
abbrev S2304x1x4 : Shape := ⟨3, ![2304, 1, 4]⟩
abbrev S2304 : Shape := ⟨1, ![2304]⟩
abbrev S32 : Shape := ⟨1, ![32]⟩
abbrev S2048 : Shape := ⟨1, ![2048]⟩
abbrev S1024x2048 : Shape := ⟨2, ![1024, 2048]⟩
abbrev S1x4384x1024 : Shape := ⟨3, ![1, 4384, 1024]⟩
abbrev S2x4384x1024 : Shape := ⟨3, ![2, 4384, 1024]⟩
abbrev S1x1024x2048 : Shape := ⟨3, ![1, 1024, 2048]⟩
abbrev S2x1024x2048 : Shape := ⟨3, ![2, 1024, 2048]⟩
abbrev S2304x4 : Shape := ⟨2, ![2304, 4]⟩
abbrev S4x2304 : Shape := ⟨2, ![4, 2304]⟩
abbrev S1x4x2304 : Shape := ⟨3, ![1, 4, 2304]⟩
abbrev S2x4x2304 : Shape := ⟨3, ![2, 4, 2304]⟩
abbrev S1x2304 : Shape := ⟨2, ![1, 2304]⟩
abbrev S2x2304 : Shape := ⟨2, ![2, 2304]⟩
abbrev S2x1x2304 : Shape := ⟨3, ![2, 1, 2304]⟩
abbrev S1x32 : Shape := ⟨2, ![1, 32]⟩
abbrev S2x32 : Shape := ⟨2, ![2, 32]⟩
abbrev S2x1x32 : Shape := ⟨3, ![2, 1, 32]⟩
abbrev S1x2048 : Shape := ⟨2, ![1, 2048]⟩
abbrev S2x2048 : Shape := ⟨2, ![2, 2048]⟩
abbrev S2x1x2048 : Shape := ⟨3, ![2, 1, 2048]⟩
abbrev S32x1 : Shape := ⟨2, ![32, 1]⟩
abbrev S_ : Shape := ⟨0, ![]⟩
abbrev S32x2048 : Shape := ⟨2, ![32, 2048]⟩
abbrev S1x1x2304 : Shape := ⟨3, ![1, 1, 2304]⟩
abbrev S1x1x32 : Shape := ⟨3, ![1, 1, 32]⟩
abbrev S1x1x2048 : Shape := ⟨3, ![1, 1, 2048]⟩
abbrev S1x256x1024 : Shape := ⟨3, ![1, 256, 1024]⟩
abbrev S128x2048 : Shape := ⟨2, ![128, 2048]⟩
abbrev S8x2304 : Shape := ⟨2, ![8, 2304]⟩
abbrev S1024x4384 : Shape := ⟨2, ![1024, 4384]⟩
abbrev S2048x1024 : Shape := ⟨2, ![2048, 1024]⟩
abbrev S256x256 : Shape := ⟨2, ![256, 256]⟩
abbrev S256x1024 : Shape := ⟨2, ![256, 1024]⟩
abbrev S256x4384 : Shape := ⟨2, ![256, 4384]⟩
abbrev S256x2048 : Shape := ⟨2, ![256, 2048]⟩
abbrev S256x2304 : Shape := ⟨2, ![256, 2304]⟩
abbrev S256x32 : Shape := ⟨2, ![256, 32]⟩
abbrev S3x2304 : Shape := ⟨2, ![3, 2304]⟩
abbrev S259x2304 : Shape := ⟨2, ![259, 2304]⟩
abbrev S256x128 : Shape := ⟨2, ![256, 128]⟩
abbrev S770x32 : Shape := ⟨2, ![770, 32]⟩
abbrev S770x2048 : Shape := ⟨2, ![770, 2048]⟩
abbrev S32x256 : Shape := ⟨2, ![32, 256]⟩
abbrev S256x1 : Shape := ⟨2, ![256, 1]⟩
abbrev S1x256 : Shape := ⟨2, ![1, 256]⟩
abbrev S256x64 : Shape := ⟨2, ![256, 64]⟩
abbrev S256 : Shape := ⟨1, ![256]⟩

abbrev nBuf : Space → Nat
  | .hbm => 101
  | .vmem => 34
  | .smem => 0
  | _ => 0

abbrev bufTy : (tb : Table) → Fin (tcTables nBuf tb) → BufTy
  | .hbm, ⟨0, _⟩ => ⟨S2x2048x1024, .f32⟩
  | .hbm, ⟨1, _⟩ => ⟨S4384x1024, .f32⟩
  | .hbm, ⟨2, _⟩ => ⟨S2304x1x4, .f32⟩
  | .hbm, ⟨3, _⟩ => ⟨S2304, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S1024x2048, .f32⟩
  | .hbm, ⟨9, _⟩ => ⟨S4384x1024, .f32⟩
  | .hbm, ⟨10, _⟩ => ⟨S2304x1x4, .f32⟩
  | .hbm, ⟨11, _⟩ => ⟨S2304, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S2048, .f32⟩
  | .hbm, ⟨16, _⟩ => ⟨S1024x2048, .f32⟩
  | .hbm, ⟨17, _⟩ => ⟨S2x2048x1024, .bf16⟩
  | .hbm, ⟨18, _⟩ => ⟨S1x4384x1024, .f32⟩
  | .hbm, ⟨19, _⟩ => ⟨S1x4384x1024, .f32⟩
  | .hbm, ⟨20, _⟩ => ⟨S2x4384x1024, .f32⟩
  | .hbm, ⟨21, _⟩ => ⟨S2x4384x1024, .bf16⟩
  | .hbm, ⟨22, _⟩ => ⟨S1x1024x2048, .f32⟩
  | .hbm, ⟨23, _⟩ => ⟨S1x1024x2048, .f32⟩
  | .hbm, ⟨24, _⟩ => ⟨S2x1024x2048, .f32⟩
  | .hbm, ⟨25, _⟩ => ⟨S2x1024x2048, .bf16⟩
  | .hbm, ⟨26, _⟩ => ⟨S2304x4, .f32⟩
  | .hbm, ⟨27, _⟩ => ⟨S4x2304, .f32⟩
  | .hbm, ⟨28, _⟩ => ⟨S2304x4, .f32⟩
  | .hbm, ⟨29, _⟩ => ⟨S4x2304, .f32⟩
  | .hbm, ⟨30, _⟩ => ⟨S1x4x2304, .f32⟩
  | .hbm, ⟨31, _⟩ => ⟨S1x4x2304, .f32⟩
  | .hbm, ⟨32, _⟩ => ⟨S2x4x2304, .f32⟩
  | .hbm, ⟨33, _⟩ => ⟨S1x2304, .f32⟩
  | .hbm, ⟨34, _⟩ => ⟨S1x2304, .f32⟩
  | .hbm, ⟨35, _⟩ => ⟨S2x2304, .f32⟩
  | .hbm, ⟨36, _⟩ => ⟨S2x1x2304, .f32⟩
  | .hbm, ⟨37, _⟩ => ⟨S1x32, .f32⟩
  | .hbm, ⟨38, _⟩ => ⟨S1x32, .f32⟩
  | .hbm, ⟨39, _⟩ => ⟨S2x32, .f32⟩
  | .hbm, ⟨40, _⟩ => ⟨S2x1x32, .f32⟩
  | .hbm, ⟨41, _⟩ => ⟨S1x32, .f32⟩
  | .hbm, ⟨42, _⟩ => ⟨S1x32, .f32⟩
  | .hbm, ⟨43, _⟩ => ⟨S2x32, .f32⟩
  | .hbm, ⟨44, _⟩ => ⟨S2x1x32, .f32⟩
  | .hbm, ⟨45, _⟩ => ⟨S1x32, .f32⟩
  | .hbm, ⟨46, _⟩ => ⟨S1x32, .f32⟩
  | .hbm, ⟨47, _⟩ => ⟨S2x32, .f32⟩
  | .hbm, ⟨48, _⟩ => ⟨S2x1x32, .f32⟩
  | .hbm, ⟨49, _⟩ => ⟨S1x2048, .f32⟩
  | .hbm, ⟨50, _⟩ => ⟨S1x2048, .f32⟩
  | .hbm, ⟨51, _⟩ => ⟨S2x2048, .f32⟩
  | .hbm, ⟨52, _⟩ => ⟨S2x1x2048, .f32⟩
  | .hbm, ⟨53, _⟩ => ⟨S32, .i32⟩
  | .hbm, ⟨54, _⟩ => ⟨S32x1, .i32⟩
  | .hbm, ⟨55, _⟩ => ⟨S2048, .i32⟩
  | .hbm, ⟨56, _⟩ => ⟨S1x2048, .i32⟩
  | .hbm, ⟨57, _⟩ => ⟨S_, .i32⟩
  | .hbm, ⟨58, _⟩ => ⟨S_, .i32⟩
  | .hbm, ⟨59, _⟩ => ⟨S1x2048, .i32⟩
  | .hbm, ⟨60, _⟩ => ⟨S1x2048, .i32⟩
  | .hbm, ⟨61, _⟩ => ⟨S1x2048, .i32⟩
  | .hbm, ⟨62, _⟩ => ⟨S_, .i32⟩
  | .hbm, ⟨63, _⟩ => ⟨S1x2048, .i32⟩
  | .hbm, ⟨64, _⟩ => ⟨S1x2048, .i1⟩
  | .hbm, ⟨65, _⟩ => ⟨S1x2048, .i32⟩
  | .hbm, ⟨66, _⟩ => ⟨S1x2048, .i32⟩
  | .hbm, ⟨67, _⟩ => ⟨S_, .i32⟩
  | .hbm, ⟨68, _⟩ => ⟨S1x2048, .i32⟩
  | .hbm, ⟨69, _⟩ => ⟨S1x2048, .i1⟩
  | .hbm, ⟨70, _⟩ => ⟨S1x2048, .i1⟩
  | .hbm, ⟨71, _⟩ => ⟨S_, .i32⟩
  | .hbm, ⟨72, _⟩ => ⟨S1x2048, .i32⟩
  | .hbm, ⟨73, _⟩ => ⟨S1x2048, .i32⟩
  | .hbm, ⟨74, _⟩ => ⟨S1x2048, .i32⟩
  | .hbm, ⟨75, _⟩ => ⟨S32x2048, .i32⟩
  | .hbm, ⟨76, _⟩ => ⟨S32x2048, .i32⟩
  | .hbm, ⟨77, _⟩ => ⟨S32x2048, .i1⟩
  | .hbm, ⟨78, _⟩ => ⟨S32x2048, .bf16⟩
  | .hbm, ⟨79, _⟩ => ⟨S1x4384x1024, .bf16⟩
  | .hbm, ⟨80, _⟩ => ⟨S1x4x2304, .f32⟩
  | .hbm, ⟨81, _⟩ => ⟨S1x1x2304, .f32⟩
  | .hbm, ⟨82, _⟩ => ⟨S1x1x32, .f32⟩
  | .hbm, ⟨83, _⟩ => ⟨S1x1x32, .f32⟩
  | .hbm, ⟨84, _⟩ => ⟨S1x1x32, .f32⟩
  | .hbm, ⟨85, _⟩ => ⟨S1x1x2048, .f32⟩
  | .hbm, ⟨86, _⟩ => ⟨S1x1024x2048, .bf16⟩
  | .hbm, ⟨87, _⟩ => ⟨S2x2048x1024, .f32⟩
  | .hbm, ⟨88, _⟩ => ⟨S1x4384x1024, .bf16⟩
  | .hbm, ⟨89, _⟩ => ⟨S1x4x2304, .f32⟩
  | .hbm, ⟨90, _⟩ => ⟨S1x1x2304, .f32⟩
  | .hbm, ⟨91, _⟩ => ⟨S1x1x32, .f32⟩
  | .hbm, ⟨92, _⟩ => ⟨S1x1x32, .f32⟩
  | .hbm, ⟨93, _⟩ => ⟨S1x1x32, .f32⟩
  | .hbm, ⟨94, _⟩ => ⟨S1x1x2048, .f32⟩
  | .hbm, ⟨95, _⟩ => ⟨S1x1024x2048, .bf16⟩
  | .hbm, ⟨96, _⟩ => ⟨S2x2048x1024, .f32⟩
  | .hbm, ⟨97, _⟩ => ⟨S2x2048x1024, .f32⟩
  | .hbm, ⟨98, _⟩ => ⟨S_, .f32⟩
  | .hbm, ⟨99, _⟩ => ⟨S2x2048x1024, .f32⟩
  | .hbm, ⟨100, _⟩ => ⟨S2x2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x4384x1024, .bf16⟩
  | .local _ .vmem, ⟨3, _⟩ => ⟨S1x4x2304, .f32⟩
  | .local _ .vmem, ⟨4, _⟩ => ⟨S1x1x2304, .f32⟩
  | .local _ .vmem, ⟨5, _⟩ => ⟨S1x1x32, .f32⟩
  | .local _ .vmem, ⟨6, _⟩ => ⟨S1x1x32, .f32⟩
  | .local _ .vmem, ⟨7, _⟩ => ⟨S1x1x32, .f32⟩
  | .local _ .vmem, ⟨8, _⟩ => ⟨S1x1x2048, .f32⟩
  | .local _ .vmem, ⟨9, _⟩ => ⟨S1x1024x2048, .bf16⟩
  | .local _ .vmem, ⟨10, _⟩ => ⟨S32x2048, .bf16⟩
  | .local _ .vmem, ⟨11, _⟩ => ⟨S1x256x1024, .f32⟩
  | .local _ .vmem, ⟨12, _⟩ => ⟨S1x256x1024, .f32⟩
  | .local _ .vmem, ⟨13, _⟩ => ⟨S128x2048, .f32⟩
  | .local _ .vmem, ⟨14, _⟩ => ⟨S8x2304, .f32⟩
  | .local _ .vmem, ⟨15, _⟩ => ⟨S1024x4384, .bf16⟩
  | .local _ .vmem, ⟨16, _⟩ => ⟨S2048x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x4384x1024, .bf16⟩
  | .local _ .vmem, ⟨20, _⟩ => ⟨S1x4x2304, .f32⟩
  | .local _ .vmem, ⟨21, _⟩ => ⟨S1x1x2304, .f32⟩
  | .local _ .vmem, ⟨22, _⟩ => ⟨S1x1x32, .f32⟩
  | .local _ .vmem, ⟨23, _⟩ => ⟨S1x1x32, .f32⟩
  | .local _ .vmem, ⟨24, _⟩ => ⟨S1x1x32, .f32⟩
  | .local _ .vmem, ⟨25, _⟩ => ⟨S1x1x2048, .f32⟩
  | .local _ .vmem, ⟨26, _⟩ => ⟨S1x1024x2048, .bf16⟩
  | .local _ .vmem, ⟨27, _⟩ => ⟨S32x2048, .bf16⟩
  | .local _ .vmem, ⟨28, _⟩ => ⟨S1x256x1024, .f32⟩
  | .local _ .vmem, ⟨29, _⟩ => ⟨S1x256x1024, .f32⟩
  | .local _ .vmem, ⟨30, _⟩ => ⟨S128x2048, .f32⟩
  | .local _ .vmem, ⟨31, _⟩ => ⟨S8x2304, .f32⟩
  | .local _ .vmem, ⟨32, _⟩ => ⟨S1024x4384, .bf16⟩
  | .local _ .vmem, ⟨33, _⟩ => ⟨S2048x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_v37 : Ref sig .tc := ⟨.hbm, 54, rfl⟩
abbrev main_call0_v38 : Ref sig .tc := ⟨.hbm, 55, rfl⟩
abbrev main_call0_v39 : Ref sig .tc := ⟨.hbm, 56, rfl⟩
abbrev main_call0_c : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_call0_c : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_v11 : Ref sig .tc := ⟨.hbm, 70, rfl⟩
abbrev main_call0_call0_c_0 : Ref sig .tc := ⟨.hbm, 71, rfl⟩
abbrev main_call0_call0_v12 : Ref sig .tc := ⟨.hbm, 72, rfl⟩
abbrev main_call0_call0_v13 : Ref sig .tc := ⟨.hbm, 73, rfl⟩
abbrev main_call0_v40 : Ref sig .tc := ⟨.hbm, 74, rfl⟩
abbrev main_call0_v41 : Ref sig .tc := ⟨.hbm, 75, rfl⟩
abbrev main_call0_v42 : Ref sig .tc := ⟨.hbm, 76, rfl⟩
abbrev main_call0_v43 : Ref sig .tc := ⟨.hbm, 77, rfl⟩
abbrev main_call0_v44 : Ref sig .tc := ⟨.hbm, 78, rfl⟩
abbrev main_call0_v45 : Ref sig .tc := ⟨.hbm, 79, rfl⟩
abbrev main_call0_v46 : Ref sig .tc := ⟨.hbm, 80, rfl⟩
abbrev main_call0_v47 : Ref sig .tc := ⟨.hbm, 81, rfl⟩
abbrev main_call0_v48 : Ref sig .tc := ⟨.hbm, 82, rfl⟩
abbrev main_call0_v49 : Ref sig .tc := ⟨.hbm, 83, rfl⟩
abbrev main_call0_v50 : Ref sig .tc := ⟨.hbm, 84, rfl⟩
abbrev main_call0_v51 : Ref sig .tc := ⟨.hbm, 85, rfl⟩
abbrev main_call0_v52 : Ref sig .tc := ⟨.hbm, 86, rfl⟩
abbrev main_call0_v53 : Ref sig .tc := ⟨.hbm, 87, rfl⟩
abbrev main_call0_v54 : Ref sig .tc := ⟨.hbm, 88, rfl⟩
abbrev main_call0_v55 : Ref sig .tc := ⟨.hbm, 89, rfl⟩
abbrev main_call0_v56 : Ref sig .tc := ⟨.hbm, 90, rfl⟩
abbrev main_call0_v57 : Ref sig .tc := ⟨.hbm, 91, rfl⟩
abbrev main_call0_v58 : Ref sig .tc := ⟨.hbm, 92, rfl⟩
abbrev main_call0_v59 : Ref sig .tc := ⟨.hbm, 93, rfl⟩
abbrev main_call0_v60 : Ref sig .tc := ⟨.hbm, 94, rfl⟩
abbrev main_call0_v61 : Ref sig .tc := ⟨.hbm, 95, rfl⟩
abbrev main_call0_v62 : Ref sig .tc := ⟨.hbm, 96, rfl⟩
abbrev main_call0_v63 : Ref sig .tc := ⟨.hbm, 97, rfl⟩
abbrev main_call0_cst : Ref sig .tc := ⟨.hbm, 98, rfl⟩
abbrev main_call0_v64 : Ref sig .tc := ⟨.hbm, 99, rfl⟩
abbrev main_v0 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x4384x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x4x2304 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1x2304 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x1024x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S32x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S4384x1024 : Shape := ⟨2, ![4384, 1024]⟩
abbrev S2304x1x4 : Shape := ⟨3, ![2304, 1, 4]⟩
abbrev S2304 : Shape := ⟨1, ![2304]⟩
abbrev S32 : Shape := ⟨1, ![32]⟩
abbrev S2048 : Shape := ⟨1, ![2048]⟩
abbrev S1024x2048 : Shape := ⟨2, ![1024, 2048]⟩
abbrev S1x2x2048x1024 : Shape := ⟨4, ![1, 2, 2048, 1024]⟩
abbrev S2x2x2048x1024 : Shape := ⟨4, ![2, 2, 2048, 1024]⟩
abbrev S1x4384x1024 : Shape := ⟨3, ![1, 4384, 1024]⟩
abbrev S2x4384x1024 : Shape := ⟨3, ![2, 4384, 1024]⟩
abbrev S1x2304x1x4 : Shape := ⟨4, ![1, 2304, 1, 4]⟩
abbrev S2x2304x1x4 : Shape := ⟨4, ![2, 2304, 1, 4]⟩
abbrev S1x2304 : Shape := ⟨2, ![1, 2304]⟩
abbrev S2x2304 : Shape := ⟨2, ![2, 2304]⟩
abbrev S1x32 : Shape := ⟨2, ![1, 32]⟩
abbrev S2x32 : Shape := ⟨2, ![2, 32]⟩
abbrev S1x2048 : Shape := ⟨2, ![1, 2048]⟩
abbrev S2x2048 : Shape := ⟨2, ![2, 2048]⟩
abbrev S1x1024x2048 : Shape := ⟨3, ![1, 1024, 2048]⟩
abbrev S2x1024x2048 : Shape := ⟨3, ![2, 1024, 2048]⟩
abbrev S2x1024x4384 : Shape := ⟨3, ![2, 1024, 4384]⟩
abbrev S2x2x2048x4384 : Shape := ⟨4, ![2, 2, 2048, 4384]⟩
abbrev S2x2x2048x2048 : Shape := ⟨4, ![2, 2, 2048, 2048]⟩
abbrev S2x2x2048x2304 : Shape := ⟨4, ![2, 2, 2048, 2304]⟩
abbrev S2x2x2048x32 : Shape := ⟨4, ![2, 2, 2048, 32]⟩
abbrev S_ : Shape := ⟨0, ![]⟩
abbrev S2x2x2051x2304 : Shape := ⟨4, ![2, 2, 2051, 2304]⟩
abbrev S2x2304x1x1 : Shape := ⟨4, ![2, 2304, 1, 1]⟩
abbrev S2x1x1x2304 : Shape := ⟨4, ![2, 1, 1, 2304]⟩
abbrev S2x2x2048x32x64 : Shape := ⟨5, ![2, 2, 2048, 32, 64]⟩
abbrev S2x2x2048x128 : Shape := ⟨4, ![2, 2, 2048, 128]⟩
abbrev S2x1x1x32 : Shape := ⟨4, ![2, 1, 1, 32]⟩
abbrev S2x32x64x128 : Shape := ⟨4, ![2, 32, 64, 128]⟩
abbrev S2x2048x2x32x64 : Shape := ⟨5, ![2, 2048, 2, 32, 64]⟩
abbrev S2x2048x2x128 : Shape := ⟨4, ![2, 2048, 2, 128]⟩
abbrev S2x2048x2x32 : Shape := ⟨4, ![2, 2048, 2, 32]⟩
abbrev S2x2x32x64x128 : Shape := ⟨5, ![2, 2, 32, 64, 128]⟩
abbrev S2048x2x2x32x64 : Shape := ⟨5, ![2048, 2, 2, 32, 64]⟩
abbrev S2048x2x2x128 : Shape := ⟨4, ![2048, 2, 2, 128]⟩
abbrev S2048x2x2x32 : Shape := ⟨4, ![2048, 2, 2, 32]⟩
abbrev S1x2x2x32x64 : Shape := ⟨5, ![1, 2, 2, 32, 64]⟩
abbrev S2x2x32x64 : Shape := ⟨4, ![2, 2, 32, 64]⟩
abbrev S1x2x2x128 : Shape := ⟨4, ![1, 2, 2, 128]⟩
abbrev S2x2x128 : Shape := ⟨3, ![2, 2, 128]⟩
abbrev S1x2x2x32 : Shape := ⟨4, ![1, 2, 2, 32]⟩
abbrev S2x2x32 : Shape := ⟨3, ![2, 2, 32]⟩
abbrev S2x1x32 : Shape := ⟨3, ![2, 1, 32]⟩
abbrev S2x2x32x1x1 : Shape := ⟨5, ![2, 2, 32, 1, 1]⟩
abbrev S2x2x32x1 : Shape := ⟨4, ![2, 2, 32, 1]⟩
abbrev S2x2x32x64x1 : Shape := ⟨5, ![2, 2, 32, 64, 1]⟩
abbrev S2x2x1x1x128 : Shape := ⟨5, ![2, 2, 1, 1, 128]⟩
abbrev S2x1x1x32x1 : Shape := ⟨5, ![2, 1, 1, 32, 1]⟩
abbrev S2x2x2048 : Shape := ⟨3, ![2, 2, 2048]⟩
abbrev S2x2x2048x1 : Shape := ⟨4, ![2, 2, 2048, 1]⟩
abbrev S2x1x1x2048 : Shape := ⟨4, ![2, 1, 1, 2048]⟩

abbrev nBuf : Space → Nat
  | .hbm => 231
  | .vmem => 0
  | .smem => 0
  | _ => 0

abbrev hbmTy0_0 (i : Nat) : BufTy := match i % 128 with
  | 0 => ⟨S2x2048x1024, .f32⟩
  | 1 => ⟨S4384x1024, .f32⟩
  | 2 => ⟨S2304x1x4, .f32⟩
  | 3 => ⟨S2304, .f32⟩
  | 4 => ⟨S32, .f32⟩
  | 5 => ⟨S32, .f32⟩
  | 6 => ⟨S32, .f32⟩
  | 7 => ⟨S2048, .f32⟩
  | 8 => ⟨S1024x2048, .f32⟩
  | 9 => ⟨S4384x1024, .f32⟩
  | 10 => ⟨S2304x1x4, .f32⟩
  | 11 => ⟨S2304, .f32⟩
  | 12 => ⟨S32, .f32⟩
  | 13 => ⟨S32, .f32⟩
  | 14 => ⟨S32, .f32⟩
  | 15 => ⟨S2048, .f32⟩
  | 16 => ⟨S1024x2048, .f32⟩
  | 17 => ⟨S2x2048x1024, .f32⟩
  | 18 => ⟨S1x2x2048x1024, .f32⟩
  | 19 => ⟨S1x2x2048x1024, .f32⟩
  | 20 => ⟨S2x2x2048x1024, .f32⟩
  | 21 => ⟨S1x4384x1024, .f32⟩
  | 22 => ⟨S1x4384x1024, .f32⟩
  | 23 => ⟨S2x4384x1024, .f32⟩
  | 24 => ⟨S1x2304x1x4, .f32⟩
  | 25 => ⟨S1x2304x1x4, .f32⟩
  | 26 => ⟨S2x2304x1x4, .f32⟩
  | 27 => ⟨S1x2304, .f32⟩
  | 28 => ⟨S1x2304, .f32⟩
  | 29 => ⟨S2x2304, .f32⟩
  | 30 => ⟨S1x32, .f32⟩
  | 31 => ⟨S1x32, .f32⟩
  | 32 => ⟨S2x32, .f32⟩
  | 33 => ⟨S1x32, .f32⟩
  | 34 => ⟨S1x32, .f32⟩
  | 35 => ⟨S2x32, .f32⟩
  | 36 => ⟨S1x32, .f32⟩
  | 37 => ⟨S1x32, .f32⟩
  | 38 => ⟨S2x32, .f32⟩
  | 39 => ⟨S1x2048, .f32⟩
  | 40 => ⟨S1x2048, .f32⟩
  | 41 => ⟨S2x2048, .f32⟩
  | 42 => ⟨S1x1024x2048, .f32⟩
  | 43 => ⟨S1x1024x2048, .f32⟩
  | 44 => ⟨S2x1024x2048, .f32⟩
  | 45 => ⟨S2x1024x4384, .f32⟩
  | 46 => ⟨S2x2x2048x4384, .f32⟩
  | 47 => ⟨S2x2x2048x2048, .f32⟩
  | 48 => ⟨S2x2x2048x2304, .f32⟩
  | 49 => ⟨S2x2x2048x32, .f32⟩
  | 50 => ⟨S_, .i32⟩
  | 51 => ⟨S_, .f32⟩
  | 52 => ⟨S2x2x2051x2304, .f32⟩
  | 53 => ⟨S2x2304x1x1, .f32⟩
  | 54 => ⟨S2x2304, .f32⟩
  | 55 => ⟨S2x2x2048x2304, .f32⟩
  | 56 => ⟨S2x1x1x2304, .f32⟩
  | 57 => ⟨S2x2x2048x2304, .f32⟩
  | 58 => ⟨S2x2x2048x2304, .f32⟩
  | 59 => ⟨S_, .f32⟩
  | 60 => ⟨S2x2x2048x2304, .f32⟩
  | 61 => ⟨S2x2x2048x2304, .f32⟩
  | 62 => ⟨S2x2304x1x1, .f32⟩
  | 63 => ⟨S2x2304, .f32⟩
  | 64 => ⟨S2x2x2048x2304, .f32⟩
  | 65 => ⟨S2x1x1x2304, .f32⟩
  | 66 => ⟨S2x2x2048x2304, .f32⟩
  | 67 => ⟨S2x2x2048x2304, .f32⟩
  | 68 => ⟨S2x2x2048x2304, .f32⟩
  | 69 => ⟨S2x2304x1x1, .f32⟩
  | 70 => ⟨S2x2304, .f32⟩
  | 71 => ⟨S2x2x2048x2304, .f32⟩
  | 72 => ⟨S2x1x1x2304, .f32⟩
  | 73 => ⟨S2x2x2048x2304, .f32⟩
  | 74 => ⟨S2x2x2048x2304, .f32⟩
  | 75 => ⟨S2x2x2048x2304, .f32⟩
  | 76 => ⟨S2x2304x1x1, .f32⟩
  | 77 => ⟨S2x2304, .f32⟩
  | 78 => ⟨S2x2x2048x2304, .f32⟩
  | 79 => ⟨S2x1x1x2304, .f32⟩
  | 80 => ⟨S2x2x2048x2304, .f32⟩
  | 81 => ⟨S2x2x2048x2304, .f32⟩
  | 82 => ⟨S2x2x2048x2304, .f32⟩
  | 83 => ⟨S2x1x1x2304, .f32⟩
  | 84 => ⟨S2x2x2048x2304, .f32⟩
  | 85 => ⟨S2x2x2048x2304, .f32⟩
  | 86 => ⟨S2x2x2048x2304, .f32⟩
  | 87 => ⟨S2x2x2048x2304, .f32⟩
  | 88 => ⟨S_, .f32⟩
  | 89 => ⟨S2x2x2048x2304, .f32⟩
  | 90 => ⟨S2x2x2048x2304, .f32⟩
  | 91 => ⟨S_, .f32⟩
  | 92 => ⟨S2x2x2048x2304, .f32⟩
  | 93 => ⟨S2x2x2048x2304, .f32⟩
  | 94 => ⟨S2x2x2048x2304, .f32⟩
  | 95 => ⟨S2x2x2048x2048, .f32⟩
  | 96 => ⟨S2x2x2048x32x64, .f32⟩
  | 97 => ⟨S2x2x2048x128, .f32⟩
  | 98 => ⟨S2x2x2048x128, .f32⟩
  | 99 => ⟨S2x1x1x32, .f32⟩
  | 100 => ⟨S2x2x2048x32, .f32⟩
  | 101 => ⟨S2x2x2048x32, .f32⟩
  | 102 => ⟨S_, .f32⟩
  | 103 => ⟨S2x2x2048x32, .f32⟩
  | 104 => ⟨S2x2x2048x32, .f32⟩
  | 105 => ⟨S2x2x2048x32, .f32⟩
  | 106 => ⟨S2x2x2048x32, .f32⟩
  | 107 => ⟨S2x2x2048x32, .i1⟩
  | 108 => ⟨S2x2x2048x32, .f32⟩
  | 109 => ⟨S2x2x2048x32, .f32⟩
  | 110 => ⟨S2x2x2048x32, .f32⟩
  | 111 => ⟨S2x2x2048x32, .f32⟩
  | 112 => ⟨S2x2x2048x32, .f32⟩
  | 113 => ⟨S2x2x2048x32, .f32⟩
  | 114 => ⟨S2x2x2048x32, .f32⟩
  | 115 => ⟨S2x2x2048x32, .f32⟩
  | 116 => ⟨S2x32, .f32⟩
  | 117 => ⟨S2x32, .f32⟩
  | 118 => ⟨S_, .f32⟩
  | 119 => ⟨S2x32x64x128, .f32⟩
  | 120 => ⟨S2x2048x2x32x64, .f32⟩
  | 121 => ⟨S2x2048x2x128, .f32⟩
  | 122 => ⟨S2x2048x2x128, .f32⟩
  | 123 => ⟨S2x2048x2x32, .f32⟩
  | 124 => ⟨S2x2x32x64x128, .f32⟩
  | 125 => ⟨S2048x2x2x32x64, .f32⟩
  | 126 => ⟨S2048x2x2x128, .f32⟩
  | 127 => ⟨S2048x2x2x128, .f32⟩
  | _ => ⟨S2x2048x1024, .f32⟩

abbrev hbmTy0_1 (i : Nat) : BufTy := match i % 128 with
  | 0 => ⟨S2048x2x2x32, .f32⟩
  | 1 => ⟨S_, .f32⟩
  | 2 => ⟨S2048x2x2x32x64, .f32⟩
  | 3 => ⟨S_, .i32⟩
  | 4 => ⟨S2048x2x2x32x64, .f32⟩
  | 5 => ⟨S2048x2x2x128, .f32⟩
  | 6 => ⟨S2048x2x2x128, .f32⟩
  | 7 => ⟨S2048x2x2x32, .f32⟩
  | 8 => ⟨S2x32, .f32⟩
  | 9 => ⟨S_, .i32⟩
  | 10 => ⟨S2x2x32x64x128, .f32⟩
  | 11 => ⟨S2048x2x2x32x64, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S1x2x2x32x64, .f32⟩
  | 19 => ⟨S2x2x32x64, .f32⟩
  | 20 => ⟨S_, .i32⟩
  | 21 => ⟨S_, .i32⟩
  | 22 => ⟨S_, .i32⟩
  | 23 => ⟨S1x2x2x128, .f32⟩
  | 24 => ⟨S2x2x128, .f32⟩
  | 25 => ⟨S_, .i32⟩
  | 26 => ⟨S_, .i32⟩
  | 27 => ⟨S_, .i32⟩
  | 28 => ⟨S1x2x2x128, .f32⟩
  | 29 => ⟨S2x2x128, .f32⟩
  | 30 => ⟨S_, .i32⟩
  | 31 => ⟨S_, .i32⟩
  | 32 => ⟨S_, .i32⟩
  | 33 => ⟨S1x2x2x32, .f32⟩
  | 34 => ⟨S2x2x32, .f32⟩
  | 35 => ⟨S2x1x32, .f32⟩
  | 36 => ⟨S2x2x32, .f32⟩
  | 37 => ⟨S2x2x32, .f32⟩
  | 38 => ⟨S2x2x32, .f32⟩
  | 39 => ⟨S2x2x32x1x1, .f32⟩
  | 40 => ⟨S2x2x32x64x128, .f32⟩
  | 41 => ⟨S2x2x32x64x128, .f32⟩
  | 42 => ⟨S2x2x32x1, .f32⟩
  | 43 => ⟨S2x2x32x64, .f32⟩
  | 44 => ⟨S2x2x32x64, .f32⟩
  | 45 => ⟨S2x2x32x64x1, .f32⟩
  | 46 => ⟨S2x2x1x1x128, .f32⟩
  | 47 => ⟨S2x2x32x64x128, .f32⟩
  | 48 => ⟨S2x2x32x64x128, .f32⟩
  | 49 => ⟨S2x2x32x64x128, .f32⟩
  | 50 => ⟨S2x2x32x64x128, .f32⟩
  | 51 => ⟨S2x2x32x64, .f32⟩
  | 52 => ⟨S1x2x2x32x64, .f32⟩
  | 53 => ⟨S_, .i32⟩
  | 54 => ⟨S_, .i32⟩
  | 55 => ⟨S_, .i32⟩
  | 56 => ⟨S_, .i32⟩
  | 57 => ⟨S2048x2x2x32x64, .f32⟩
  | 58 => ⟨S_, .i32⟩
  | 59 => ⟨S_, .i32⟩
  | 60 => ⟨S2x2x2048x32x64, .f32⟩
  | 61 => ⟨S2x1x1x32x1, .f32⟩
  | 62 => ⟨S2x2x2048x32x64, .f32⟩
  | 63 => ⟨S2x2x2048x32x64, .f32⟩
  | 64 => ⟨S2x2x2048x32x64, .f32⟩
  | 65 => ⟨S2x2x2048x2048, .f32⟩
  | 66 => ⟨S2x2x2048x2048, .f32⟩
  | 67 => ⟨S2x2x2048x2048, .f32⟩
  | 68 => ⟨S_, .f32⟩
  | 69 => ⟨S2x2x2048x2048, .f32⟩
  | 70 => ⟨S2x2x2048x2048, .f32⟩
  | 71 => ⟨S_, .f32⟩
  | 72 => ⟨S2x2x2048x2048, .f32⟩
  | 73 => ⟨S2x2x2048x2048, .f32⟩
  | 74 => ⟨S2x2x2048x2048, .f32⟩
  | 75 => ⟨S2x2x2048x2048, .f32⟩
  | 76 => ⟨S2x2x2048x2048, .f32⟩
  | 77 => ⟨S_, .f32⟩
  | 78 => ⟨S2x2x2048, .f32⟩
  | 79 => ⟨S2x2x2048x1, .f32⟩
  | 80 => ⟨S_, .f32⟩
  | 81 => ⟨S2x2x2048x1, .f32⟩
  | 82 => ⟨S2x2x2048x1, .f32⟩
  | 83 => ⟨S_, .f32⟩
  | 84 => ⟨S2x2x2048x1, .f32⟩
  | 85 => ⟨S2x2x2048x1, .f32⟩
  | 86 => ⟨S2x2x2048x1, .f32⟩
  | 87 => ⟨S2x2x2048x2048, .f32⟩
  | 88 => ⟨S2x2x2048x2048, .f32⟩
  | 89 => ⟨S2x1x1x2048, .f32⟩
  | 90 => ⟨S2x2x2048x2048, .f32⟩
  | 91 => ⟨S2x2x2048x2048, .f32⟩
  | 92 => ⟨S2x2048x1024, .f32⟩
  | 93 => ⟨S2x2x2048x1024, .f32⟩
  | 94 => ⟨S1x2x2048x1024, .f32⟩
  | 95 => ⟨S2x2048x1024, .f32⟩
  | 96 => ⟨S1x2x2048x1024, .f32⟩
  | 97 => ⟨S2x2048x1024, .f32⟩
  | 98 => ⟨S2x2048x1024, .f32⟩
  | 99 => ⟨S2x2048x1024, .f32⟩
  | 100 => ⟨S_, .f32⟩
  | 101 => ⟨S2x2048x1024, .f32⟩
  | 102 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_0 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_1 : Ref sig .tc := ⟨.hbm, 129, rfl⟩
abbrev main_v87 : Ref sig .tc := ⟨.hbm, 130, rfl⟩
abbrev main_c_2 : Ref sig .tc := ⟨.hbm, 131, rfl⟩
abbrev main_v88_0 : Ref sig .tc := ⟨.hbm, 132, rfl⟩
abbrev main_v88_1 : Ref sig .tc := ⟨.hbm, 133, rfl⟩
abbrev main_v88_2 : Ref sig .tc := ⟨.hbm, 134, rfl⟩
abbrev main_v88_3 : Ref sig .tc := ⟨.hbm, 135, rfl⟩
abbrev main_v88_4 : Ref sig .tc := ⟨.hbm, 136, rfl⟩
abbrev main_v88_5 : Ref sig .tc := ⟨.hbm, 137, rfl⟩
abbrev main_v88_6 : Ref sig .tc := ⟨.hbm, 138, rfl⟩
abbrev main_v88_7 : Ref sig .tc := ⟨.hbm, 139, rfl⟩
abbrev main_while0c_c_14 : Ref sig .tc := ⟨.hbm, 140, rfl⟩
abbrev main_while0c_v120 : Ref sig .tc := ⟨.hbm, 141, rfl⟩
abbrev main_while0b_call3_c : Ref sig .tc := ⟨.hbm, 142, rfl⟩
abbrev main_while0b_call3_c_0 : Ref sig .tc := ⟨.hbm, 143, rfl⟩
abbrev main_while0b_call3_c_1 : Ref sig .tc := ⟨.hbm, 144, rfl⟩
abbrev main_while0b_call3_c_2 : Ref sig .tc := ⟨.hbm, 145, rfl⟩
abbrev main_while0b_call3_v0 : Ref sig .tc := ⟨.hbm, 146, rfl⟩
abbrev main_while0b_v120 : Ref sig .tc := ⟨.hbm, 147, rfl⟩
abbrev main_while0b_call4_c : Ref sig .tc := ⟨.hbm, 148, rfl⟩
abbrev main_while0b_call4_c_0 : Ref sig .tc := ⟨.hbm, 149, rfl⟩
abbrev main_while0b_call4_c_1 : Ref sig .tc := ⟨.hbm, 150, rfl⟩
abbrev main_while0b_call4_v0 : Ref sig .tc := ⟨.hbm, 151, rfl⟩
abbrev main_while0b_v121 : Ref sig .tc := ⟨.hbm, 152, rfl⟩
abbrev main_while0b_call5_c : Ref sig .tc := ⟨.hbm, 153, rfl⟩
abbrev main_while0b_call5_c_0 : Ref sig .tc := ⟨.hbm, 154, rfl⟩
abbrev main_while0b_call5_c_1 : Ref sig .tc := ⟨.hbm, 155, rfl⟩
abbrev main_while0b_call5_v0 : Ref sig .tc := ⟨.hbm, 156, rfl⟩
abbrev main_while0b_v122 : Ref sig .tc := ⟨.hbm, 157, rfl⟩
abbrev main_while0b_call6_c : Ref sig .tc := ⟨.hbm, 158, rfl⟩
abbrev main_while0b_call6_c_0 : Ref sig .tc := ⟨.hbm, 159, rfl⟩
abbrev main_while0b_call6_c_1 : Ref sig .tc := ⟨.hbm, 160, rfl⟩
abbrev main_while0b_call6_v0 : Ref sig .tc := ⟨.hbm, 161, rfl⟩
abbrev main_while0b_v123 : Ref sig .tc := ⟨.hbm, 162, rfl⟩
abbrev main_while0b_v124 : Ref sig .tc := ⟨.hbm, 163, rfl⟩
abbrev main_while0b_v125 : Ref sig .tc := ⟨.hbm, 164, rfl⟩
abbrev main_while0b_v126 : Ref sig .tc := ⟨.hbm, 165, rfl⟩
abbrev main_while0b_v127 : Ref sig .tc := ⟨.hbm, 166, rfl⟩
abbrev main_while0b_v128 : Ref sig .tc := ⟨.hbm, 167, rfl⟩
abbrev main_while0b_v129 : Ref sig .tc := ⟨.hbm, 168, rfl⟩
abbrev main_while0b_v130 : Ref sig .tc := ⟨.hbm, 169, rfl⟩
abbrev main_while0b_v131 : Ref sig .tc := ⟨.hbm, 170, rfl⟩
abbrev main_while0b_v132 : Ref sig .tc := ⟨.hbm, 171, rfl⟩
abbrev main_while0b_v133 : Ref sig .tc := ⟨.hbm, 172, rfl⟩
abbrev main_while0b_v134 : Ref sig .tc := ⟨.hbm, 173, rfl⟩
abbrev main_while0b_v135 : Ref sig .tc := ⟨.hbm, 174, rfl⟩
abbrev main_while0b_v136 : Ref sig .tc := ⟨.hbm, 175, rfl⟩
abbrev main_while0b_v137 : Ref sig .tc := ⟨.hbm, 176, rfl⟩
abbrev main_while0b_v138 : Ref sig .tc := ⟨.hbm, 177, rfl⟩
abbrev main_while0b_v139 : Ref sig .tc := ⟨.hbm, 178, rfl⟩
abbrev main_while0b_v140 : Ref sig .tc := ⟨.hbm, 179, rfl⟩
abbrev main_while0b_call7_v0 : Ref sig .tc := ⟨.hbm, 180, rfl⟩
abbrev main_while0b_call7_c : Ref sig .tc := ⟨.hbm, 181, rfl⟩
abbrev main_while0b_call7_c_0 : Ref sig .tc := ⟨.hbm, 182, rfl⟩
abbrev main_while0b_call7_c_1 : Ref sig .tc := ⟨.hbm, 183, rfl⟩
abbrev main_while0b_call7_c_2 : Ref sig .tc := ⟨.hbm, 184, rfl⟩
abbrev main_while0b_v141 : Ref sig .tc := ⟨.hbm, 185, rfl⟩
abbrev main_while0b_c_14 : Ref sig .tc := ⟨.hbm, 186, rfl⟩
abbrev main_while0b_v142 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_call8_v0 : Ref sig .tc := ⟨.hbm, 194, rfl⟩
abbrev main_call8_v1 : Ref sig .tc := ⟨.hbm, 195, rfl⟩
abbrev main_call8_cst : Ref sig .tc := ⟨.hbm, 196, rfl⟩
abbrev main_call8_v2 : Ref sig .tc := ⟨.hbm, 197, rfl⟩
abbrev main_call8_v3 : Ref sig .tc := ⟨.hbm, 198, rfl⟩
abbrev main_call8_cst_0 : Ref sig .tc := ⟨.hbm, 199, rfl⟩
abbrev main_call8_v4 : Ref sig .tc := ⟨.hbm, 200, rfl⟩
abbrev main_call8_v5 : Ref sig .tc := ⟨.hbm, 201, rfl⟩
abbrev main_v95 : Ref sig .tc := ⟨.hbm, 202, rfl⟩
abbrev main_v96 : Ref sig .tc := ⟨.hbm, 203, rfl⟩
abbrev main_v97 : Ref sig .tc := ⟨.hbm, 204, rfl⟩
abbrev main_cst_3 : Ref sig .tc := ⟨.hbm, 205, rfl⟩
abbrev main_v98 : Ref sig .tc := ⟨.hbm, 206, rfl⟩
abbrev main_v99 : Ref sig .tc := ⟨.hbm, 207, rfl⟩
abbrev main_cst_4 : Ref sig .tc := ⟨.hbm, 208, rfl⟩
abbrev main_v100 : Ref sig .tc := ⟨.hbm, 209, rfl⟩
abbrev main_v101 : Ref sig .tc := ⟨.hbm, 210, rfl⟩
abbrev main_cst_5 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_cst_6 : Ref sig .tc := ⟨.hbm, 228, rfl⟩
abbrev main_v118 : Ref sig .tc := ⟨.hbm, 229, rfl⟩
abbrev main_v119 : Ref sig .tc := ⟨.hbm, 230, rfl⟩

abbrev nD : Nat := 1
abbrev τ : Topo := Topo.v7x

variable {F : FTy → Type} [FloatOps F]

abbrev main_while0_count : Scf.Loop 32 := ⟨0#32, 2048#32, 1#32⟩
-- ==== Proof.KernelIdealStep.lean ====
/- What one grid point of each of the two launches computes, written with the printed payloads. -/
module

public import proofs.«01_k».proof.Proof.Gen.KernelIdeal.Points
public import proofs.«01_k».proof.Proof.Gen.KernelIdeal.Skeleton
public import Idealize.ShloMosaic.Lib.Pipeline.ValueKit
public import Idealize.ShloMosaic.Lib.VecWindow

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (F) in
/-- The ten input blocks the body reads at a grid point. -/
structure Ins where
  u : Vec F S1x256x1024 .bf16
  wi : Vec F S1x4384x1024 .bf16
  cw : Vec F S1x4x2304 .f32
  cb : Vec F S1x1x2304 .f32
  dtb : Vec F S1x1x32 .f32
  alog : Vec F S1x1x32 .f32
  dd : Vec F S1x1x32 .f32
  nw : Vec F S1x1x2048 .f32
  wo : Vec F S1x1024x2048 .bf16
  e : Vec F S32x2048 .bf16

/-- A value of launch 0. -/
def w0_v9 (x : Ins F) (s : Vec F S128x2048 .f32) (t3 : Vec F S3x2304 .f32) (wiT : Vec F S1024x4384 .bf16) (woT : Vec F S2048x1024 .bf16) :=
  k0_pay7 x.u wiT
/-- A value of launch 0. -/
def w0_v11 (x : Ins F) (s : Vec F S128x2048 .f32) (t3 : Vec F S3x2304 .f32) (wiT : Vec F S1024x4384 .bf16) (woT : Vec F S2048x1024 .bf16) :=
  k0_pay9 x.u wiT
/-- A value of launch 0. -/
def w0_v38 (x : Ins F) (s : Vec F S128x2048 .f32) (t3 : Vec F S3x2304 .f32) (wiT : Vec F S1024x4384 .bf16) (woT : Vec F S2048x1024 .bf16) :=
  k0_pay10 x.u wiT t3 x.cw x.cb
/-- A value of launch 0. -/
def w0_v39 (x : Ins F) (s : Vec F S128x2048 .f32) (t3 : Vec F S3x2304 .f32) (wiT : Vec F S1024x4384 .bf16) (woT : Vec F S2048x1024 .bf16) :=
  k0_pay11 x.u wiT
/-- A value of launch 0. -/
def w0_v45 (x : Ins F) (s : Vec F S128x2048 .f32) (t3 : Vec F S3x2304 .f32) (wiT : Vec F S1024x4384 .bf16) (woT : Vec F S2048x1024 .bf16) :=
  k0_pay14 (w0_v38 x s t3 wiT woT)
/-- A value of launch 0. -/
def w0_v46 (x : Ins F) (s : Vec F S128x2048 .f32) (t3 : Vec F S3x2304 .f32) (wiT : Vec F S1024x4384 .bf16) (woT : Vec F S2048x1024 .bf16) :=
  k0_pay15 (w0_v38 x s t3 wiT woT)
/-- A value of launch 0. -/
def w0_v47 (x : Ins F) (s : Vec F S128x2048 .f32) (t3 : Vec F S3x2304 .f32) (wiT : Vec F S1024x4384 .bf16) (woT : Vec F S2048x1024 .bf16) :=
  k0_pay16 (w0_v38 x s t3 wiT woT)
/-- A value of launch 0. -/
def w0_v62 (x : Ins F) (s : Vec F S128x2048 .f32) (t3 : Vec F S3x2304 .f32) (wiT : Vec F S1024x4384 .bf16) (woT : Vec F S2048x1024 .bf16) :=
  k0_pay17 (w0_v11 x s t3 wiT woT) x.dtb
/-- A value of launch 0. -/
def w0_v70 (x : Ins F) (s : Vec F S128x2048 .f32) (t3 : Vec F S3x2304 .f32) (wiT : Vec F S1024x4384 .bf16) (woT : Vec F S2048x1024 .bf16) :=
  k0_pay18 (iota .tc S256x256 32 [0] iota_S256x256_d0_w32 : IVec S256x256 32) (iota .tc S256x256 32 [1] iota_S256x256_d1_w32 : IVec S256x256 32)
/-- A value of launch 0. -/
def w0_v80 (x : Ins F) (s : Vec F S128x2048 .f32) (t3 : Vec F S3x2304 .f32) (wiT : Vec F S1024x4384 .bf16) (woT : Vec F S2048x1024 .bf16) :=
  k0_pay19 (iota .tc S256x256 32 [0] iota_S256x256_d0_w32 : IVec S256x256 32) (iota .tc S256x256 32 [1] iota_S256x256_d1_w32 : IVec S256x256 32) (w0_v11 x s t3 wiT woT) x.dtb x.alog
/-- A value of launch 0. -/
def w0_v81 (x : Ins F) (s : Vec F S128x2048 .f32) (t3 : Vec F S3x2304 .f32) (wiT : Vec F S1024x4384 .bf16) (woT : Vec F S2048x1024 .bf16) :=
  k0_pay20 (iota .tc S256x256 32 [0] iota_S256x256_d0_w32 : IVec S256x256 32) (iota .tc S256x256 32 [1] iota_S256x256_d1_w32 : IVec S256x256 32) (w0_v11 x s t3 wiT woT) x.dtb x.alog
/-- A value of launch 0. -/
def w0_v99 (x : Ins F) (s : Vec F S128x2048 .f32) (t3 : Vec F S3x2304 .f32) (wiT : Vec F S1024x4384 .bf16) (woT : Vec F S2048x1024 .bf16) :=
  k0_pay21 (w0_v62 x s t3 wiT woT) (w0_v80 x s t3 wiT woT) (w0_v81 x s t3 wiT woT) x.e x.dd
/-- A value of launch 0. -/
def w0_v101 (x : Ins F) (s : Vec F S128x2048 .f32) (t3 : Vec F S3x2304 .f32) (wiT : Vec F S1024x4384 .bf16) (woT : Vec F S2048x1024 .bf16) :=
  k0_pay22 (w0_v45 x s t3 wiT woT) (w0_v62 x s t3 wiT woT) (w0_v80 x s t3 wiT woT) (w0_v81 x s t3 wiT woT) x.e x.dd
/-- A value of launch 0. -/
def w0_v107 (x : Ins F) (s : Vec F S128x2048 .f32) (t3 : Vec F S3x2304 .f32) (wiT : Vec F S1024x4384 .bf16) (woT : Vec F S2048x1024 .bf16) :=
  k0_pay23 (w0_v47 x s t3 wiT woT) (w0_v62 x s t3 wiT woT) (w0_v80 x s t3 wiT woT) (w0_v81 x s t3 wiT woT) x.e x.dd s
/-- A value of launch 0. -/
def w0_v116 (x : Ins F) (s : Vec F S128x2048 .f32) (t3 : Vec F S3x2304 .f32) (wiT : Vec F S1024x4384 .bf16) (woT : Vec F S2048x1024 .bf16) :=
  k0_pay25 (w0_v46 x s t3 wiT woT) (w0_v47 x s t3 wiT woT)
/-- A value of launch 0. -/
def w0_v117 (x : Ins F) (s : Vec F S128x2048 .f32) (t3 : Vec F S3x2304 .f32) (wiT : Vec F S1024x4384 .bf16) (woT : Vec F S2048x1024 .bf16) :=
  k0_pay26 (w0_v80 x s t3 wiT woT)
/-- A value of launch 0. -/
def w0_v126 (x : Ins F) (s : Vec F S128x2048 .f32) (t3 : Vec F S3x2304 .f32) (wiT : Vec F S1024x4384 .bf16) (woT : Vec F S2048x1024 .bf16) :=
  k0_pay27 (w0_v46 x s t3 wiT woT) (w0_v47 x s t3 wiT woT) (w0_v70 x s t3 wiT woT) (w0_v80 x s t3 wiT woT)
/-- A value of launch 0. -/
def w0_v127 (x : Ins F) (s : Vec F S128x2048 .f32) (t3 : Vec F S3x2304 .f32) (wiT : Vec F S1024x4384 .bf16) (woT : Vec F S2048x1024 .bf16) :=
  k0_pay28 (w0_v45 x s t3 wiT woT) (w0_v62 x s t3 wiT woT) (w0_v80 x s t3 wiT woT) (w0_v81 x s t3 wiT woT) x.e x.dd
/-- A value of launch 0. -/
def w0_v128 (x : Ins F) (s : Vec F S128x2048 .f32) (t3 : Vec F S3x2304 .f32) (wiT : Vec F S1024x4384 .bf16) (woT : Vec F S2048x1024 .bf16) :=
  k0_pay29 (w0_v126 x s t3 wiT woT) (w0_v127 x s t3 wiT woT) (constant S256x64 .f32 0x00000000#32 : FVec F S256x64 .f32)
/-- A value of launch 0. -/
def w0_v139 (x : Ins F) (s : Vec F S128x2048 .f32) (t3 : Vec F S3x2304 .f32) (wiT : Vec F S1024x4384 .bf16) (woT : Vec F S2048x1024 .bf16) :=
  k0_pay30 (w0_v70 x s t3 wiT woT) (w0_v80 x s t3 wiT woT) (w0_v101 x s t3 wiT woT) (w0_v116 x s t3 wiT woT) (w0_v117 x s t3 wiT woT)
/-- A value of launch 0. -/
def w0_v150 (x : Ins F) (s : Vec F S128x2048 .f32) (t3 : Vec F S3x2304 .f32) (wiT : Vec F S1024x4384 .bf16) (woT : Vec F S2048x1024 .bf16) :=
  k0_pay31 (w0_v70 x s t3 wiT woT) (w0_v80 x s t3 wiT woT) (w0_v101 x s t3 wiT woT) (w0_v116 x s t3 wiT woT) (w0_v117 x s t3 wiT woT)
/-- A value of launch 0. -/
def w0_v161 (x : Ins F) (s : Vec F S128x2048 .f32) (t3 : Vec F S3x2304 .f32) (wiT : Vec F S1024x4384 .bf16) (woT : Vec F S2048x1024 .bf16) :=
  k0_pay32 (w0_v70 x s t3 wiT woT) (w0_v80 x s t3 wiT woT) (w0_v101 x s t3 wiT woT) (w0_v116 x s t3 wiT woT) (w0_v117 x s t3 wiT woT)
/-- A value of launch 0. -/
def w0_v172 (x : Ins F) (s : Vec F S128x2048 .f32) (t3 : Vec F S3x2304 .f32) (wiT : Vec F S1024x4384 .bf16) (woT : Vec F S2048x1024 .bf16) :=
  k0_pay33 (w0_v70 x s t3 wiT woT) (w0_v80 x s t3 wiT woT) (w0_v101 x s t3 wiT woT) (w0_v116 x s t3 wiT woT) (w0_v117 x s t3 wiT woT)
/-- A value of launch 0. -/
def w0_v177 (x : Ins F) (s : Vec F S128x2048 .f32) (t3 : Vec F S3x2304 .f32) (wiT : Vec F S1024x4384 .bf16) (woT : Vec F S2048x1024 .bf16) :=
  k0_pay34 (w0_v80 x s t3 wiT woT) (w0_v117 x s t3 wiT woT)
/-- A value of launch 0. -/
def w0_v178 (x : Ins F) (s : Vec F S128x2048 .f32) (t3 : Vec F S3x2304 .f32) (wiT : Vec F S1024x4384 .bf16) (woT : Vec F S2048x1024 .bf16) :=
  k0_pay35 (F := F)
/-- A value of launch 0. -/
def w0_v183 (x : Ins F) (s : Vec F S128x2048 .f32) (t3 : Vec F S3x2304 .f32) (wiT : Vec F S1024x4384 .bf16) (woT : Vec F S2048x1024 .bf16) :=
  k0_pay36 (w0_v70 x s t3 wiT woT) (w0_v101 x s t3 wiT woT) (w0_v116 x s t3 wiT woT) (w0_v177 x s t3 wiT woT) (w0_v178 x s t3 wiT woT)
/-- A value of launch 0. -/
def w0_v194 (x : Ins F) (s : Vec F S128x2048 .f32) (t3 : Vec F S3x2304 .f32) (wiT : Vec F S1024x4384 .bf16) (woT : Vec F S2048x1024 .bf16) :=
  k0_pay37 (w0_v70 x s t3 wiT woT) (w0_v80 x s t3 wiT woT) (w0_v101 x s t3 wiT woT) (w0_v116 x s t3 wiT woT) (w0_v117 x s t3 wiT woT)
/-- A value of launch 0. -/
def w0_v205 (x : Ins F) (s : Vec F S128x2048 .f32) (t3 : Vec F S3x2304 .f32) (wiT : Vec F S1024x4384 .bf16) (woT : Vec F S2048x1024 .bf16) :=
  k0_pay38 (w0_v70 x s t3 wiT woT) (w0_v80 x s t3 wiT woT) (w0_v101 x s t3 wiT woT) (w0_v116 x s t3 wiT woT) (w0_v117 x s t3 wiT woT)
/-- A value of launch 0. -/
def w0_v216 (x : Ins F) (s : Vec F S128x2048 .f32) (t3 : Vec F S3x2304 .f32) (wiT : Vec F S1024x4384 .bf16) (woT : Vec F S2048x1024 .bf16) :=
  k0_pay39 (w0_v70 x s t3 wiT woT) (w0_v80 x s t3 wiT woT) (w0_v101 x s t3 wiT woT) (w0_v116 x s t3 wiT woT) (w0_v117 x s t3 wiT woT)
/-- A value of launch 0. -/
def w0_v227 (x : Ins F) (s : Vec F S128x2048 .f32) (t3 : Vec F S3x2304 .f32) (wiT : Vec F S1024x4384 .bf16) (woT : Vec F S2048x1024 .bf16) :=
  k0_pay40 (w0_v70 x s t3 wiT woT) (w0_v80 x s t3 wiT woT) (w0_v101 x s t3 wiT woT) (w0_v116 x s t3 wiT woT) (w0_v117 x s t3 wiT woT)
/-- A value of launch 0. -/
def w0_v228 (x : Ins F) (s : Vec F S128x2048 .f32) (t3 : Vec F S3x2304 .f32) (wiT : Vec F S1024x4384 .bf16) (woT : Vec F S2048x1024 .bf16) :=
  k0_pay41 (w0_v80 x s t3 wiT woT)
/-- A value of launch 0. -/
def w0_v229 (x : Ins F) (s : Vec F S128x2048 .f32) (t3 : Vec F S3x2304 .f32) (wiT : Vec F S1024x4384 .bf16) (woT : Vec F S2048x1024 .bf16) :=
  k0_pay42 (w0_v117 x s t3 wiT woT)
/-- A value of launch 0. -/
def w0_v238 (x : Ins F) (s : Vec F S128x2048 .f32) (t3 : Vec F S3x2304 .f32) (wiT : Vec F S1024x4384 .bf16) (woT : Vec F S2048x1024 .bf16) :=
  k0_pay43 (w0_v70 x s t3 wiT woT) (w0_v101 x s t3 wiT woT) (w0_v116 x s t3 wiT woT) (w0_v228 x s t3 wiT woT) (w0_v229 x s t3 wiT woT)
/-- A value of launch 0. -/
def w0_v249 (x : Ins F) (s : Vec F S128x2048 .f32) (t3 : Vec F S3x2304 .f32) (wiT : Vec F S1024x4384 .bf16) (woT : Vec F S2048x1024 .bf16) :=
  k0_pay44 (w0_v70 x s t3 wiT woT) (w0_v80 x s t3 wiT woT) (w0_v101 x s t3 wiT woT) (w0_v116 x s t3 wiT woT) (w0_v117 x s t3 wiT woT)
/-- A value of launch 0. -/
def w0_v260 (x : Ins F) (s : Vec F S128x2048 .f32) (t3 : Vec F S3x2304 .f32) (wiT : Vec F S1024x4384 .bf16) (woT : Vec F S2048x1024 .bf16) :=
  k0_pay45 (w0_v70 x s t3 wiT woT) (w0_v80 x s t3 wiT woT) (w0_v101 x s t3 wiT woT) (w0_v116 x s t3 wiT woT) (w0_v117 x s t3 wiT woT)
/-- A value of launch 0. -/
def w0_v271 (x : Ins F) (s : Vec F S128x2048 .f32) (t3 : Vec F S3x2304 .f32) (wiT : Vec F S1024x4384 .bf16) (woT : Vec F S2048x1024 .bf16) :=
  k0_pay46 (w0_v70 x s t3 wiT woT) (w0_v80 x s t3 wiT woT) (w0_v101 x s t3 wiT woT) (w0_v116 x s t3 wiT woT) (w0_v117 x s t3 wiT woT)
/-- A value of launch 0. -/
def w0_v280 (x : Ins F) (s : Vec F S128x2048 .f32) (t3 : Vec F S3x2304 .f32) (wiT : Vec F S1024x4384 .bf16) (woT : Vec F S2048x1024 .bf16) :=
  k0_pay47 (w0_v70 x s t3 wiT woT) (w0_v80 x s t3 wiT woT) (w0_v116 x s t3 wiT woT) (w0_v117 x s t3 wiT woT)
/-- A value of launch 0. -/
def w0_v282 (x : Ins F) (s : Vec F S128x2048 .f32) (t3 : Vec F S3x2304 .f32) (wiT : Vec F S1024x4384 .bf16) (woT : Vec F S2048x1024 .bf16) :=
  k0_pay48 (w0_v101 x s t3 wiT woT) (w0_v280 x s t3 wiT woT)
/-- A value of launch 0. -/
def w0_v293 (x : Ins F) (s : Vec F S128x2048 .f32) (t3 : Vec F S3x2304 .f32) (wiT : Vec F S1024x4384 .bf16) (woT : Vec F S2048x1024 .bf16) :=
  k0_pay49 (w0_v70 x s t3 wiT woT) (w0_v80 x s t3 wiT woT) (w0_v101 x s t3 wiT woT) (w0_v116 x s t3 wiT woT) (w0_v117 x s t3 wiT woT)
/-- A value of launch 0. -/
def w0_v304 (x : Ins F) (s : Vec F S128x2048 .f32) (t3 : Vec F S3x2304 .f32) (wiT : Vec F S1024x4384 .bf16) (woT : Vec F S2048x1024 .bf16) :=
  k0_pay50 (w0_v70 x s t3 wiT woT) (w0_v80 x s t3 wiT woT) (w0_v101 x s t3 wiT woT) (w0_v116 x s t3 wiT woT) (w0_v117 x s t3 wiT woT)
/-- A value of launch 0. -/
def w0_v315 (x : Ins F) (s : Vec F S128x2048 .f32) (t3 : Vec F S3x2304 .f32) (wiT : Vec F S1024x4384 .bf16) (woT : Vec F S2048x1024 .bf16) :=
  k0_pay51 (w0_v70 x s t3 wiT woT) (w0_v80 x s t3 wiT woT) (w0_v101 x s t3 wiT woT) (w0_v116 x s t3 wiT woT) (w0_v117 x s t3 wiT woT)
/-- A value of launch 0. -/
def w0_v326 (x : Ins F) (s : Vec F S128x2048 .f32) (t3 : Vec F S3x2304 .f32) (wiT : Vec F S1024x4384 .bf16) (woT : Vec F S2048x1024 .bf16) :=
  k0_pay52 (w0_v70 x s t3 wiT woT) (w0_v80 x s t3 wiT woT) (w0_v101 x s t3 wiT woT) (w0_v116 x s t3 wiT woT) (w0_v117 x s t3 wiT woT)
/-- A value of launch 0. -/
def w0_v331 (x : Ins F) (s : Vec F S128x2048 .f32) (t3 : Vec F S3x2304 .f32) (wiT : Vec F S1024x4384 .bf16) (woT : Vec F S2048x1024 .bf16) :=
  k0_pay53 (w0_v80 x s t3 wiT woT) (w0_v117 x s t3 wiT woT)
/-- A value of launch 0. -/
def w0_v337 (x : Ins F) (s : Vec F S128x2048 .f32) (t3 : Vec F S3x2304 .f32) (wiT : Vec F S1024x4384 .bf16) (woT : Vec F S2048x1024 .bf16) :=
  k0_pay54 (w0_v70 x s t3 wiT woT) (w0_v101 x s t3 wiT woT) (w0_v116 x s t3 wiT woT) (w0_v331 x s t3 wiT woT)
/-- A value of launch 0. -/
def w0_v348 (x : Ins F) (s : Vec F S128x2048 .f32) (t3 : Vec F S3x2304 .f32) (wiT : Vec F S1024x4384 .bf16) (woT : Vec F S2048x1024 .bf16) :=
  k0_pay55 (w0_v70 x s t3 wiT woT) (w0_v80 x s t3 wiT woT) (w0_v101 x s t3 wiT woT) (w0_v116 x s t3 wiT woT) (w0_v117 x s t3 wiT woT)
/-- A value of launch 0. -/
def w0_v359 (x : Ins F) (s : Vec F S128x2048 .f32) (t3 : Vec F S3x2304 .f32) (wiT : Vec F S1024x4384 .bf16) (woT : Vec F S2048x1024 .bf16) :=
  k0_pay56 (w0_v70 x s t3 wiT woT) (w0_v80 x s t3 wiT woT) (w0_v101 x s t3 wiT woT) (w0_v116 x s t3 wiT woT) (w0_v117 x s t3 wiT woT)
/-- A value of launch 0. -/
def w0_v370 (x : Ins F) (s : Vec F S128x2048 .f32) (t3 : Vec F S3x2304 .f32) (wiT : Vec F S1024x4384 .bf16) (woT : Vec F S2048x1024 .bf16) :=
  k0_pay57 (w0_v70 x s t3 wiT woT) (w0_v80 x s t3 wiT woT) (w0_v101 x s t3 wiT woT) (w0_v116 x s t3 wiT woT) (w0_v117 x s t3 wiT woT)
/-- A value of launch 0. -/
def w0_v381 (x : Ins F) (s : Vec F S128x2048 .f32) (t3 : Vec F S3x2304 .f32) (wiT : Vec F S1024x4384 .bf16) (woT : Vec F S2048x1024 .bf16) :=
  k0_pay58 (w0_v70 x s t3 wiT woT) (w0_v80 x s t3 wiT woT) (w0_v101 x s t3 wiT woT) (w0_v116 x s t3 wiT woT) (w0_v117 x s t3 wiT woT)
/-- A value of launch 0. -/
def w0_v392 (x : Ins F) (s : Vec F S128x2048 .f32) (t3 : Vec F S3x2304 .f32) (wiT : Vec F S1024x4384 .bf16) (woT : Vec F S2048x1024 .bf16) :=
  k0_pay59 (w0_v70 x s t3 wiT woT) (w0_v80 x s t3 wiT woT) (w0_v101 x s t3 wiT woT) (w0_v116 x s t3 wiT woT) (w0_v117 x s t3 wiT woT)
/-- A value of launch 0. -/
def w0_v403 (x : Ins F) (s : Vec F S128x2048 .f32) (t3 : Vec F S3x2304 .f32) (wiT : Vec F S1024x4384 .bf16) (woT : Vec F S2048x1024 .bf16) :=
  k0_pay60 (w0_v70 x s t3 wiT woT) (w0_v80 x s t3 wiT woT) (w0_v101 x s t3 wiT woT) (w0_v116 x s t3 wiT woT) (w0_v117 x s t3 wiT woT)
/-- A value of launch 0. -/
def w0_v414 (x : Ins F) (s : Vec F S128x2048 .f32) (t3 : Vec F S3x2304 .f32) (wiT : Vec F S1024x4384 .bf16) (woT : Vec F S2048x1024 .bf16) :=
  k0_pay61 (w0_v70 x s t3 wiT woT) (w0_v80 x s t3 wiT woT) (w0_v101 x s t3 wiT woT) (w0_v116 x s t3 wiT woT) (w0_v117 x s t3 wiT woT)
/-- A value of launch 0. -/
def w0_v425 (x : Ins F) (s : Vec F S128x2048 .f32) (t3 : Vec F S3x2304 .f32) (wiT : Vec F S1024x4384 .bf16) (woT : Vec F S2048x1024 .bf16) :=
  k0_pay62 (w0_v70 x s t3 wiT woT) (w0_v80 x s t3 wiT woT) (w0_v101 x s t3 wiT woT) (w0_v116 x s t3 wiT woT) (w0_v117 x s t3 wiT woT)
/-- A value of launch 0. -/
def w0_v432 (x : Ins F) (s : Vec F S128x2048 .f32) (t3 : Vec F S3x2304 .f32) (wiT : Vec F S1024x4384 .bf16) (woT : Vec F S2048x1024 .bf16) :=
  k0_pay63 (w0_v70 x s t3 wiT woT) (w0_v80 x s t3 wiT woT) (w0_v117 x s t3 wiT woT)
/-- A value of launch 0. -/
def w0_v478 (x : Ins F) (s : Vec F S128x2048 .f32) (t3 : Vec F S3x2304 .f32) (wiT : Vec F S1024x4384 .bf16) (woT : Vec F S2048x1024 .bf16) :=
  k0_pay64 (w0_v9 x s t3 wiT woT) (w0_v45 x s t3 wiT woT) (w0_v70 x s t3 wiT woT) (w0_v80 x s t3 wiT woT) (w0_v99 x s t3 wiT woT) (w0_v101 x s t3 wiT woT) (w0_v107 x s t3 wiT woT) (w0_v116 x s t3 wiT woT) (w0_v117 x s t3 wiT woT) (w0_v128 x s t3 wiT woT) (w0_v139 x s t3 wiT woT) (w0_v150 x s t3 wiT woT) (w0_v161 x s t3 wiT woT) (w0_v172 x s t3 wiT woT) (w0_v183 x s t3 wiT woT) (w0_v194 x s t3 wiT woT) (w0_v205 x s t3 wiT woT) (w0_v216 x s t3 wiT woT) (w0_v227 x s t3 wiT woT) (w0_v238 x s t3 wiT woT) (w0_v249 x s t3 wiT woT) (w0_v260 x s t3 wiT woT) (w0_v271 x s t3 wiT woT) (w0_v282 x s t3 wiT woT) (w0_v293 x s t3 wiT woT) (w0_v304 x s t3 wiT woT) (w0_v315 x s t3 wiT woT) (w0_v326 x s t3 wiT woT) (w0_v337 x s t3 wiT woT) (w0_v348 x s t3 wiT woT) (w0_v359 x s t3 wiT woT) (w0_v370 x s t3 wiT woT) (w0_v381 x s t3 wiT woT) (w0_v392 x s t3 wiT woT) (w0_v403 x s t3 wiT woT) (w0_v414 x s t3 wiT woT) (w0_v425 x s t3 wiT woT) (w0_v432 x s t3 wiT woT)
/-- A value of launch 0. -/
def w0_v483 (x : Ins F) (s : Vec F S128x2048 .f32) (t3 : Vec F S3x2304 .f32) (wiT : Vec F S1024x4384 .bf16) (woT : Vec F S2048x1024 .bf16) :=
  k0_pay65 (w0_v9 x s t3 wiT woT) (w0_v45 x s t3 wiT woT) (w0_v70 x s t3 wiT woT) (w0_v80 x s t3 wiT woT) (w0_v99 x s t3 wiT woT) (w0_v101 x s t3 wiT woT) (w0_v107 x s t3 wiT woT) (w0_v116 x s t3 wiT woT) (w0_v117 x s t3 wiT woT) (w0_v128 x s t3 wiT woT) (w0_v139 x s t3 wiT woT) (w0_v150 x s t3 wiT woT) (w0_v161 x s t3 wiT woT) (w0_v172 x s t3 wiT woT) (w0_v183 x s t3 wiT woT) (w0_v194 x s t3 wiT woT) (w0_v205 x s t3 wiT woT) (w0_v216 x s t3 wiT woT) (w0_v227 x s t3 wiT woT) (w0_v238 x s t3 wiT woT) (w0_v249 x s t3 wiT woT) (w0_v260 x s t3 wiT woT) (w0_v271 x s t3 wiT woT) (w0_v282 x s t3 wiT woT) (w0_v293 x s t3 wiT woT) (w0_v304 x s t3 wiT woT) (w0_v315 x s t3 wiT woT) (w0_v326 x s t3 wiT woT) (w0_v337 x s t3 wiT woT) (w0_v348 x s t3 wiT woT) (w0_v359 x s t3 wiT woT) (w0_v370 x s t3 wiT woT) (w0_v381 x s t3 wiT woT) (w0_v392 x s t3 wiT woT) (w0_v403 x s t3 wiT woT) (w0_v414 x s t3 wiT woT) (w0_v425 x s t3 wiT woT) (w0_v432 x s t3 wiT woT)

/-- One grid point of launch 0: from the input blocks, the carried state `s`, the carried three rows `t3` and the two
    transposed weights, the output block, the next state and the next three rows. -/
def step0 (x : Ins F) (s : Vec F S128x2048 .f32) (t3 : Vec F S3x2304 .f32) (wiT : Vec F S1024x4384 .bf16) (woT : Vec F S2048x1024 .bf16) :
    Vec F S1x256x1024 .f32 × Vec F S128x2048 .f32 × Vec F S3x2304 .f32 :=
  ((k0_pay1 (w0_v478 x s t3 wiT woT) (w0_v483 x s t3 wiT woT) x.nw woT), (k0_pay24 (w0_v45 x s t3 wiT woT) (w0_v46 x s t3 wiT woT) (w0_v62 x s t3 wiT woT) (w0_v80 x s t3 wiT woT) (w0_v81 x s t3 wiT woT) x.e x.dd s), (k0_pay12 (w0_v39 x s t3 wiT woT)))

/-- `step0` depends on its inputs only. -/
theorem step0_congr (x : Ins F) {a0 : Vec F S1x256x1024 .bf16} {a1 : Vec F S1x4384x1024 .bf16} {a2 : Vec F S1x4x2304 .f32} {a3 : Vec F S1x1x2304 .f32} {a4 : Vec F S1x1x32 .f32} {a5 : Vec F S1x1x32 .f32} {a6 : Vec F S1x1x32 .f32} {a7 : Vec F S1x1x2048 .f32} {a8 : Vec F S1x1024x2048 .bf16} {a9 : Vec F S32x2048 .bf16} {s s' : Vec F S128x2048 .f32} {t t' : Vec F S3x2304 .f32} {w w' : Vec F S1024x4384 .bf16} {o o' : Vec F S2048x1024 .bf16}
    (h0 : a0 = x.u) (h1 : a1 = x.wi) (h2 : a2 = x.cw) (h3 : a3 = x.cb) (h4 : a4 = x.dtb) (h5 : a5 = x.alog) (h6 : a6 = x.dd) (h7 : a7 = x.nw) (h8 : a8 = x.wo) (h9 : a9 = x.e) (hs : s = s') (ht : t = t') (hw : w = w') (ho : o = o') :
    step0 ⟨a0, a1, a2, a3, a4, a5, a6, a7, a8, a9⟩ s t w o = step0 x s' t' w' o' := by
  subst h0 h1 h2 h3 h4 h5 h6 h7 h8 h9 hs ht hw ho; rfl

/-- A value of launch 1. -/
def w1_v12 (x : Ins F) (s : Vec F S128x2048 .f32) (t3 : Vec F S3x2304 .f32) (wiT : Vec F S1024x4384 .bf16) (woT : Vec F S2048x1024 .bf16) :=
  k1_pay6 (F := F)
/-- A value of launch 1. -/
def w1_v17 (x : Ins F) (s : Vec F S128x2048 .f32) (t3 : Vec F S3x2304 .f32) (wiT : Vec F S1024x4384 .bf16) (woT : Vec F S2048x1024 .bf16) :=
  k1_pay8 x.u wiT
/-- A value of launch 1. -/
def w1_v18 (x : Ins F) (s : Vec F S128x2048 .f32) (t3 : Vec F S3x2304 .f32) (wiT : Vec F S1024x4384 .bf16) (woT : Vec F S2048x1024 .bf16) :=
  k1_pay9 x.u wiT
/-- A value of launch 1. -/
def w1_v19 (x : Ins F) (s : Vec F S128x2048 .f32) (t3 : Vec F S3x2304 .f32) (wiT : Vec F S1024x4384 .bf16) (woT : Vec F S2048x1024 .bf16) :=
  k1_pay10 x.u wiT
/-- A value of launch 1. -/
def w1_v37 (x : Ins F) (s : Vec F S128x2048 .f32) (t3 : Vec F S3x2304 .f32) (wiT : Vec F S1024x4384 .bf16) (woT : Vec F S2048x1024 .bf16) :=
  k1_pay13 x.u wiT t3 x.cw
/-- A value of launch 1. -/
def w1_v41 (x : Ins F) (s : Vec F S128x2048 .f32) (t3 : Vec F S3x2304 .f32) (wiT : Vec F S1024x4384 .bf16) (woT : Vec F S2048x1024 .bf16) :=
  k1_pay14 x.u wiT t3 x.cw
/-- A value of launch 1. -/
def w1_v53 (x : Ins F) (s : Vec F S128x2048 .f32) (t3 : Vec F S3x2304 .f32) (wiT : Vec F S1024x4384 .bf16) (woT : Vec F S2048x1024 .bf16) :=
  k1_pay17 (w1_v37 x s t3 wiT woT) (w1_v41 x s t3 wiT woT) x.cb
/-- A value of launch 1. -/
def w1_v54 (x : Ins F) (s : Vec F S128x2048 .f32) (t3 : Vec F S3x2304 .f32) (wiT : Vec F S1024x4384 .bf16) (woT : Vec F S2048x1024 .bf16) :=
  k1_pay18 (w1_v37 x s t3 wiT woT) (w1_v41 x s t3 wiT woT) x.cb
/-- A value of launch 1. -/
def w1_v55 (x : Ins F) (s : Vec F S128x2048 .f32) (t3 : Vec F S3x2304 .f32) (wiT : Vec F S1024x4384 .bf16) (woT : Vec F S2048x1024 .bf16) :=
  k1_pay19 (w1_v37 x s t3 wiT woT) (w1_v41 x s t3 wiT woT) x.cb
/-- A value of launch 1. -/
def w1_v70 (x : Ins F) (s : Vec F S128x2048 .f32) (t3 : Vec F S3x2304 .f32) (wiT : Vec F S1024x4384 .bf16) (woT : Vec F S2048x1024 .bf16) :=
  k1_pay20 (w1_v19 x s t3 wiT woT) x.dtb
/-- A value of launch 1. -/
def w1_v78 (x : Ins F) (s : Vec F S128x2048 .f32) (t3 : Vec F S3x2304 .f32) (wiT : Vec F S1024x4384 .bf16) (woT : Vec F S2048x1024 .bf16) :=
  k1_pay22 (iota .tc S256x256 32 [0] iota_S256x256_d0_w32 : IVec S256x256 32) (iota .tc S256x256 32 [1] iota_S256x256_d1_w32 : IVec S256x256 32)
/-- A value of launch 1. -/
def w1_v81 (x : Ins F) (s : Vec F S128x2048 .f32) (t3 : Vec F S3x2304 .f32) (wiT : Vec F S1024x4384 .bf16) (woT : Vec F S2048x1024 .bf16) :=
  k1_pay23 (F := F) (iota .tc S256x256 32 [0] iota_S256x256_d0_w32 : IVec S256x256 32) (iota .tc S256x256 32 [1] iota_S256x256_d1_w32 : IVec S256x256 32)
/-- A value of launch 1. -/
def w1_v82 (x : Ins F) (s : Vec F S128x2048 .f32) (t3 : Vec F S3x2304 .f32) (wiT : Vec F S1024x4384 .bf16) (woT : Vec F S2048x1024 .bf16) :=
  k1_pay24 (w1_v19 x s t3 wiT woT) x.dtb x.alog
/-- A value of launch 1. -/
def w1_v84 (x : Ins F) (s : Vec F S128x2048 .f32) (t3 : Vec F S3x2304 .f32) (wiT : Vec F S1024x4384 .bf16) (woT : Vec F S2048x1024 .bf16) :=
  k1_pay25 (w1_v19 x s t3 wiT woT) x.dtb x.alog
/-- A value of launch 1. -/
def w1_v88 (x : Ins F) (s : Vec F S128x2048 .f32) (t3 : Vec F S3x2304 .f32) (wiT : Vec F S1024x4384 .bf16) (woT : Vec F S2048x1024 .bf16) :=
  k1_pay26 (w1_v81 x s t3 wiT woT) (w1_v82 x s t3 wiT woT) (w1_v84 x s t3 wiT woT)
/-- A value of launch 1. -/
def w1_v107 (x : Ins F) (s : Vec F S128x2048 .f32) (t3 : Vec F S3x2304 .f32) (wiT : Vec F S1024x4384 .bf16) (woT : Vec F S2048x1024 .bf16) :=
  k1_pay27 (w1_v70 x s t3 wiT woT) (w1_v81 x s t3 wiT woT) (w1_v82 x s t3 wiT woT) (w1_v84 x s t3 wiT woT) x.e x.dd
/-- A value of launch 1. -/
def w1_v109 (x : Ins F) (s : Vec F S128x2048 .f32) (t3 : Vec F S3x2304 .f32) (wiT : Vec F S1024x4384 .bf16) (woT : Vec F S2048x1024 .bf16) :=
  k1_pay28 (w1_v53 x s t3 wiT woT) (w1_v70 x s t3 wiT woT) (w1_v81 x s t3 wiT woT) (w1_v82 x s t3 wiT woT) (w1_v84 x s t3 wiT woT) x.e x.dd
/-- A value of launch 1. -/
def w1_v115 (x : Ins F) (s : Vec F S128x2048 .f32) (t3 : Vec F S3x2304 .f32) (wiT : Vec F S1024x4384 .bf16) (woT : Vec F S2048x1024 .bf16) :=
  k1_pay29 (w1_v55 x s t3 wiT woT) (w1_v70 x s t3 wiT woT) (w1_v81 x s t3 wiT woT) (w1_v82 x s t3 wiT woT) (w1_v84 x s t3 wiT woT) x.e x.dd s
/-- A value of launch 1. -/
def w1_v124 (x : Ins F) (s : Vec F S128x2048 .f32) (t3 : Vec F S3x2304 .f32) (wiT : Vec F S1024x4384 .bf16) (woT : Vec F S2048x1024 .bf16) :=
  k1_pay31 (w1_v54 x s t3 wiT woT) (w1_v55 x s t3 wiT woT)
/-- A value of launch 1. -/
def w1_v125 (x : Ins F) (s : Vec F S128x2048 .f32) (t3 : Vec F S3x2304 .f32) (wiT : Vec F S1024x4384 .bf16) (woT : Vec F S2048x1024 .bf16) :=
  k1_pay32 (w1_v81 x s t3 wiT woT) (w1_v82 x s t3 wiT woT) (w1_v84 x s t3 wiT woT)
/-- A value of launch 1. -/
def w1_v126 (x : Ins F) (s : Vec F S128x2048 .f32) (t3 : Vec F S3x2304 .f32) (wiT : Vec F S1024x4384 .bf16) (woT : Vec F S2048x1024 .bf16) :=
  k1_pay33 (w1_v81 x s t3 wiT woT) (w1_v82 x s t3 wiT woT) (w1_v84 x s t3 wiT woT)
/-- A value of launch 1. -/
def w1_v127 (x : Ins F) (s : Vec F S128x2048 .f32) (t3 : Vec F S3x2304 .f32) (wiT : Vec F S1024x4384 .bf16) (woT : Vec F S2048x1024 .bf16) :=
  k1_pay34 (w1_v81 x s t3 wiT woT) (w1_v82 x s t3 wiT woT) (w1_v84 x s t3 wiT woT)
/-- A value of launch 1. -/
def w1_v136 (x : Ins F) (s : Vec F S128x2048 .f32) (t3 : Vec F S3x2304 .f32) (wiT : Vec F S1024x4384 .bf16) (woT : Vec F S2048x1024 .bf16) :=
  k1_pay35 (w1_v78 x s t3 wiT woT) (w1_v109 x s t3 wiT woT) (w1_v124 x s t3 wiT woT) (w1_v126 x s t3 wiT woT) (w1_v127 x s t3 wiT woT)
/-- A value of launch 1. -/
def w1_v147 (x : Ins F) (s : Vec F S128x2048 .f32) (t3 : Vec F S3x2304 .f32) (wiT : Vec F S1024x4384 .bf16) (woT : Vec F S2048x1024 .bf16) :=
  k1_pay36 (w1_v78 x s t3 wiT woT) (w1_v88 x s t3 wiT woT) (w1_v109 x s t3 wiT woT) (w1_v124 x s t3 wiT woT) (w1_v125 x s t3 wiT woT)
/-- A value of launch 1. -/
def w1_v158 (x : Ins F) (s : Vec F S128x2048 .f32) (t3 : Vec F S3x2304 .f32) (wiT : Vec F S1024x4384 .bf16) (woT : Vec F S2048x1024 .bf16) :=
  k1_pay37 (w1_v78 x s t3 wiT woT) (w1_v88 x s t3 wiT woT) (w1_v109 x s t3 wiT woT) (w1_v124 x s t3 wiT woT) (w1_v125 x s t3 wiT woT)
/-- A value of launch 1. -/
def w1_v169 (x : Ins F) (s : Vec F S128x2048 .f32) (t3 : Vec F S3x2304 .f32) (wiT : Vec F S1024x4384 .bf16) (woT : Vec F S2048x1024 .bf16) :=
  k1_pay38 (w1_v78 x s t3 wiT woT) (w1_v88 x s t3 wiT woT) (w1_v109 x s t3 wiT woT) (w1_v124 x s t3 wiT woT) (w1_v125 x s t3 wiT woT)
/-- A value of launch 1. -/
def w1_v178 (x : Ins F) (s : Vec F S128x2048 .f32) (t3 : Vec F S3x2304 .f32) (wiT : Vec F S1024x4384 .bf16) (woT : Vec F S2048x1024 .bf16) :=
  k1_pay39 (w1_v78 x s t3 wiT woT) (w1_v88 x s t3 wiT woT) (w1_v124 x s t3 wiT woT) (w1_v125 x s t3 wiT woT)
/-- A value of launch 1. -/
def w1_v180 (x : Ins F) (s : Vec F S128x2048 .f32) (t3 : Vec F S3x2304 .f32) (wiT : Vec F S1024x4384 .bf16) (woT : Vec F S2048x1024 .bf16) :=
  k1_pay40 (w1_v109 x s t3 wiT woT) (w1_v178 x s t3 wiT woT)
/-- A value of launch 1. -/
def w1_v191 (x : Ins F) (s : Vec F S128x2048 .f32) (t3 : Vec F S3x2304 .f32) (wiT : Vec F S1024x4384 .bf16) (woT : Vec F S2048x1024 .bf16) :=
  k1_pay41 (w1_v78 x s t3 wiT woT) (w1_v88 x s t3 wiT woT) (w1_v109 x s t3 wiT woT) (w1_v124 x s t3 wiT woT) (w1_v125 x s t3 wiT woT)
/-- A value of launch 1. -/
def w1_v202 (x : Ins F) (s : Vec F S128x2048 .f32) (t3 : Vec F S3x2304 .f32) (wiT : Vec F S1024x4384 .bf16) (woT : Vec F S2048x1024 .bf16) :=
  k1_pay42 (w1_v78 x s t3 wiT woT) (w1_v88 x s t3 wiT woT) (w1_v109 x s t3 wiT woT) (w1_v124 x s t3 wiT woT) (w1_v125 x s t3 wiT woT)
/-- A value of launch 1. -/
def w1_v213 (x : Ins F) (s : Vec F S128x2048 .f32) (t3 : Vec F S3x2304 .f32) (wiT : Vec F S1024x4384 .bf16) (woT : Vec F S2048x1024 .bf16) :=
  k1_pay43 (w1_v78 x s t3 wiT woT) (w1_v88 x s t3 wiT woT) (w1_v109 x s t3 wiT woT) (w1_v124 x s t3 wiT woT) (w1_v125 x s t3 wiT woT)
/-- A value of launch 1. -/
def w1_v224 (x : Ins F) (s : Vec F S128x2048 .f32) (t3 : Vec F S3x2304 .f32) (wiT : Vec F S1024x4384 .bf16) (woT : Vec F S2048x1024 .bf16) :=
  k1_pay44 (w1_v78 x s t3 wiT woT) (w1_v88 x s t3 wiT woT) (w1_v109 x s t3 wiT woT) (w1_v124 x s t3 wiT woT) (w1_v125 x s t3 wiT woT)
/-- A value of launch 1. -/
def w1_v229 (x : Ins F) (s : Vec F S128x2048 .f32) (t3 : Vec F S3x2304 .f32) (wiT : Vec F S1024x4384 .bf16) (woT : Vec F S2048x1024 .bf16) :=
  k1_pay45 (w1_v88 x s t3 wiT woT) (w1_v125 x s t3 wiT woT)
/-- A value of launch 1. -/
def w1_v235 (x : Ins F) (s : Vec F S128x2048 .f32) (t3 : Vec F S3x2304 .f32) (wiT : Vec F S1024x4384 .bf16) (woT : Vec F S2048x1024 .bf16) :=
  k1_pay46 (w1_v78 x s t3 wiT woT) (w1_v109 x s t3 wiT woT) (w1_v124 x s t3 wiT woT) (w1_v229 x s t3 wiT woT)
/-- A value of launch 1. -/
def w1_v246 (x : Ins F) (s : Vec F S128x2048 .f32) (t3 : Vec F S3x2304 .f32) (wiT : Vec F S1024x4384 .bf16) (woT : Vec F S2048x1024 .bf16) :=
  k1_pay47 (w1_v78 x s t3 wiT woT) (w1_v88 x s t3 wiT woT) (w1_v109 x s t3 wiT woT) (w1_v124 x s t3 wiT woT) (w1_v125 x s t3 wiT woT)
/-- A value of launch 1. -/
def w1_v257 (x : Ins F) (s : Vec F S128x2048 .f32) (t3 : Vec F S3x2304 .f32) (wiT : Vec F S1024x4384 .bf16) (woT : Vec F S2048x1024 .bf16) :=
  k1_pay48 (w1_v78 x s t3 wiT woT) (w1_v88 x s t3 wiT woT) (w1_v109 x s t3 wiT woT) (w1_v124 x s t3 wiT woT) (w1_v125 x s t3 wiT woT)
/-- A value of launch 1. -/
def w1_v268 (x : Ins F) (s : Vec F S128x2048 .f32) (t3 : Vec F S3x2304 .f32) (wiT : Vec F S1024x4384 .bf16) (woT : Vec F S2048x1024 .bf16) :=
  k1_pay49 (w1_v78 x s t3 wiT woT) (w1_v88 x s t3 wiT woT) (w1_v109 x s t3 wiT woT) (w1_v124 x s t3 wiT woT) (w1_v125 x s t3 wiT woT)
/-- A value of launch 1. -/
def w1_v279 (x : Ins F) (s : Vec F S128x2048 .f32) (t3 : Vec F S3x2304 .f32) (wiT : Vec F S1024x4384 .bf16) (woT : Vec F S2048x1024 .bf16) :=
  k1_pay50 (w1_v78 x s t3 wiT woT) (w1_v88 x s t3 wiT woT) (w1_v109 x s t3 wiT woT) (w1_v124 x s t3 wiT woT) (w1_v125 x s t3 wiT woT)
/-- A value of launch 1. -/
def w1_v290 (x : Ins F) (s : Vec F S128x2048 .f32) (t3 : Vec F S3x2304 .f32) (wiT : Vec F S1024x4384 .bf16) (woT : Vec F S2048x1024 .bf16) :=
  k1_pay51 (w1_v78 x s t3 wiT woT) (w1_v88 x s t3 wiT woT) (w1_v109 x s t3 wiT woT) (w1_v124 x s t3 wiT woT) (w1_v125 x s t3 wiT woT)
/-- A value of launch 1. -/
def w1_v301 (x : Ins F) (s : Vec F S128x2048 .f32) (t3 : Vec F S3x2304 .f32) (wiT : Vec F S1024x4384 .bf16) (woT : Vec F S2048x1024 .bf16) :=
  k1_pay52 (w1_v78 x s t3 wiT woT) (w1_v88 x s t3 wiT woT) (w1_v109 x s t3 wiT woT) (w1_v124 x s t3 wiT woT) (w1_v125 x s t3 wiT woT)
/-- A value of launch 1. -/
def w1_v312 (x : Ins F) (s : Vec F S128x2048 .f32) (t3 : Vec F S3x2304 .f32) (wiT : Vec F S1024x4384 .bf16) (woT : Vec F S2048x1024 .bf16) :=
  k1_pay53 (w1_v78 x s t3 wiT woT) (w1_v88 x s t3 wiT woT) (w1_v109 x s t3 wiT woT) (w1_v124 x s t3 wiT woT) (w1_v125 x s t3 wiT woT)
/-- A value of launch 1. -/
def w1_v323 (x : Ins F) (s : Vec F S128x2048 .f32) (t3 : Vec F S3x2304 .f32) (wiT : Vec F S1024x4384 .bf16) (woT : Vec F S2048x1024 .bf16) :=
  k1_pay54 (w1_v78 x s t3 wiT woT) (w1_v88 x s t3 wiT woT) (w1_v109 x s t3 wiT woT) (w1_v124 x s t3 wiT woT) (w1_v125 x s t3 wiT woT)
/-- A value of launch 1. -/
def w1_v330 (x : Ins F) (s : Vec F S128x2048 .f32) (t3 : Vec F S3x2304 .f32) (wiT : Vec F S1024x4384 .bf16) (woT : Vec F S2048x1024 .bf16) :=
  k1_pay55 (w1_v78 x s t3 wiT woT) (w1_v88 x s t3 wiT woT) (w1_v125 x s t3 wiT woT)
/-- A value of launch 1. -/
def w1_v334 (x : Ins F) (s : Vec F S128x2048 .f32) (t3 : Vec F S3x2304 .f32) (wiT : Vec F S1024x4384 .bf16) (woT : Vec F S2048x1024 .bf16) :=
  k1_pay56 (w1_v109 x s t3 wiT woT) (w1_v124 x s t3 wiT woT) (w1_v330 x s t3 wiT woT)
/-- A value of launch 1. -/
def w1_v345 (x : Ins F) (s : Vec F S128x2048 .f32) (t3 : Vec F S3x2304 .f32) (wiT : Vec F S1024x4384 .bf16) (woT : Vec F S2048x1024 .bf16) :=
  k1_pay57 (w1_v78 x s t3 wiT woT) (w1_v88 x s t3 wiT woT) (w1_v109 x s t3 wiT woT) (w1_v124 x s t3 wiT woT) (w1_v125 x s t3 wiT woT)
/-- A value of launch 1. -/
def w1_v356 (x : Ins F) (s : Vec F S128x2048 .f32) (t3 : Vec F S3x2304 .f32) (wiT : Vec F S1024x4384 .bf16) (woT : Vec F S2048x1024 .bf16) :=
  k1_pay58 (w1_v78 x s t3 wiT woT) (w1_v88 x s t3 wiT woT) (w1_v109 x s t3 wiT woT) (w1_v124 x s t3 wiT woT) (w1_v125 x s t3 wiT woT)
/-- A value of launch 1. -/
def w1_v367 (x : Ins F) (s : Vec F S128x2048 .f32) (t3 : Vec F S3x2304 .f32) (wiT : Vec F S1024x4384 .bf16) (woT : Vec F S2048x1024 .bf16) :=
  k1_pay59 (w1_v78 x s t3 wiT woT) (w1_v88 x s t3 wiT woT) (w1_v109 x s t3 wiT woT) (w1_v124 x s t3 wiT woT) (w1_v125 x s t3 wiT woT)
/-- A value of launch 1. -/
def w1_v378 (x : Ins F) (s : Vec F S128x2048 .f32) (t3 : Vec F S3x2304 .f32) (wiT : Vec F S1024x4384 .bf16) (woT : Vec F S2048x1024 .bf16) :=
  k1_pay60 (w1_v78 x s t3 wiT woT) (w1_v88 x s t3 wiT woT) (w1_v109 x s t3 wiT woT) (w1_v124 x s t3 wiT woT) (w1_v125 x s t3 wiT woT)
/-- A value of launch 1. -/
def w1_v380 (x : Ins F) (s : Vec F S128x2048 .f32) (t3 : Vec F S3x2304 .f32) (wiT : Vec F S1024x4384 .bf16) (woT : Vec F S2048x1024 .bf16) :=
  k1_pay61 (w1_v125 x s t3 wiT woT)
/-- A value of launch 1. -/
def w1_v381 (x : Ins F) (s : Vec F S128x2048 .f32) (t3 : Vec F S3x2304 .f32) (wiT : Vec F S1024x4384 .bf16) (woT : Vec F S2048x1024 .bf16) :=
  k1_pay62 (w1_v88 x s t3 wiT woT)
/-- A value of launch 1. -/
def w1_v389 (x : Ins F) (s : Vec F S128x2048 .f32) (t3 : Vec F S3x2304 .f32) (wiT : Vec F S1024x4384 .bf16) (woT : Vec F S2048x1024 .bf16) :=
  k1_pay63 (w1_v78 x s t3 wiT woT) (w1_v109 x s t3 wiT woT) (w1_v124 x s t3 wiT woT) (w1_v380 x s t3 wiT woT) (w1_v381 x s t3 wiT woT)
/-- A value of launch 1. -/
def w1_v400 (x : Ins F) (s : Vec F S128x2048 .f32) (t3 : Vec F S3x2304 .f32) (wiT : Vec F S1024x4384 .bf16) (woT : Vec F S2048x1024 .bf16) :=
  k1_pay64 (w1_v78 x s t3 wiT woT) (w1_v88 x s t3 wiT woT) (w1_v109 x s t3 wiT woT) (w1_v124 x s t3 wiT woT) (w1_v125 x s t3 wiT woT)
/-- A value of launch 1. -/
def w1_v411 (x : Ins F) (s : Vec F S128x2048 .f32) (t3 : Vec F S3x2304 .f32) (wiT : Vec F S1024x4384 .bf16) (woT : Vec F S2048x1024 .bf16) :=
  k1_pay65 (w1_v78 x s t3 wiT woT) (w1_v88 x s t3 wiT woT) (w1_v109 x s t3 wiT woT) (w1_v124 x s t3 wiT woT) (w1_v125 x s t3 wiT woT)
/-- A value of launch 1. -/
def w1_v422 (x : Ins F) (s : Vec F S128x2048 .f32) (t3 : Vec F S3x2304 .f32) (wiT : Vec F S1024x4384 .bf16) (woT : Vec F S2048x1024 .bf16) :=
  k1_pay66 (w1_v78 x s t3 wiT woT) (w1_v88 x s t3 wiT woT) (w1_v109 x s t3 wiT woT) (w1_v124 x s t3 wiT woT) (w1_v125 x s t3 wiT woT)
/-- A value of launch 1. -/
def w1_v431 (x : Ins F) (s : Vec F S128x2048 .f32) (t3 : Vec F S3x2304 .f32) (wiT : Vec F S1024x4384 .bf16) (woT : Vec F S2048x1024 .bf16) :=
  k1_pay67 (w1_v78 x s t3 wiT woT) (w1_v88 x s t3 wiT woT) (w1_v124 x s t3 wiT woT) (w1_v125 x s t3 wiT woT)
/-- A value of launch 1. -/
def w1_v432 (x : Ins F) (s : Vec F S128x2048 .f32) (t3 : Vec F S3x2304 .f32) (wiT : Vec F S1024x4384 .bf16) (woT : Vec F S2048x1024 .bf16) :=
  k1_pay68 (w1_v109 x s t3 wiT woT)
/-- A value of launch 1. -/
def w1_v483 (x : Ins F) (s : Vec F S128x2048 .f32) (t3 : Vec F S3x2304 .f32) (wiT : Vec F S1024x4384 .bf16) (woT : Vec F S2048x1024 .bf16) :=
  (k1_pay69 (w1_v53 x s t3 wiT woT) (w1_v78 x s t3 wiT woT) (w1_v88 x s t3 wiT woT) (w1_v107 x s t3 wiT woT) (w1_v109 x s t3 wiT woT) (w1_v115 x s t3 wiT woT) (w1_v124 x s t3 wiT woT) (w1_v125 x s t3 wiT woT) (w1_v136 x s t3 wiT woT) (w1_v147 x s t3 wiT woT) (w1_v158 x s t3 wiT woT) (w1_v169 x s t3 wiT woT) (w1_v180 x s t3 wiT woT) (w1_v191 x s t3 wiT woT) (w1_v202 x s t3 wiT woT) (w1_v213 x s t3 wiT woT) (w1_v224 x s t3 wiT woT) (w1_v235 x s t3 wiT woT) (w1_v246 x s t3 wiT woT) (w1_v257 x s t3 wiT woT) (w1_v268 x s t3 wiT woT) (w1_v279 x s t3 wiT woT) (w1_v290 x s t3 wiT woT) (w1_v301 x s t3 wiT woT) (w1_v312 x s t3 wiT woT) (w1_v323 x s t3 wiT woT) (w1_v334 x s t3 wiT woT) (w1_v345 x s t3 wiT woT) (w1_v356 x s t3 wiT woT) (w1_v367 x s t3 wiT woT) (w1_v378 x s t3 wiT woT) (w1_v389 x s t3 wiT woT) (w1_v400 x s t3 wiT woT) (w1_v411 x s t3 wiT woT) (w1_v422 x s t3 wiT woT) (w1_v431 x s t3 wiT woT) (w1_v432 x s t3 wiT woT))

/-- One grid point of launch 1: from the input blocks, the carried state `s`, the carried three rows `t3` and the two
    transposed weights, the output block, the next state and the next three rows. -/
def step1 (x : Ins F) (s : Vec F S128x2048 .f32) (t3 : Vec F S3x2304 .f32) (wiT : Vec F S1024x4384 .bf16) (woT : Vec F S2048x1024 .bf16) :
    Vec F S1x256x1024 .f32 × Vec F S128x2048 .f32 × Vec F S3x2304 .f32 :=
  ((k1_pay1 (w1_v12 x s t3 wiT woT) (w1_v17 x s t3 wiT woT) (w1_v483 x s t3 wiT woT) x.nw woT), (k1_pay30 (w1_v53 x s t3 wiT woT) (w1_v54 x s t3 wiT woT) (w1_v70 x s t3 wiT woT) (w1_v81 x s t3 wiT woT) (w1_v82 x s t3 wiT woT) (w1_v84 x s t3 wiT woT) x.e x.dd s), (k1_pay15 (w1_v18 x s t3 wiT woT)))

/-- `step1` depends on its inputs only. -/
theorem step1_congr (x : Ins F) {a0 : Vec F S1x256x1024 .bf16} {a1 : Vec F S1x4384x1024 .bf16} {a2 : Vec F S1x4x2304 .f32} {a3 : Vec F S1x1x2304 .f32} {a4 : Vec F S1x1x32 .f32} {a5 : Vec F S1x1x32 .f32} {a6 : Vec F S1x1x32 .f32} {a7 : Vec F S1x1x2048 .f32} {a8 : Vec F S1x1024x2048 .bf16} {a9 : Vec F S32x2048 .bf16} {s s' : Vec F S128x2048 .f32} {t t' : Vec F S3x2304 .f32} {w w' : Vec F S1024x4384 .bf16} {o o' : Vec F S2048x1024 .bf16}
    (h0 : a0 = x.u) (h1 : a1 = x.wi) (h2 : a2 = x.cw) (h3 : a3 = x.cb) (h4 : a4 = x.dtb) (h5 : a5 = x.alog) (h6 : a6 = x.dd) (h7 : a7 = x.nw) (h8 : a8 = x.wo) (h9 : a9 = x.e) (hs : s = s') (ht : t = t') (hw : w = w') (ho : o = o') :
    step1 ⟨a0, a1, a2, a3, a4, a5, a6, a7, a8, a9⟩ s t w o = step1 x s' t' w' o' := by
  subst h0 h1 h2 h3 h4 h5 h6 h7 h8 h9 hs ht hw ho; rfl

/-- The first three rows of the eight carried ones. -/
def row3 (xt : Vec F S8x2304 .f32) : Vec F S3x2304 .f32 :=
  View.ld xt (Rect.unit (s := S8x2304) ![0, 0] S3x2304.size inb_S8x2304_S3x2304_0_0)

/-- A load of a whole buffer reads the contents it holds. -/
theorem load_whole {S : Shape} {e : EltTy} {m : Memref sig .tc .vmem S e} (h : m.IsWhole) {off : Fin S.rank → ℕ}
    (inb : ∀ a, off a + S.size a ≤ S.size a) (x : Vec F S e) :
    m.view.readAt (Elt F) (Rect.unit off S.size inb).toLoadRect (h.unread x) = x := by
  rw [View.readAt_full, h.read_unread]

/-- A buffer stored whole holds the value stored. -/
theorem read_stored {S : Shape} {e : EltTy} (v : View sig .tc .vmem S e) (f : v.ty.Contents (Elt F)) {off : Fin S.rank → ℕ}
    (inb : ∀ a, off a + S.size a ≤ S.size a) (w w' : Vec F S e) (L : List (View.Piece (Elt F) S e)) (h : w = w') :
    v.read (Elt F) (v.writes (Elt F) f (⟨Rect.unit off S.size inb, w⟩ :: L)) = w' :=
  (View.read_writes_full v f inb w L).trans h

/-- A load of a whole buffer just stored reads the value stored. -/
theorem load_stored {S : Shape} {e : EltTy} (v : View sig .tc .vmem S e) {off off' : Fin S.rank → ℕ}
    (inb : ∀ a, off a + S.size a ≤ S.size a) (inb' : ∀ a, off' a + S.size a ≤ S.size a) (w : Vec F S e) (L : List (View.Piece (Elt F) S e)) :
    v.readCov (⟨Rect.unit off' S.size inb', w⟩ :: L) (Rect.unit off S.size inb).toLoadRect = w :=
  View.readCov_full v inb inb' w L

/-- A load of the first three rows reads them. -/
theorem load_rows {m : Memref sig .tc .vmem S8x2304 .f32} (h : m.IsWhole) (x : Vec F S8x2304 .f32) :
    m.view.readAt (Elt F) (Rect.unit (s := S8x2304) ![0, 0] S3x2304.size inb_S8x2304_S3x2304_0_0).toLoadRect (h.unread x) = row3 x := by
  rw [View.readAt_eq_ld, h.read_unread]; rfl

/-- A load of the first three rows of a buffer just stored whole reads them from the value stored. -/
theorem load_rows_stored (v : View sig .tc .vmem S8x2304 .f32) (inb : ∀ a, (![0, 0] : Fin 2 → ℕ) a + S8x2304.size a ≤ S8x2304.size a) (w : Vec F S8x2304 .f32) :
    v.readCov [⟨Rect.unit (s := S8x2304) ![0, 0] S8x2304.size inb, w⟩] (Rect.unit (s := S8x2304) ![0, 0] S3x2304.size inb_S8x2304_S3x2304_0_0).toLoadRect = row3 w := by
  rw [View.readCov_eq_canon_ld _ _ _ (fun y => ⟨_, List.mem_cons_self, by
    show y ∈ (Rect.unit (s := S8x2304) ![0, 0] S8x2304.size inb).set
    exact View.mem_set_unit_zero (by funext a; fin_cases a <;> rfl) _ y⟩),
    View.canon_cons_unit_lit' inb w [] (by decide)]
  rfl

/-- After a store of the first three rows, they read the value stored. -/
theorem row3_stored (v : View sig .tc .vmem S8x2304 .f32) (f : v.ty.Contents (Elt F)) (w : Vec F S3x2304 .f32) (L : List (View.Piece (Elt F) S8x2304 .f32)) :
    row3 (v.read (Elt F) (v.writes (Elt F) f (⟨Rect.unit (s := S8x2304) ![0, 0] S3x2304.size inb_S8x2304_S3x2304_0_0, w⟩ :: L))) = w :=
  funext fun j => View.read_writes_cons_emb v f (Rect.unit (s := S8x2304) ![0, 0] S3x2304.size inb_S8x2304_S3x2304_0_0) w L j

end Cert.Proof.KI

end
-- ==== Proof.KernelIdealRun0.lean ====
/- The kernel body of launch 0 run at a grid point: the memory operations give exactly the values of `step0`. -/
module

public import proofs.«01_k».proof.Proof.KernelIdealStep
public import Idealize.ShloMosaic.Lib.Tactic

@[expose] public section

set_option maxRecDepth 16384

noncomputable section

namespace Cert.Proof.KI.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's one condition: the second grid coordinate is zero. -/
abbrev cond (i : grid0.Coords) : Prop := (Scalar.cmpi .ne (Scalar.extui (Scalar.cmpi .eq (BitVec.ofNat 32 (i 1).val) 0#32)) 0#32) = 1#1

set_option maxHeartbeats 1600000 in
/-- The body at a point first in a sequence: the scratch is set first, whatever it held. -/
theorem runA (c : Dev nD) (i : grid0.Coords) (arg2 : Memref sig .tc .vmem S1x256x1024 .bf16) (harg2 : arg2.IsWhole) (arg3 : Memref sig .tc .vmem S1x4384x1024 .bf16) (harg3 : arg3.IsWhole) (arg4 : Memref sig .tc .vmem S1x4x2304 .f32) (harg4 : arg4.IsWhole) (arg5 : Memref sig .tc .vmem S1x1x2304 .f32) (harg5 : arg5.IsWhole) (arg6 : Memref sig .tc .vmem S1x1x32 .f32) (harg6 : arg6.IsWhole) (arg7 : Memref sig .tc .vmem S1x1x32 .f32) (harg7 : arg7.IsWhole) (arg8 : Memref sig .tc .vmem S1x1x32 .f32) (harg8 : arg8.IsWhole) (arg9 : Memref sig .tc .vmem S1x1x2048 .f32) (harg9 : arg9.IsWhole) (arg10 : Memref sig .tc .vmem S1x1024x2048 .bf16) (harg10 : arg10.IsWhole) (arg11 : Memref sig .tc .vmem S32x2048 .bf16) (harg11 : arg11.IsWhole) (arg12 : Memref sig .tc .vmem S1x256x1024 .f32) (harg12 : arg12.IsWhole) (arg13 : Memref sig .tc .vmem S128x2048 .f32) (harg13 : arg13.IsWhole) (arg14 : Memref sig .tc .vmem S8x2304 .f32) (harg14 : arg14.IsWhole) (arg15 : Memref sig .tc .vmem S1024x4384 .bf16) (harg15 : arg15.IsWhole) (arg16 : Memref sig .tc .vmem S2048x1024 .bf16) (harg16 : arg16.IsWhole) (hc0 : cond i)
    (x : Ins F) (E : Set ℕ) (Kp : PUnit → sProp 𝕄) :
    iprop(owns (c : Thread nD τ) arg2 fullShare x.u ∗ owns (c : Thread nD τ) arg3 fullShare x.wi ∗ owns (c : Thread nD τ) arg4 fullShare x.cw ∗ owns (c : Thread nD τ) arg5 fullShare x.cb ∗ owns (c : Thread nD τ) arg6 fullShare x.dtb ∗ owns (c : Thread nD τ) arg7 fullShare x.alog ∗ owns (c : Thread nD τ) arg8 fullShare x.dd ∗ owns (c : Thread nD τ) arg9 fullShare x.nw ∗ owns (c : Thread nD τ) arg10 fullShare x.wo ∗ owns (c : Thread nD τ) arg11 fullShare x.e ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg2 fullShare x.u ∗ owns (c : Thread nD τ) arg3 fullShare x.wi ∗ owns (c : Thread nD τ) arg4 fullShare x.cw ∗ owns (c : Thread nD τ) arg5 fullShare x.cb ∗ owns (c : Thread nD τ) arg6 fullShare x.dtb ∗ owns (c : Thread nD τ) arg7 fullShare x.alog ∗ owns (c : Thread nD τ) arg8 fullShare x.dd ∗ owns (c : Thread nD τ) arg9 fullShare x.nw ∗ owns (c : Thread nD τ) arg10 fullShare x.wo ∗ owns (c : Thread nD τ) arg11 fullShare x.e ∗ owns (c : Thread nD τ) arg12 fullShare (step0 x k0_pay2 (row3 k0_pay3) (k0_pay4 x.wi) (k0_pay5 x.wo)).1 ∗ owns (c : Thread nD τ) arg13 fullShare (step0 x k0_pay2 (row3 k0_pay3) (k0_pay4 x.wi) (k0_pay5 x.wo)).2.1 ∗ (∃ xt' : Vec F S8x2304 .f32, ⌜row3 xt' = (step0 x k0_pay2 (row3 k0_pay3) (k0_pay4 x.wi) (k0_pay5 x.wo)).2.2⌝ ∗ owns (c : Thread nD τ) arg14 fullShare xt') ∗ owns (c : Thread nD τ) arg15 fullShare (k0_pay4 x.wi) ∗ owns (c : Thread nD τ) arg16 fullShare (k0_pay5 x.wo)) -∗ Kp ⟨⟩))
      ⊢ wp frame (wpE (defs₀ (F := F)) Variants.none c none) E (cc0__chunk_body i arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
  simp only [cc0__chunk_body_eq_skeleton]; unfold cc0__chunk_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  have hst : step0 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readCov [⟨Rect.unit ![0, 0] S128x2048.size inb_S128x2048_S128x2048_0_0, k0_pay2⟩] (Rect.unit ![0, 0] S128x2048.size inb_S128x2048_S128x2048_0_0).toLoadRect) (arg14.view.readCov [⟨Rect.unit ![0, 0] S8x2304.size inb_S8x2304_S8x2304_0_0, k0_pay3⟩] (Rect.unit (s := S8x2304) ![0, 0] S3x2304.size inb_S8x2304_S3x2304_0_0).toLoadRect) (arg15.view.readCov [⟨Rect.unit ![0, 0] S1024x4384.size inb_S1024x4384_S1024x4384_0_0, (k0_pay4 (arg3.view.readAt (Elt F) (Rect.unit ![0, 0, 0] S1x4384x1024.size inb_S1x4384x1024_S1x4384x1024_0_0_0).toLoadRect (harg3.unread x.wi)))⟩] (Rect.unit ![0, 0] S1024x4384.size inb_S1024x4384_S1024x4384_0_0).toLoadRect) (arg16.view.readCov [⟨Rect.unit ![0, 0] S2048x1024.size inb_S2048x1024_S2048x1024_0_0, (k0_pay5 (arg10.view.readAt (Elt F) (Rect.unit ![0, 0, 0] S1x1024x2048.size inb_S1x1024x2048_S1x1024x2048_0_0_0).toLoadRect (harg10.unread x.wo)))⟩] (Rect.unit ![0, 0] S2048x1024.size inb_S2048x1024_S2048x1024_0_0).toLoadRect) = step0 x k0_pay2 (row3 k0_pay3) (k0_pay4 x.wi) (k0_pay5 x.wo) :=
    step0_congr x (load_whole _ _ _) (load_whole _ _ _) (load_whole _ _ _) (load_whole _ _ _) (load_whole _ _ _) (load_whole _ _ _) (load_whole _ _ _) (load_whole _ _ _) (load_whole _ _ _) (load_whole _ _ _) (load_stored _ _ _ _ _) (load_rows_stored _ _ _) ((load_stored _ _ _ _ _).trans (congrArg k0_pay4 (load_whole _ _ _))) ((load_stored _ _ _ _ _).trans (congrArg k0_pay5 (load_whole _ _ _)))
  isplitl [H12]
  · iexists _; isplitr; swap; (· iexact H12); ipureintro
    refine read_stored (S := S1x256x1024) arg12.view _ (off := ![0, 0, 0]) inb_S1x256x1024_S1x256x1024_0_0_0 _ _ _ ?_
    refine Eq.trans (b := (step0 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readCov [⟨Rect.unit ![0, 0] S128x2048.size inb_S128x2048_S128x2048_0_0, k0_pay2⟩] (Rect.unit ![0, 0] S128x2048.size inb_S128x2048_S128x2048_0_0).toLoadRect) (arg14.view.readCov [⟨Rect.unit ![0, 0] S8x2304.size inb_S8x2304_S8x2304_0_0, k0_pay3⟩] (Rect.unit (s := S8x2304) ![0, 0] S3x2304.size inb_S8x2304_S3x2304_0_0).toLoadRect) (arg15.view.readCov [⟨Rect.unit ![0, 0] S1024x4384.size inb_S1024x4384_S1024x4384_0_0, (k0_pay4 (arg3.view.readAt (Elt F) (Rect.unit ![0, 0, 0] S1x4384x1024.size inb_S1x4384x1024_S1x4384x1024_0_0_0).toLoadRect (harg3.unread x.wi)))⟩] (Rect.unit ![0, 0] S1024x4384.size inb_S1024x4384_S1024x4384_0_0).toLoadRect) (arg16.view.readCov [⟨Rect.unit ![0, 0] S2048x1024.size inb_S2048x1024_S2048x1024_0_0, (k0_pay5 (arg10.view.readAt (Elt F) (Rect.unit ![0, 0, 0] S1x1024x2048.size inb_S1x1024x2048_S1x1024x2048_0_0_0).toLoadRect (harg10.unread x.wo)))⟩] (Rect.unit ![0, 0] S2048x1024.size inb_S2048x1024_S2048x1024_0_0).toLoadRect)).1) ?_ (congrArg (fun z => z.1) hst)
    sl_kernel_rfl
  isplitl [H13]
  · iexists _; isplitr; swap; (· iexact H13); ipureintro
    refine read_stored (S := S128x2048) arg13.view _ (off := ![0, 0]) inb_S128x2048_S128x2048_0_0 _ _ _ ?_
    refine Eq.trans (b := (step0 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readCov [⟨Rect.unit ![0, 0] S128x2048.size inb_S128x2048_S128x2048_0_0, k0_pay2⟩] (Rect.unit ![0, 0] S128x2048.size inb_S128x2048_S128x2048_0_0).toLoadRect) (arg14.view.readCov [⟨Rect.unit ![0, 0] S8x2304.size inb_S8x2304_S8x2304_0_0, k0_pay3⟩] (Rect.unit (s := S8x2304) ![0, 0] S3x2304.size inb_S8x2304_S3x2304_0_0).toLoadRect) (arg15.view.readCov [⟨Rect.unit ![0, 0] S1024x4384.size inb_S1024x4384_S1024x4384_0_0, (k0_pay4 (arg3.view.readAt (Elt F) (Rect.unit ![0, 0, 0] S1x4384x1024.size inb_S1x4384x1024_S1x4384x1024_0_0_0).toLoadRect (harg3.unread x.wi)))⟩] (Rect.unit ![0, 0] S1024x4384.size inb_S1024x4384_S1024x4384_0_0).toLoadRect) (arg16.view.readCov [⟨Rect.unit ![0, 0] S2048x1024.size inb_S2048x1024_S2048x1024_0_0, (k0_pay5 (arg10.view.readAt (Elt F) (Rect.unit ![0, 0, 0] S1x1024x2048.size inb_S1x1024x2048_S1x1024x2048_0_0_0).toLoadRect (harg10.unread x.wo)))⟩] (Rect.unit ![0, 0] S2048x1024.size inb_S2048x1024_S2048x1024_0_0).toLoadRect)).2.1) ?_ (congrArg (fun z => z.2.1) hst)
    sl_kernel_rfl
  isplitl [H14]
  · iexists _; isplitr; swap
    · iexists _; isplitr; swap; (· iexact H14); ipureintro; rfl
    ipureintro
    refine (row3_stored _ _ _ _).trans ?_
    refine Eq.trans (b := (step0 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readCov [⟨Rect.unit ![0, 0] S128x2048.size inb_S128x2048_S128x2048_0_0, k0_pay2⟩] (Rect.unit ![0, 0] S128x2048.size inb_S128x2048_S128x2048_0_0).toLoadRect) (arg14.view.readCov [⟨Rect.unit ![0, 0] S8x2304.size inb_S8x2304_S8x2304_0_0, k0_pay3⟩] (Rect.unit (s := S8x2304) ![0, 0] S3x2304.size inb_S8x2304_S3x2304_0_0).toLoadRect) (arg15.view.readCov [⟨Rect.unit ![0, 0] S1024x4384.size inb_S1024x4384_S1024x4384_0_0, (k0_pay4 (arg3.view.readAt (Elt F) (Rect.unit ![0, 0, 0] S1x4384x1024.size inb_S1x4384x1024_S1x4384x1024_0_0_0).toLoadRect (harg3.unread x.wi)))⟩] (Rect.unit ![0, 0] S1024x4384.size inb_S1024x4384_S1024x4384_0_0).toLoadRect) (arg16.view.readCov [⟨Rect.unit ![0, 0] S2048x1024.size inb_S2048x1024_S2048x1024_0_0, (k0_pay5 (arg10.view.readAt (Elt F) (Rect.unit ![0, 0, 0] S1x1024x2048.size inb_S1x1024x2048_S1x1024x2048_0_0_0).toLoadRect (harg10.unread x.wo)))⟩] (Rect.unit ![0, 0] S2048x1024.size inb_S2048x1024_S2048x1024_0_0).toLoadRect)).2.2) ?_ (congrArg (fun z => z.2.2) hst)
    sl_kernel_rfl
  isplitl [H15]
  · iexists _; isplitr; swap; (· iexact H15); ipureintro
    refine read_stored _ _ _ _ _ _ ?_
    exact congrArg k0_pay4 (load_whole _ _ _)
  iexists _; isplitr; swap; (· iexact H16); ipureintro
  refine read_stored _ _ _ _ _ _ ?_
  exact congrArg k0_pay5 (load_whole _ _ _)

set_option maxHeartbeats 1600000 in
/-- The body at a point later in a sequence: the scratch as the point before left it. -/
theorem runB (c : Dev nD) (i : grid0.Coords) (arg2 : Memref sig .tc .vmem S1x256x1024 .bf16) (harg2 : arg2.IsWhole) (arg3 : Memref sig .tc .vmem S1x4384x1024 .bf16) (harg3 : arg3.IsWhole) (arg4 : Memref sig .tc .vmem S1x4x2304 .f32) (harg4 : arg4.IsWhole) (arg5 : Memref sig .tc .vmem S1x1x2304 .f32) (harg5 : arg5.IsWhole) (arg6 : Memref sig .tc .vmem S1x1x32 .f32) (harg6 : arg6.IsWhole) (arg7 : Memref sig .tc .vmem S1x1x32 .f32) (harg7 : arg7.IsWhole) (arg8 : Memref sig .tc .vmem S1x1x32 .f32) (harg8 : arg8.IsWhole) (arg9 : Memref sig .tc .vmem S1x1x2048 .f32) (harg9 : arg9.IsWhole) (arg10 : Memref sig .tc .vmem S1x1024x2048 .bf16) (harg10 : arg10.IsWhole) (arg11 : Memref sig .tc .vmem S32x2048 .bf16) (harg11 : arg11.IsWhole) (arg12 : Memref sig .tc .vmem S1x256x1024 .f32) (harg12 : arg12.IsWhole) (arg13 : Memref sig .tc .vmem S128x2048 .f32) (harg13 : arg13.IsWhole) (arg14 : Memref sig .tc .vmem S8x2304 .f32) (harg14 : arg14.IsWhole) (arg15 : Memref sig .tc .vmem S1024x4384 .bf16) (harg15 : arg15.IsWhole) (arg16 : Memref sig .tc .vmem S2048x1024 .bf16) (harg16 : arg16.IsWhole) (hc0 : ¬cond i)
    (x : Ins F) (s : Vec F S128x2048 .f32) (xt : Vec F S8x2304 .f32) (wiT : Vec F S1024x4384 .bf16) (woT : Vec F S2048x1024 .bf16) (E : Set ℕ) (Kp : PUnit → sProp 𝕄) :
    iprop(owns (c : Thread nD τ) arg2 fullShare x.u ∗ owns (c : Thread nD τ) arg3 fullShare x.wi ∗ owns (c : Thread nD τ) arg4 fullShare x.cw ∗ owns (c : Thread nD τ) arg5 fullShare x.cb ∗ owns (c : Thread nD τ) arg6 fullShare x.dtb ∗ owns (c : Thread nD τ) arg7 fullShare x.alog ∗ owns (c : Thread nD τ) arg8 fullShare x.dd ∗ owns (c : Thread nD τ) arg9 fullShare x.nw ∗ owns (c : Thread nD τ) arg10 fullShare x.wo ∗ owns (c : Thread nD τ) arg11 fullShare x.e ∗ (∃ d, owns (c : Thread nD τ) arg12 fullShare d) ∗ owns (c : Thread nD τ) arg13 fullShare s ∗ owns (c : Thread nD τ) arg14 fullShare xt ∗ owns (c : Thread nD τ) arg15 fullShare wiT ∗ owns (c : Thread nD τ) arg16 fullShare woT
      ∗ (iprop(owns (c : Thread nD τ) arg2 fullShare x.u ∗ owns (c : Thread nD τ) arg3 fullShare x.wi ∗ owns (c : Thread nD τ) arg4 fullShare x.cw ∗ owns (c : Thread nD τ) arg5 fullShare x.cb ∗ owns (c : Thread nD τ) arg6 fullShare x.dtb ∗ owns (c : Thread nD τ) arg7 fullShare x.alog ∗ owns (c : Thread nD τ) arg8 fullShare x.dd ∗ owns (c : Thread nD τ) arg9 fullShare x.nw ∗ owns (c : Thread nD τ) arg10 fullShare x.wo ∗ owns (c : Thread nD τ) arg11 fullShare x.e ∗ owns (c : Thread nD τ) arg12 fullShare (step0 x s (row3 xt) wiT woT).1 ∗ owns (c : Thread nD τ) arg13 fullShare (step0 x s (row3 xt) wiT woT).2.1 ∗ (∃ xt' : Vec F S8x2304 .f32, ⌜row3 xt' = (step0 x s (row3 xt) wiT woT).2.2⌝ ∗ owns (c : Thread nD τ) arg14 fullShare xt') ∗ owns (c : Thread nD τ) arg15 fullShare wiT ∗ owns (c : Thread nD τ) arg16 fullShare woT) -∗ Kp ⟨⟩))
      ⊢ wp frame (wpE (defs₀ (F := F)) Variants.none c none) E (cc0__chunk_body i arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
  simp only [cc0__chunk_body_eq_skeleton]; unfold cc0__chunk_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16
  sl_exec (disch := first | sl_exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  have hst : step0 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readAt (Elt F) (Rect.unit ![0, 0] S128x2048.size inb_S128x2048_S128x2048_0_0).toLoadRect (harg13.unread s)) (arg14.view.readAt (Elt F) (Rect.unit (s := S8x2304) ![0, 0] S3x2304.size inb_S8x2304_S3x2304_0_0).toLoadRect (harg14.unread xt)) (arg15.view.readAt (Elt F) (Rect.unit ![0, 0] S1024x4384.size inb_S1024x4384_S1024x4384_0_0).toLoadRect (harg15.unread wiT)) (arg16.view.readAt (Elt F) (Rect.unit ![0, 0] S2048x1024.size inb_S2048x1024_S2048x1024_0_0).toLoadRect (harg16.unread woT)) = step0 x s (row3 xt) wiT woT :=
    step0_congr x (load_whole _ _ _) (load_whole _ _ _) (load_whole _ _ _) (load_whole _ _ _) (load_whole _ _ _) (load_whole _ _ _) (load_whole _ _ _) (load_whole _ _ _) (load_whole _ _ _) (load_whole _ _ _) (load_whole _ _ _) (load_rows _ _) (load_whole _ _ _) (load_whole _ _ _)
  isplitl [H12]
  · iexists _; isplitr; swap; (· iexact H12); ipureintro
    refine read_stored (S := S1x256x1024) arg12.view _ (off := ![0, 0, 0]) inb_S1x256x1024_S1x256x1024_0_0_0 _ _ [] ?_
    refine Eq.trans (b := (step0 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readAt (Elt F) (Rect.unit ![0, 0] S128x2048.size inb_S128x2048_S128x2048_0_0).toLoadRect (harg13.unread s)) (arg14.view.readAt (Elt F) (Rect.unit (s := S8x2304) ![0, 0] S3x2304.size inb_S8x2304_S3x2304_0_0).toLoadRect (harg14.unread xt)) (arg15.view.readAt (Elt F) (Rect.unit ![0, 0] S1024x4384.size inb_S1024x4384_S1024x4384_0_0).toLoadRect (harg15.unread wiT)) (arg16.view.readAt (Elt F) (Rect.unit ![0, 0] S2048x1024.size inb_S2048x1024_S2048x1024_0_0).toLoadRect (harg16.unread woT))).1) ?_ (congrArg (fun z => z.1) hst)
    sl_kernel_rfl
  isplitl [H13]
  · iexists _; isplitr; swap; (· iexact H13); ipureintro
    refine read_stored (S := S128x2048) arg13.view _ (off := ![0, 0]) inb_S128x2048_S128x2048_0_0 _ _ [] ?_
    refine Eq.trans (b := (step0 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readAt (Elt F) (Rect.unit ![0, 0] S128x2048.size inb_S128x2048_S128x2048_0_0).toLoadRect (harg13.unread s)) (arg14.view.readAt (Elt F) (Rect.unit (s := S8x2304) ![0, 0] S3x2304.size inb_S8x2304_S3x2304_0_0).toLoadRect (harg14.unread xt)) (arg15.view.readAt (Elt F) (Rect.unit ![0, 0] S1024x4384.size inb_S1024x4384_S1024x4384_0_0).toLoadRect (harg15.unread wiT)) (arg16.view.readAt (Elt F) (Rect.unit ![0, 0] S2048x1024.size inb_S2048x1024_S2048x1024_0_0).toLoadRect (harg16.unread woT))).2.1) ?_ (congrArg (fun z => z.2.1) hst)
    sl_kernel_rfl
  isplitl [H14]
  · iexists _; isplitr; swap
    · iexists _; isplitr; swap; (· iexact H14); ipureintro; rfl
    ipureintro
    refine (row3_stored _ _ _ _).trans ?_
    refine Eq.trans (b := (step0 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readAt (Elt F) (Rect.unit ![0, 0] S128x2048.size inb_S128x2048_S128x2048_0_0).toLoadRect (harg13.unread s)) (arg14.view.readAt (Elt F) (Rect.unit (s := S8x2304) ![0, 0] S3x2304.size inb_S8x2304_S3x2304_0_0).toLoadRect (harg14.unread xt)) (arg15.view.readAt (Elt F) (Rect.unit ![0, 0] S1024x4384.size inb_S1024x4384_S1024x4384_0_0).toLoadRect (harg15.unread wiT)) (arg16.view.readAt (Elt F) (Rect.unit ![0, 0] S2048x1024.size inb_S2048x1024_S2048x1024_0_0).toLoadRect (harg16.unread woT))).2.2) ?_ (congrArg (fun z => z.2.2) hst)
    sl_kernel_rfl
  isplitl [H15]
  · iexists _; isplitr; swap; (· iexact H15); ipureintro
    exact harg15.read_unread _
  iexists _; isplitr; swap; (· iexact H16); ipureintro
  exact harg16.read_unread _

end Cert.Proof.KI.R0

end
-- ==== Proof.KernelIdealReg0.lean ====
/- The proof data of launch 0: what the scratch and the output hold after each grid point, and the body obligation. -/
module

public import proofs.«01_k».proof.Proof.KernelIdealRun0
public import Idealize.ShloMosaic.Lib.WordCmp
public import Idealize.ShloMosaic.Lib.Claim
public import Idealize.ShloMosaic.Lib.Pipeline.RegionArraysS
public import proofs.«01_k».proof.Proof.Gen.KernelIdeal.Launch

@[expose] public section

set_option maxRecDepth 16384

noncomputable section

namespace Cert.Proof.KI.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The ten inputs of the body at point `t`. -/
def ins (c : Dev nD) (t : Fin cfg0.N) : Ins F :=
  ⟨iblk V c 0 t, iblk V c 1 t, iblk V c 2 t, iblk V c 3 t, iblk V c 4 t, iblk V c 5 t, iblk V c 6 t, iblk V c 7 t, iblk V c 8 t, iblk V c 9 t⟩

/-- What one point leaves: the output block, the state, the last three rows, the two transposed weights. -/
structure St (F : FTy → Type) where
  out : Vec F S1x256x1024 .f32
  s : Vec F S128x2048 .f32
  t3 : Vec F S3x2304 .f32
  wi : Vec F S1024x4384 .bf16
  wo : Vec F S2048x1024 .bf16

/-- A point first in its sequence. -/
def stA (x : Ins F) : St F :=
  ⟨(step0 x k0_pay2 (row3 k0_pay3) (k0_pay4 x.wi) (k0_pay5 x.wo)).1, (step0 x k0_pay2 (row3 k0_pay3) (k0_pay4 x.wi) (k0_pay5 x.wo)).2.1,
    (step0 x k0_pay2 (row3 k0_pay3) (k0_pay4 x.wi) (k0_pay5 x.wo)).2.2, k0_pay4 x.wi, k0_pay5 x.wo⟩

/-- A point later in its sequence, after `p`. -/
def stB (x : Ins F) (p : St F) : St F :=
  ⟨(step0 x p.s p.t3 p.wi p.wo).1, (step0 x p.s p.t3 p.wi p.wo).2.1, (step0 x p.s p.t3 p.wi p.wo).2.2, p.wi, p.wo⟩

/-- What the points up to `n` leave. -/
def st (c : Dev nD) : (n : ℕ) → n < cfg0.N → St F
  | 0, h => stA (ins V c ⟨0, h⟩)
  | n + 1, h => if (n + 1) % 8 = 0 then stA (ins V c ⟨n + 1, h⟩) else stB (ins V c ⟨n + 1, h⟩) (st c n (Nat.lt_of_succ_lt h))

/-- At a point first in its sequence. -/
theorem st_A (c : Dev nD) (n : ℕ) (h : n < cfg0.N) (h0 : n % 8 = 0) : st V c n h = stA (ins V c ⟨n, h⟩) := by
  cases n with
  | zero => rfl
  | succ n => exact if_pos h0

/-- At a point later in its sequence. -/
theorem st_B (c : Dev nD) (n : ℕ) (h : n < cfg0.N) (h0 : ¬n % 8 = 0) (h' : n - 1 < cfg0.N) : st V c n h = stB (ins V c ⟨n, h⟩) (st V c (n - 1) h') := by
  cases n with
  | zero => exact absurd rfl h0
  | succ n => exact if_neg h0

/-- The scratch at a state, with every other scoped buffer that no window stages. -/
def ΦS (c : Dev nD) (p : St F) : sProp 𝕄 :=
  iprop((owns (c : Thread nD τ) (Memref.whole cc0_scratch0) fullShare p.s
    ∗ (∃ xt : Vec F S8x2304 .f32, ⌜row3 xt = p.t3⌝ ∗ owns (c : Thread nD τ) (Memref.whole cc0_scratch1) fullShare xt)
    ∗ owns (c : Thread nD τ) (Memref.whole cc0_scratch2) fullShare p.wi ∗ owns (c : Thread nD τ) (Memref.whole cc0_scratch3) fullShare p.wo)
    ∗ Pipeline.scopedRestBut (Ix := Unit) (Name := ℕ) (U := UR sig nD τ) (Lvl := ℕ) (Val := Elt F) (τ := τ) spec0 c [cc0_scratch0, cc0_scratch1, cc0_scratch2, cc0_scratch3])

/-- The scoped buffers no window stages: the four scratch buffers at anything, and the others. -/
theorem rest_split (c : Dev nD) :
    (Pipeline.scopedRest (Ix := Unit) (Name := ℕ) (U := UR sig nD τ) (Lvl := ℕ) (Val := Elt F) spec0 c : sProp 𝕄)
      = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
        ∗ Pipeline.scopedRestBut (Ix := Unit) (Name := ℕ) (U := UR sig nD τ) (Lvl := ℕ) (Val := Elt F) (τ := τ) spec0 c [cc0_scratch0, cc0_scratch1, cc0_scratch2, cc0_scratch3]) := by
  rw [Pipeline.scopedRest_split_of_list spec0 c [cc0_scratch0, cc0_scratch1, cc0_scratch2, cc0_scratch3] (by decide) (by decide)]
  simp only [owns_whole]
  rfl

/-- The invariant before point `n`. -/
def PhiS (c : Dev nD) : (n : ℕ) → n ≤ cfg0.N → sProp 𝕄
  | 0, _ => Pipeline.scopedRest (Ix := Unit) (Name := ℕ) (U := UR sig nD τ) (Lvl := ℕ) (Val := Elt F) (τ := τ) spec0 c
  | n + 1, h => ΦS c (st V c n h)

/-- Before the first grid point the scratch is as launched. -/
theorem PhiS_zero (c : Dev nD) (n : ℕ) (h : n ≤ cfg0.N) (hz : n = 0) :
    PhiS V c n h = Pipeline.scopedRest (Ix := Unit) (Name := ℕ) (U := UR sig nD τ) (Lvl := ℕ) (Val := Elt F) (τ := τ) spec0 c := by
  subst hz; rfl

/-- Before a later grid point the scratch is what the previous point left. -/
theorem PhiS_pos (c : Dev nD) (n : ℕ) (h : n ≤ cfg0.N) (hz : n ≠ 0) (h' : n - 1 < cfg0.N) : PhiS V c n h = ΦS c (st V c (n - 1) h') := by
  cases n with
  | zero => exact absurd rfl hz
  | succ n => rfl

/-- The scratch at a state is the scratch at something. -/
theorem ΦS_rest (c : Dev nD) (p : St F) :
    ΦS c p ⊢ (Pipeline.scopedRest (Ix := Unit) (Name := ℕ) (U := UR sig nD τ) (Lvl := ℕ) (Val := Elt F) (τ := τ) spec0 c : sProp 𝕄) := by
  rw [rest_split]; unfold ΦS
  iintro ⟨⟨H0, ⟨%xt, -, H1⟩, H2, H3⟩, Hr⟩
  isplitr [Hr]
  · isplitl [H0]; · iexists _; iexact H0
    isplitl [H1]; · iexists _; iexact H1
    isplitl [H2]; · iexists _; iexact H2
    iexists _; iexact H3
  iexact Hr

/-- Whatever the scratch holds, it can be given back as some contents. -/
theorem PhiS_rest (c : Dev nD) (n : ℕ) (h : n ≤ cfg0.N) :
    PhiS V c n h ⊢ (Pipeline.scopedRest (Ix := Unit) (Name := ℕ) (U := UR sig nD τ) (Lvl := ℕ) (Val := Elt F) (τ := τ) spec0 c : sProp 𝕄) := by
  cases n with
  | zero => exact .rfl
  | succ n => exact ΦS_rest c _

/-- The scratch before a grid point, as some contents. -/
theorem PhiS_open (c : Dev nD) (n : ℕ) (h : n ≤ cfg0.N) :
    PhiS V c n h ⊢ iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
        ∗ Pipeline.scopedRestBut (Ix := Unit) (Name := ℕ) (U := UR sig nD τ) (Lvl := ℕ) (Val := Elt F) (τ := τ) spec0 c [cc0_scratch0, cc0_scratch1, cc0_scratch2, cc0_scratch3]) := by
  rw [← rest_split]; exact PhiS_rest V c n h

/-- The proof data of the launch on core `c`. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (st V c t.val t.isLt).out
  Φ t := PhiS V c t.val (Nat.le_of_lt_succ t.isLt)
  q _ := fullShare
  owed _ := 0

/-- A window's array, as the call finds it. -/
theorem A_eq (c : Dev nD) (w : Fin cfg0.W) : (dat V c).A w = V c (Proc.devRef .tc (Pipeline.arrRef spec0 w)) := by
  dsimp only [dat]

/-- The scratch before a grid point, by the point's number. -/
theorem PhiS_castSucc (c : Dev nD) (t : Fin cfg0.N) : (dat V c).Φ t.castSucc = PhiS V c t.val (Nat.le_of_lt t.isLt) := by
  dsimp only [dat]; exact Pipeline.Dat.Φ_castSucc (PhiS V c) t

/-- Window 0's block after a grid point. -/
theorem after_0 (c : Dev nD) (t : Fin cfg0.N) : (dat V c).after 0 t = iblk V c 0 t := by dsimp only [dat]
/-- Window 1's block after a grid point. -/
theorem after_1 (c : Dev nD) (t : Fin cfg0.N) : (dat V c).after 1 t = iblk V c 1 t := by dsimp only [dat]
/-- Window 2's block after a grid point. -/
theorem after_2 (c : Dev nD) (t : Fin cfg0.N) : (dat V c).after 2 t = iblk V c 2 t := by dsimp only [dat]
/-- Window 3's block after a grid point. -/
theorem after_3 (c : Dev nD) (t : Fin cfg0.N) : (dat V c).after 3 t = iblk V c 3 t := by dsimp only [dat]
/-- Window 4's block after a grid point. -/
theorem after_4 (c : Dev nD) (t : Fin cfg0.N) : (dat V c).after 4 t = iblk V c 4 t := by dsimp only [dat]
/-- Window 5's block after a grid point. -/
theorem after_5 (c : Dev nD) (t : Fin cfg0.N) : (dat V c).after 5 t = iblk V c 5 t := by dsimp only [dat]
/-- Window 6's block after a grid point. -/
theorem after_6 (c : Dev nD) (t : Fin cfg0.N) : (dat V c).after 6 t = iblk V c 6 t := by dsimp only [dat]
/-- Window 7's block after a grid point. -/
theorem after_7 (c : Dev nD) (t : Fin cfg0.N) : (dat V c).after 7 t = iblk V c 7 t := by dsimp only [dat]
/-- Window 8's block after a grid point. -/
theorem after_8 (c : Dev nD) (t : Fin cfg0.N) : (dat V c).after 8 t = iblk V c 8 t := by dsimp only [dat]
/-- Window 9's block after a grid point. -/
theorem after_9 (c : Dev nD) (t : Fin cfg0.N) : (dat V c).after 9 t = iblk V c 9 t := by dsimp only [dat]
/-- Window 10's block after a grid point. -/
theorem after_10 (c : Dev nD) (t : Fin cfg0.N) : (dat V c).after 10 t = (st V c t.val t.isLt).out := by dsimp only [dat]
/-- Window 0's block before a grid point. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Window 1's block before a grid point. -/
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Window 2's block before a grid point. -/
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Window 3's block before a grid point. -/
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Window 4's block before a grid point. -/
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Window 5's block before a grid point. -/
theorem before_5 (c : Dev nD) (t : Fin cfg0.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Window 6's block before a grid point. -/
theorem before_6 (c : Dev nD) (t : Fin cfg0.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
/-- Window 7's block before a grid point. -/
theorem before_7 (c : Dev nD) (t : Fin cfg0.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
/-- Window 8's block before a grid point. -/
theorem before_8 (c : Dev nD) (t : Fin cfg0.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
/-- Window 9's block before a grid point. -/
theorem before_9 (c : Dev nD) (t : Fin cfg0.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-- The body's condition holds at the points first in a sequence. -/
theorem hcond (t : Fin cfg0.N) : cond (grid0.coords t) ↔ t.val % 8 = 0 := by
  have ht : t.val < 16 := Nat.lt_of_lt_of_eq t.isLt N_0
  have e1 : (grid0.coords t 1).val = t.val / 1 % 8 := Pipeline.Grid.coords_val t 1 (by decide) rfl
  simp only [cond, e1]
  word_cmp

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- What the body returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

set_option maxHeartbeats 3200000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9]
  rw [show (dat V c).owesAt () t.succ = (dat V c).owesAt () t.castSucc from rfl,
    after_0, after_1, after_2, after_3, after_4, after_5, after_6, after_7, after_8, after_9, after_10]
  rw [show (dat V c).Φ t.succ = ΦS c (st V c t.val t.isLt) from rfl, PhiS_castSucc]
  have hN : t.val < 16 := lt_of_lt_of_eq t.isLt (show cfg0.N = 16 from N_0)
  by_cases h0 : t.val % 8 = 0
  · rw [st_A V c _ _ h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HΦ' := (PhiS_open V c t.val (Nat.le_of_lt t.isLt)) $$ HΦ
    icases HΦ' with ⟨⟨S0, S1, S2, S3⟩, Hr⟩
    iapply (runA c (grid0.coords t) _ _ _ _ _ _ _ _ _ _ _ _ _ _ _ _ _ _ _ _ _ _ _ _ _ _ _ _ _ _ ((hcond t).mpr h0) (ins V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [S0]; · iexact S0
    isplitl [S1]; · iexact S1
    isplitl [S2]; · iexact S2
    isplitl [S3]; · iexact S3
    iintro ⟨H0, H1, H2, H3, H4, H5, H6, H7, H8, H9, H10, S0, S1, S2, S3⟩
    isplitl [S0 S1 S2 S3 Hr]
    · unfold ΦS; isplitr [Hr]
      · isplitl [S0]; · iexact S0
        isplitl [S1]; · iexact S1
        isplitl [S2]; · iexact S2
        iexact S3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [PhiS_pos V c _ _ (fun hz => h0 (by rw [hz])) (Nat.lt_of_le_of_lt (Nat.sub_le _ _) t.isLt), st_B V c _ _ h0 (Nat.lt_of_le_of_lt (Nat.sub_le _ _) t.isLt)]
    generalize st V c (t.val - 1) _ = p
    unfold ΦS
    iintro ⟨⟨⟨S0, ⟨%xt, %hxt, S1⟩, S2, S3⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hB : stB (ins V c t) p = ⟨(step0 (ins V c t) p.s (row3 xt) p.wi p.wo).1, (step0 (ins V c t) p.s (row3 xt) p.wi p.wo).2.1, (step0 (ins V c t) p.s (row3 xt) p.wi p.wo).2.2, p.wi, p.wo⟩ := by
      rw [hxt]; rfl
    rw [hB]
    iapply (runB c (grid0.coords t) _ _ _ _ _ _ _ _ _ _ _ _ _ _ _ _ _ _ _ _ _ _ _ _ _ _ _ _ _ _ (fun h => h0 ((hcond t).mp h)) (ins V c t) p.s xt p.wi p.wo Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [S0]; · iexact S0
    isplitl [S1]; · iexact S1
    isplitl [S2]; · iexact S2
    isplitl [S3]; · iexact S3
    iintro ⟨H0, H1, H2, H3, H4, H5, H6, H7, H8, H9, H10, S0, S1, S2, S3⟩
    isplitl [S0 S1 S2 S3 Hr]
    · isplitr [Hr]
      · isplitl [S0]; · iexact S0
        isplitl [S1]; · iexact S1
        isplitl [S2]; · iexact S2
        iexact S3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The kernel's row of the body table at point `t`. -/
theorem defs₀_row (t : Fin cfg0.N) : (defs₀ (F := F)) .tc cfg0.body (cfg0.bodyArgs t (cfg0.slots t)) = bodyAt0 t := by
  unfold defs₀; rw [Defs.onTc_tc]

/-- The body obligation. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.Proof.KI.R0

end
-- ==== Proof.KernelIdealRun1.lean ====
/- The kernel body of launch 1 run at a grid point: the memory operations give exactly the values of `step1`. -/
module

public import proofs.«01_k».proof.Proof.KernelIdealStep
public import Idealize.ShloMosaic.Lib.Tactic

@[expose] public section

set_option maxRecDepth 16384

noncomputable section

namespace Cert.Proof.KI.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's one condition: the second grid coordinate is zero. -/
abbrev cond (i : grid1.Coords) : Prop := (Scalar.cmpi .ne (Scalar.extui (Scalar.cmpi .eq (BitVec.ofNat 32 (i 1).val) 0#32)) 0#32) = 1#1

set_option maxHeartbeats 1600000 in
/-- The body at a point first in a sequence: the scratch is set first, whatever it held. -/
theorem runA (c : Dev nD) (i : grid1.Coords) (arg2 : Memref sig .tc .vmem S1x256x1024 .bf16) (harg2 : arg2.IsWhole) (arg3 : Memref sig .tc .vmem S1x4384x1024 .bf16) (harg3 : arg3.IsWhole) (arg4 : Memref sig .tc .vmem S1x4x2304 .f32) (harg4 : arg4.IsWhole) (arg5 : Memref sig .tc .vmem S1x1x2304 .f32) (harg5 : arg5.IsWhole) (arg6 : Memref sig .tc .vmem S1x1x32 .f32) (harg6 : arg6.IsWhole) (arg7 : Memref sig .tc .vmem S1x1x32 .f32) (harg7 : arg7.IsWhole) (arg8 : Memref sig .tc .vmem S1x1x32 .f32) (harg8 : arg8.IsWhole) (arg9 : Memref sig .tc .vmem S1x1x2048 .f32) (harg9 : arg9.IsWhole) (arg10 : Memref sig .tc .vmem S1x1024x2048 .bf16) (harg10 : arg10.IsWhole) (arg11 : Memref sig .tc .vmem S32x2048 .bf16) (harg11 : arg11.IsWhole) (arg12 : Memref sig .tc .vmem S1x256x1024 .f32) (harg12 : arg12.IsWhole) (arg13 : Memref sig .tc .vmem S128x2048 .f32) (harg13 : arg13.IsWhole) (arg14 : Memref sig .tc .vmem S8x2304 .f32) (harg14 : arg14.IsWhole) (arg15 : Memref sig .tc .vmem S1024x4384 .bf16) (harg15 : arg15.IsWhole) (arg16 : Memref sig .tc .vmem S2048x1024 .bf16) (harg16 : arg16.IsWhole) (hc0 : cond i)
    (x : Ins F) (E : Set ℕ) (Kp : PUnit → sProp 𝕄) :
    iprop(owns (c : Thread nD τ) arg2 fullShare x.u ∗ owns (c : Thread nD τ) arg3 fullShare x.wi ∗ owns (c : Thread nD τ) arg4 fullShare x.cw ∗ owns (c : Thread nD τ) arg5 fullShare x.cb ∗ owns (c : Thread nD τ) arg6 fullShare x.dtb ∗ owns (c : Thread nD τ) arg7 fullShare x.alog ∗ owns (c : Thread nD τ) arg8 fullShare x.dd ∗ owns (c : Thread nD τ) arg9 fullShare x.nw ∗ owns (c : Thread nD τ) arg10 fullShare x.wo ∗ owns (c : Thread nD τ) arg11 fullShare x.e ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg2 fullShare x.u ∗ owns (c : Thread nD τ) arg3 fullShare x.wi ∗ owns (c : Thread nD τ) arg4 fullShare x.cw ∗ owns (c : Thread nD τ) arg5 fullShare x.cb ∗ owns (c : Thread nD τ) arg6 fullShare x.dtb ∗ owns (c : Thread nD τ) arg7 fullShare x.alog ∗ owns (c : Thread nD τ) arg8 fullShare x.dd ∗ owns (c : Thread nD τ) arg9 fullShare x.nw ∗ owns (c : Thread nD τ) arg10 fullShare x.wo ∗ owns (c : Thread nD τ) arg11 fullShare x.e ∗ owns (c : Thread nD τ) arg12 fullShare (step1 x k1_pay2 (row3 k1_pay3) (k1_pay4 x.wi) (k1_pay5 x.wo)).1 ∗ owns (c : Thread nD τ) arg13 fullShare (step1 x k1_pay2 (row3 k1_pay3) (k1_pay4 x.wi) (k1_pay5 x.wo)).2.1 ∗ (∃ xt' : Vec F S8x2304 .f32, ⌜row3 xt' = (step1 x k1_pay2 (row3 k1_pay3) (k1_pay4 x.wi) (k1_pay5 x.wo)).2.2⌝ ∗ owns (c : Thread nD τ) arg14 fullShare xt') ∗ owns (c : Thread nD τ) arg15 fullShare (k1_pay4 x.wi) ∗ owns (c : Thread nD τ) arg16 fullShare (k1_pay5 x.wo)) -∗ Kp ⟨⟩))
      ⊢ wp frame (wpE (defs₀ (F := F)) Variants.none c none) E (cc1__chunk_body i arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
  simp only [cc1__chunk_body_eq_skeleton]; unfold cc1__chunk_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  have hst : step1 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readCov [⟨Rect.unit ![0, 0] S128x2048.size inb_S128x2048_S128x2048_0_0, k1_pay2⟩] (Rect.unit ![0, 0] S128x2048.size inb_S128x2048_S128x2048_0_0).toLoadRect) (arg14.view.readCov [⟨Rect.unit ![0, 0] S8x2304.size inb_S8x2304_S8x2304_0_0, k1_pay3⟩] (Rect.unit (s := S8x2304) ![0, 0] S3x2304.size inb_S8x2304_S3x2304_0_0).toLoadRect) (arg15.view.readCov [⟨Rect.unit ![0, 0] S1024x4384.size inb_S1024x4384_S1024x4384_0_0, (k1_pay4 (arg3.view.readAt (Elt F) (Rect.unit ![0, 0, 0] S1x4384x1024.size inb_S1x4384x1024_S1x4384x1024_0_0_0).toLoadRect (harg3.unread x.wi)))⟩] (Rect.unit ![0, 0] S1024x4384.size inb_S1024x4384_S1024x4384_0_0).toLoadRect) (arg16.view.readCov [⟨Rect.unit ![0, 0] S2048x1024.size inb_S2048x1024_S2048x1024_0_0, (k1_pay5 (arg10.view.readAt (Elt F) (Rect.unit ![0, 0, 0] S1x1024x2048.size inb_S1x1024x2048_S1x1024x2048_0_0_0).toLoadRect (harg10.unread x.wo)))⟩] (Rect.unit ![0, 0] S2048x1024.size inb_S2048x1024_S2048x1024_0_0).toLoadRect) = step1 x k1_pay2 (row3 k1_pay3) (k1_pay4 x.wi) (k1_pay5 x.wo) :=
    step1_congr x (load_whole _ _ _) (load_whole _ _ _) (load_whole _ _ _) (load_whole _ _ _) (load_whole _ _ _) (load_whole _ _ _) (load_whole _ _ _) (load_whole _ _ _) (load_whole _ _ _) (load_whole _ _ _) (load_stored _ _ _ _ _) (load_rows_stored _ _ _) ((load_stored _ _ _ _ _).trans (congrArg k1_pay4 (load_whole _ _ _))) ((load_stored _ _ _ _ _).trans (congrArg k1_pay5 (load_whole _ _ _)))
  isplitl [H12]
  · iexists _; isplitr; swap; (· iexact H12); ipureintro
    refine read_stored (S := S1x256x1024) arg12.view _ (off := ![0, 0, 0]) inb_S1x256x1024_S1x256x1024_0_0_0 _ _ _ ?_
    refine Eq.trans (b := (step1 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readCov [⟨Rect.unit ![0, 0] S128x2048.size inb_S128x2048_S128x2048_0_0, k1_pay2⟩] (Rect.unit ![0, 0] S128x2048.size inb_S128x2048_S128x2048_0_0).toLoadRect) (arg14.view.readCov [⟨Rect.unit ![0, 0] S8x2304.size inb_S8x2304_S8x2304_0_0, k1_pay3⟩] (Rect.unit (s := S8x2304) ![0, 0] S3x2304.size inb_S8x2304_S3x2304_0_0).toLoadRect) (arg15.view.readCov [⟨Rect.unit ![0, 0] S1024x4384.size inb_S1024x4384_S1024x4384_0_0, (k1_pay4 (arg3.view.readAt (Elt F) (Rect.unit ![0, 0, 0] S1x4384x1024.size inb_S1x4384x1024_S1x4384x1024_0_0_0).toLoadRect (harg3.unread x.wi)))⟩] (Rect.unit ![0, 0] S1024x4384.size inb_S1024x4384_S1024x4384_0_0).toLoadRect) (arg16.view.readCov [⟨Rect.unit ![0, 0] S2048x1024.size inb_S2048x1024_S2048x1024_0_0, (k1_pay5 (arg10.view.readAt (Elt F) (Rect.unit ![0, 0, 0] S1x1024x2048.size inb_S1x1024x2048_S1x1024x2048_0_0_0).toLoadRect (harg10.unread x.wo)))⟩] (Rect.unit ![0, 0] S2048x1024.size inb_S2048x1024_S2048x1024_0_0).toLoadRect)).1) ?_ (congrArg (fun z => z.1) hst)
    sl_kernel_rfl
  isplitl [H13]
  · iexists _; isplitr; swap; (· iexact H13); ipureintro
    refine read_stored (S := S128x2048) arg13.view _ (off := ![0, 0]) inb_S128x2048_S128x2048_0_0 _ _ _ ?_
    refine Eq.trans (b := (step1 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readCov [⟨Rect.unit ![0, 0] S128x2048.size inb_S128x2048_S128x2048_0_0, k1_pay2⟩] (Rect.unit ![0, 0] S128x2048.size inb_S128x2048_S128x2048_0_0).toLoadRect) (arg14.view.readCov [⟨Rect.unit ![0, 0] S8x2304.size inb_S8x2304_S8x2304_0_0, k1_pay3⟩] (Rect.unit (s := S8x2304) ![0, 0] S3x2304.size inb_S8x2304_S3x2304_0_0).toLoadRect) (arg15.view.readCov [⟨Rect.unit ![0, 0] S1024x4384.size inb_S1024x4384_S1024x4384_0_0, (k1_pay4 (arg3.view.readAt (Elt F) (Rect.unit ![0, 0, 0] S1x4384x1024.size inb_S1x4384x1024_S1x4384x1024_0_0_0).toLoadRect (harg3.unread x.wi)))⟩] (Rect.unit ![0, 0] S1024x4384.size inb_S1024x4384_S1024x4384_0_0).toLoadRect) (arg16.view.readCov [⟨Rect.unit ![0, 0] S2048x1024.size inb_S2048x1024_S2048x1024_0_0, (k1_pay5 (arg10.view.readAt (Elt F) (Rect.unit ![0, 0, 0] S1x1024x2048.size inb_S1x1024x2048_S1x1024x2048_0_0_0).toLoadRect (harg10.unread x.wo)))⟩] (Rect.unit ![0, 0] S2048x1024.size inb_S2048x1024_S2048x1024_0_0).toLoadRect)).2.1) ?_ (congrArg (fun z => z.2.1) hst)
    sl_kernel_rfl
  isplitl [H14]
  · iexists _; isplitr; swap
    · iexists _; isplitr; swap; (· iexact H14); ipureintro; rfl
    ipureintro
    refine (row3_stored _ _ _ _).trans ?_
    refine Eq.trans (b := (step1 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readCov [⟨Rect.unit ![0, 0] S128x2048.size inb_S128x2048_S128x2048_0_0, k1_pay2⟩] (Rect.unit ![0, 0] S128x2048.size inb_S128x2048_S128x2048_0_0).toLoadRect) (arg14.view.readCov [⟨Rect.unit ![0, 0] S8x2304.size inb_S8x2304_S8x2304_0_0, k1_pay3⟩] (Rect.unit (s := S8x2304) ![0, 0] S3x2304.size inb_S8x2304_S3x2304_0_0).toLoadRect) (arg15.view.readCov [⟨Rect.unit ![0, 0] S1024x4384.size inb_S1024x4384_S1024x4384_0_0, (k1_pay4 (arg3.view.readAt (Elt F) (Rect.unit ![0, 0, 0] S1x4384x1024.size inb_S1x4384x1024_S1x4384x1024_0_0_0).toLoadRect (harg3.unread x.wi)))⟩] (Rect.unit ![0, 0] S1024x4384.size inb_S1024x4384_S1024x4384_0_0).toLoadRect) (arg16.view.readCov [⟨Rect.unit ![0, 0] S2048x1024.size inb_S2048x1024_S2048x1024_0_0, (k1_pay5 (arg10.view.readAt (Elt F) (Rect.unit ![0, 0, 0] S1x1024x2048.size inb_S1x1024x2048_S1x1024x2048_0_0_0).toLoadRect (harg10.unread x.wo)))⟩] (Rect.unit ![0, 0] S2048x1024.size inb_S2048x1024_S2048x1024_0_0).toLoadRect)).2.2) ?_ (congrArg (fun z => z.2.2) hst)
    sl_kernel_rfl
  isplitl [H15]
  · iexists _; isplitr; swap; (· iexact H15); ipureintro
    refine read_stored _ _ _ _ _ _ ?_
    exact congrArg k1_pay4 (load_whole _ _ _)
  iexists _; isplitr; swap; (· iexact H16); ipureintro
  refine read_stored _ _ _ _ _ _ ?_
  exact congrArg k1_pay5 (load_whole _ _ _)

set_option maxHeartbeats 1600000 in
/-- The body at a point later in a sequence: the scratch as the point before left it. -/
theorem runB (c : Dev nD) (i : grid1.Coords) (arg2 : Memref sig .tc .vmem S1x256x1024 .bf16) (harg2 : arg2.IsWhole) (arg3 : Memref sig .tc .vmem S1x4384x1024 .bf16) (harg3 : arg3.IsWhole) (arg4 : Memref sig .tc .vmem S1x4x2304 .f32) (harg4 : arg4.IsWhole) (arg5 : Memref sig .tc .vmem S1x1x2304 .f32) (harg5 : arg5.IsWhole) (arg6 : Memref sig .tc .vmem S1x1x32 .f32) (harg6 : arg6.IsWhole) (arg7 : Memref sig .tc .vmem S1x1x32 .f32) (harg7 : arg7.IsWhole) (arg8 : Memref sig .tc .vmem S1x1x32 .f32) (harg8 : arg8.IsWhole) (arg9 : Memref sig .tc .vmem S1x1x2048 .f32) (harg9 : arg9.IsWhole) (arg10 : Memref sig .tc .vmem S1x1024x2048 .bf16) (harg10 : arg10.IsWhole) (arg11 : Memref sig .tc .vmem S32x2048 .bf16) (harg11 : arg11.IsWhole) (arg12 : Memref sig .tc .vmem S1x256x1024 .f32) (harg12 : arg12.IsWhole) (arg13 : Memref sig .tc .vmem S128x2048 .f32) (harg13 : arg13.IsWhole) (arg14 : Memref sig .tc .vmem S8x2304 .f32) (harg14 : arg14.IsWhole) (arg15 : Memref sig .tc .vmem S1024x4384 .bf16) (harg15 : arg15.IsWhole) (arg16 : Memref sig .tc .vmem S2048x1024 .bf16) (harg16 : arg16.IsWhole) (hc0 : ¬cond i)
    (x : Ins F) (s : Vec F S128x2048 .f32) (xt : Vec F S8x2304 .f32) (wiT : Vec F S1024x4384 .bf16) (woT : Vec F S2048x1024 .bf16) (E : Set ℕ) (Kp : PUnit → sProp 𝕄) :
    iprop(owns (c : Thread nD τ) arg2 fullShare x.u ∗ owns (c : Thread nD τ) arg3 fullShare x.wi ∗ owns (c : Thread nD τ) arg4 fullShare x.cw ∗ owns (c : Thread nD τ) arg5 fullShare x.cb ∗ owns (c : Thread nD τ) arg6 fullShare x.dtb ∗ owns (c : Thread nD τ) arg7 fullShare x.alog ∗ owns (c : Thread nD τ) arg8 fullShare x.dd ∗ owns (c : Thread nD τ) arg9 fullShare x.nw ∗ owns (c : Thread nD τ) arg10 fullShare x.wo ∗ owns (c : Thread nD τ) arg11 fullShare x.e ∗ (∃ d, owns (c : Thread nD τ) arg12 fullShare d) ∗ owns (c : Thread nD τ) arg13 fullShare s ∗ owns (c : Thread nD τ) arg14 fullShare xt ∗ owns (c : Thread nD τ) arg15 fullShare wiT ∗ owns (c : Thread nD τ) arg16 fullShare woT
      ∗ (iprop(owns (c : Thread nD τ) arg2 fullShare x.u ∗ owns (c : Thread nD τ) arg3 fullShare x.wi ∗ owns (c : Thread nD τ) arg4 fullShare x.cw ∗ owns (c : Thread nD τ) arg5 fullShare x.cb ∗ owns (c : Thread nD τ) arg6 fullShare x.dtb ∗ owns (c : Thread nD τ) arg7 fullShare x.alog ∗ owns (c : Thread nD τ) arg8 fullShare x.dd ∗ owns (c : Thread nD τ) arg9 fullShare x.nw ∗ owns (c : Thread nD τ) arg10 fullShare x.wo ∗ owns (c : Thread nD τ) arg11 fullShare x.e ∗ owns (c : Thread nD τ) arg12 fullShare (step1 x s (row3 xt) wiT woT).1 ∗ owns (c : Thread nD τ) arg13 fullShare (step1 x s (row3 xt) wiT woT).2.1 ∗ (∃ xt' : Vec F S8x2304 .f32, ⌜row3 xt' = (step1 x s (row3 xt) wiT woT).2.2⌝ ∗ owns (c : Thread nD τ) arg14 fullShare xt') ∗ owns (c : Thread nD τ) arg15 fullShare wiT ∗ owns (c : Thread nD τ) arg16 fullShare woT) -∗ Kp ⟨⟩))
      ⊢ wp frame (wpE (defs₀ (F := F)) Variants.none c none) E (cc1__chunk_body i arg2 harg2 arg3 harg3 arg4 harg4 arg5 harg5 arg6 harg6 arg7 harg7 arg8 harg8 arg9 harg9 arg10 harg10 arg11 harg11 arg12 harg12 arg13 harg13 arg14 harg14 arg15 harg15 arg16 harg16) Kp := by
  simp only [cc1__chunk_body_eq_skeleton]; unfold cc1__chunk_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16
  sl_exec (disch := first | sl_exact hc0)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  have hst : step1 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readAt (Elt F) (Rect.unit ![0, 0] S128x2048.size inb_S128x2048_S128x2048_0_0).toLoadRect (harg13.unread s)) (arg14.view.readAt (Elt F) (Rect.unit (s := S8x2304) ![0, 0] S3x2304.size inb_S8x2304_S3x2304_0_0).toLoadRect (harg14.unread xt)) (arg15.view.readAt (Elt F) (Rect.unit ![0, 0] S1024x4384.size inb_S1024x4384_S1024x4384_0_0).toLoadRect (harg15.unread wiT)) (arg16.view.readAt (Elt F) (Rect.unit ![0, 0] S2048x1024.size inb_S2048x1024_S2048x1024_0_0).toLoadRect (harg16.unread woT)) = step1 x s (row3 xt) wiT woT :=
    step1_congr x (load_whole _ _ _) (load_whole _ _ _) (load_whole _ _ _) (load_whole _ _ _) (load_whole _ _ _) (load_whole _ _ _) (load_whole _ _ _) (load_whole _ _ _) (load_whole _ _ _) (load_whole _ _ _) (load_whole _ _ _) (load_rows _ _) (load_whole _ _ _) (load_whole _ _ _)
  isplitl [H12]
  · iexists _; isplitr; swap; (· iexact H12); ipureintro
    refine read_stored (S := S1x256x1024) arg12.view _ (off := ![0, 0, 0]) inb_S1x256x1024_S1x256x1024_0_0_0 _ _ [] ?_
    refine Eq.trans (b := (step1 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readAt (Elt F) (Rect.unit ![0, 0] S128x2048.size inb_S128x2048_S128x2048_0_0).toLoadRect (harg13.unread s)) (arg14.view.readAt (Elt F) (Rect.unit (s := S8x2304) ![0, 0] S3x2304.size inb_S8x2304_S3x2304_0_0).toLoadRect (harg14.unread xt)) (arg15.view.readAt (Elt F) (Rect.unit ![0, 0] S1024x4384.size inb_S1024x4384_S1024x4384_0_0).toLoadRect (harg15.unread wiT)) (arg16.view.readAt (Elt F) (Rect.unit ![0, 0] S2048x1024.size inb_S2048x1024_S2048x1024_0_0).toLoadRect (harg16.unread woT))).1) ?_ (congrArg (fun z => z.1) hst)
    sl_kernel_rfl
  isplitl [H13]
  · iexists _; isplitr; swap; (· iexact H13); ipureintro
    refine read_stored (S := S128x2048) arg13.view _ (off := ![0, 0]) inb_S128x2048_S128x2048_0_0 _ _ [] ?_
    refine Eq.trans (b := (step1 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readAt (Elt F) (Rect.unit ![0, 0] S128x2048.size inb_S128x2048_S128x2048_0_0).toLoadRect (harg13.unread s)) (arg14.view.readAt (Elt F) (Rect.unit (s := S8x2304) ![0, 0] S3x2304.size inb_S8x2304_S3x2304_0_0).toLoadRect (harg14.unread xt)) (arg15.view.readAt (Elt F) (Rect.unit ![0, 0] S1024x4384.size inb_S1024x4384_S1024x4384_0_0).toLoadRect (harg15.unread wiT)) (arg16.view.readAt (Elt F) (Rect.unit ![0, 0] S2048x1024.size inb_S2048x1024_S2048x1024_0_0).toLoadRect (harg16.unread woT))).2.1) ?_ (congrArg (fun z => z.2.1) hst)
    sl_kernel_rfl
  isplitl [H14]
  · iexists _; isplitr; swap
    · iexists _; isplitr; swap; (· iexact H14); ipureintro; rfl
    ipureintro
    refine (row3_stored _ _ _ _).trans ?_
    refine Eq.trans (b := (step1 ⟨(arg2.view.readAt (Elt F) (Rect.unit ![0, 0, 0] S1x256x1024.size inb_S1x256x1024_S1x256x1024_0_0_0).toLoadRect (harg2.unread x.u)), (arg3.view.readAt (Elt F) (Rect.unit ![0, 0, 0] S1x4384x1024.size inb_S1x4384x1024_S1x4384x1024_0_0_0).toLoadRect (harg3.unread x.wi)), (arg4.view.readAt (Elt F) (Rect.unit ![0, 0, 0] S1x4x2304.size inb_S1x4x2304_S1x4x2304_0_0_0).toLoadRect (harg4.unread x.cw)), (arg5.view.readAt (Elt F) (Rect.unit ![0, 0, 0] S1x1x2304.size inb_S1x1x2304_S1x1x2304_0_0_0).toLoadRect (harg5.unread x.cb)), (arg6.view.readAt (Elt F) (Rect.unit ![0, 0, 0] S1x1x32.size inb_S1x1x32_S1x1x32_0_0_0).toLoadRect (harg6.unread x.dtb)), (arg7.view.readAt (Elt F) (Rect.unit ![0, 0, 0] S1x1x32.size inb_S1x1x32_S1x1x32_0_0_0).toLoadRect (harg7.unread x.alog)), (arg8.view.readAt (Elt F) (Rect.unit ![0, 0, 0] S1x1x32.size inb_S1x1x32_S1x1x32_0_0_0).toLoadRect (harg8.unread x.dd)), (arg9.view.readAt (Elt F) (Rect.unit ![0, 0, 0] S1x1x2048.size inb_S1x1x2048_S1x1x2048_0_0_0).toLoadRect (harg9.unread x.nw)), (arg10.view.readAt (Elt F) (Rect.unit ![0, 0, 0] S1x1024x2048.size inb_S1x1024x2048_S1x1024x2048_0_0_0).toLoadRect (harg10.unread x.wo)), (arg11.view.readAt (Elt F) (Rect.unit ![0, 0] S32x2048.size inb_S32x2048_S32x2048_0_0).toLoadRect (harg11.unread x.e))⟩ (arg13.view.readAt (Elt F) (Rect.unit ![0, 0] S128x2048.size inb_S128x2048_S128x2048_0_0).toLoadRect (harg13.unread s)) (arg14.view.readAt (Elt F) (Rect.unit (s := S8x2304) ![0, 0] S3x2304.size inb_S8x2304_S3x2304_0_0).toLoadRect (harg14.unread xt)) (arg15.view.readAt (Elt F) (Rect.unit ![0, 0] S1024x4384.size inb_S1024x4384_S1024x4384_0_0).toLoadRect (harg15.unread wiT)) (arg16.view.readAt (Elt F) (Rect.unit ![0, 0] S2048x1024.size inb_S2048x1024_S2048x1024_0_0).toLoadRect (harg16.unread woT))).2.2) ?_ (congrArg (fun z => z.2.2) hst)
    sl_kernel_rfl
  isplitl [H15]
  · iexists _; isplitr; swap; (· iexact H15); ipureintro
    exact harg15.read_unread _
  iexists _; isplitr; swap; (· iexact H16); ipureintro
  exact harg16.read_unread _

end Cert.Proof.KI.R1

end
-- ==== Proof.KernelIdealReg1.lean ====
/- The proof data of launch 1: what the scratch and the output hold after each grid point, and the body obligation. -/
module

public import proofs.«01_k».proof.Proof.KernelIdealRun1
public import Idealize.ShloMosaic.Lib.WordCmp
public import Idealize.ShloMosaic.Lib.Claim
public import Idealize.ShloMosaic.Lib.Pipeline.RegionArraysS
public import proofs.«01_k».proof.Proof.Gen.KernelIdeal.Launch

@[expose] public section

set_option maxRecDepth 16384

noncomputable section

namespace Cert.Proof.KI.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- Window `w`'s block at point `t`, read off its array as the launch finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The ten inputs of the body at point `t`. -/
def ins (c : Dev nD) (t : Fin cfg1.N) : Ins F :=
  ⟨iblk V c 0 t, iblk V c 1 t, iblk V c 2 t, iblk V c 3 t, iblk V c 4 t, iblk V c 5 t, iblk V c 6 t, iblk V c 7 t, iblk V c 8 t, iblk V c 9 t⟩

/-- What one point leaves: the output block, the state, the last three rows, the two transposed weights. -/
structure St (F : FTy → Type) where
  out : Vec F S1x256x1024 .f32
  s : Vec F S128x2048 .f32
  t3 : Vec F S3x2304 .f32
  wi : Vec F S1024x4384 .bf16
  wo : Vec F S2048x1024 .bf16

/-- A point first in its sequence. -/
def stA (x : Ins F) : St F :=
  ⟨(step1 x k1_pay2 (row3 k1_pay3) (k1_pay4 x.wi) (k1_pay5 x.wo)).1, (step1 x k1_pay2 (row3 k1_pay3) (k1_pay4 x.wi) (k1_pay5 x.wo)).2.1,
    (step1 x k1_pay2 (row3 k1_pay3) (k1_pay4 x.wi) (k1_pay5 x.wo)).2.2, k1_pay4 x.wi, k1_pay5 x.wo⟩

/-- A point later in its sequence, after `p`. -/
def stB (x : Ins F) (p : St F) : St F :=
  ⟨(step1 x p.s p.t3 p.wi p.wo).1, (step1 x p.s p.t3 p.wi p.wo).2.1, (step1 x p.s p.t3 p.wi p.wo).2.2, p.wi, p.wo⟩

/-- What the points up to `n` leave. -/
def st (c : Dev nD) : (n : ℕ) → n < cfg1.N → St F
  | 0, h => stA (ins V c ⟨0, h⟩)
  | n + 1, h => if (n + 1) % 8 = 0 then stA (ins V c ⟨n + 1, h⟩) else stB (ins V c ⟨n + 1, h⟩) (st c n (Nat.lt_of_succ_lt h))

/-- At a point first in its sequence. -/
theorem st_A (c : Dev nD) (n : ℕ) (h : n < cfg1.N) (h0 : n % 8 = 0) : st V c n h = stA (ins V c ⟨n, h⟩) := by
  cases n with
  | zero => rfl
  | succ n => exact if_pos h0

/-- At a point later in its sequence. -/
theorem st_B (c : Dev nD) (n : ℕ) (h : n < cfg1.N) (h0 : ¬n % 8 = 0) (h' : n - 1 < cfg1.N) : st V c n h = stB (ins V c ⟨n, h⟩) (st V c (n - 1) h') := by
  cases n with
  | zero => exact absurd rfl h0
  | succ n => exact if_neg h0

/-- The scratch at a state, with every other scoped buffer that no window stages. -/
def ΦS (c : Dev nD) (p : St F) : sProp 𝕄 :=
  iprop((owns (c : Thread nD τ) (Memref.whole cc1_scratch0) fullShare p.s
    ∗ (∃ xt : Vec F S8x2304 .f32, ⌜row3 xt = p.t3⌝ ∗ owns (c : Thread nD τ) (Memref.whole cc1_scratch1) fullShare xt)
    ∗ owns (c : Thread nD τ) (Memref.whole cc1_scratch2) fullShare p.wi ∗ owns (c : Thread nD τ) (Memref.whole cc1_scratch3) fullShare p.wo)
    ∗ Pipeline.scopedRestBut (Ix := Unit) (Name := ℕ) (U := UR sig nD τ) (Lvl := ℕ) (Val := Elt F) (τ := τ) spec1 c [cc1_scratch0, cc1_scratch1, cc1_scratch2, cc1_scratch3])

/-- The scoped buffers no window stages: the four scratch buffers at anything, and the others. -/
theorem rest_split (c : Dev nD) :
    (Pipeline.scopedRest (Ix := Unit) (Name := ℕ) (U := UR sig nD τ) (Lvl := ℕ) (Val := Elt F) spec1 c : sProp 𝕄)
      = iprop(((∃ d, owns (c : Thread nD τ) (Memref.whole cc1_scratch0) fullShare d) ∗ (∃ d, owns (c : Thread nD τ) (Memref.whole cc1_scratch1) fullShare d)
        ∗ (∃ d, owns (c : Thread nD τ) (Memref.whole cc1_scratch2) fullShare d) ∗ (∃ d, owns (c : Thread nD τ) (Memref.whole cc1_scratch3) fullShare d))
        ∗ Pipeline.scopedRestBut (Ix := Unit) (Name := ℕ) (U := UR sig nD τ) (Lvl := ℕ) (Val := Elt F) (τ := τ) spec1 c [cc1_scratch0, cc1_scratch1, cc1_scratch2, cc1_scratch3]) := by
  rw [Pipeline.scopedRest_split_of_list spec1 c [cc1_scratch0, cc1_scratch1, cc1_scratch2, cc1_scratch3] (by decide) (by decide)]
  simp only [owns_whole]
  rfl

/-- The invariant before point `n`. -/
def PhiS (c : Dev nD) : (n : ℕ) → n ≤ cfg1.N → sProp 𝕄
  | 0, _ => Pipeline.scopedRest (Ix := Unit) (Name := ℕ) (U := UR sig nD τ) (Lvl := ℕ) (Val := Elt F) (τ := τ) spec1 c
  | n + 1, h => ΦS c (st V c n h)

/-- Before the first grid point the scratch is as launched. -/
theorem PhiS_zero (c : Dev nD) (n : ℕ) (h : n ≤ cfg1.N) (hz : n = 0) :
    PhiS V c n h = Pipeline.scopedRest (Ix := Unit) (Name := ℕ) (U := UR sig nD τ) (Lvl := ℕ) (Val := Elt F) (τ := τ) spec1 c := by
  subst hz; rfl

/-- Before a later grid point the scratch is what the previous point left. -/
theorem PhiS_pos (c : Dev nD) (n : ℕ) (h : n ≤ cfg1.N) (hz : n ≠ 0) (h' : n - 1 < cfg1.N) : PhiS V c n h = ΦS c (st V c (n - 1) h') := by
  cases n with
  | zero => exact absurd rfl hz
  | succ n => rfl

/-- The scratch at a state is the scratch at something. -/
theorem ΦS_rest (c : Dev nD) (p : St F) :
    ΦS c p ⊢ (Pipeline.scopedRest (Ix := Unit) (Name := ℕ) (U := UR sig nD τ) (Lvl := ℕ) (Val := Elt F) (τ := τ) spec1 c : sProp 𝕄) := by
  rw [rest_split]; unfold ΦS
  iintro ⟨⟨H0, ⟨%xt, -, H1⟩, H2, H3⟩, Hr⟩
  isplitr [Hr]
  · isplitl [H0]; · iexists _; iexact H0
    isplitl [H1]; · iexists _; iexact H1
    isplitl [H2]; · iexists _; iexact H2
    iexists _; iexact H3
  iexact Hr

/-- Whatever the scratch holds, it can be given back as some contents. -/
theorem PhiS_rest (c : Dev nD) (n : ℕ) (h : n ≤ cfg1.N) :
    PhiS V c n h ⊢ (Pipeline.scopedRest (Ix := Unit) (Name := ℕ) (U := UR sig nD τ) (Lvl := ℕ) (Val := Elt F) (τ := τ) spec1 c : sProp 𝕄) := by
  cases n with
  | zero => exact .rfl
  | succ n => exact ΦS_rest c _

/-- The scratch before a grid point, as some contents. -/
theorem PhiS_open (c : Dev nD) (n : ℕ) (h : n ≤ cfg1.N) :
    PhiS V c n h ⊢ iprop(((∃ d, owns (c : Thread nD τ) (Memref.whole cc1_scratch0) fullShare d) ∗ (∃ d, owns (c : Thread nD τ) (Memref.whole cc1_scratch1) fullShare d)
        ∗ (∃ d, owns (c : Thread nD τ) (Memref.whole cc1_scratch2) fullShare d) ∗ (∃ d, owns (c : Thread nD τ) (Memref.whole cc1_scratch3) fullShare d))
        ∗ Pipeline.scopedRestBut (Ix := Unit) (Name := ℕ) (U := UR sig nD τ) (Lvl := ℕ) (Val := Elt F) (τ := τ) spec1 c [cc1_scratch0, cc1_scratch1, cc1_scratch2, cc1_scratch3]) := by
  rw [← rest_split]; exact PhiS_rest V c n h

/-- The proof data of the launch on core `c`. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (st V c t.val t.isLt).out
  Φ t := PhiS V c t.val (Nat.le_of_lt_succ t.isLt)
  q _ := fullShare
  owed _ := 0

/-- A window's array, as the call finds it. -/
theorem A_eq (c : Dev nD) (w : Fin cfg1.W) : (dat V c).A w = V c (Proc.devRef .tc (Pipeline.arrRef spec1 w)) := by
  dsimp only [dat]

/-- The scratch before a grid point, by the point's number. -/
theorem PhiS_castSucc (c : Dev nD) (t : Fin cfg1.N) : (dat V c).Φ t.castSucc = PhiS V c t.val (Nat.le_of_lt t.isLt) := by
  dsimp only [dat]; exact Pipeline.Dat.Φ_castSucc (PhiS V c) t

/-- Window 0's block after a grid point. -/
theorem after_0 (c : Dev nD) (t : Fin cfg1.N) : (dat V c).after 0 t = iblk V c 0 t := by dsimp only [dat]
/-- Window 1's block after a grid point. -/
theorem after_1 (c : Dev nD) (t : Fin cfg1.N) : (dat V c).after 1 t = iblk V c 1 t := by dsimp only [dat]
/-- Window 2's block after a grid point. -/
theorem after_2 (c : Dev nD) (t : Fin cfg1.N) : (dat V c).after 2 t = iblk V c 2 t := by dsimp only [dat]
/-- Window 3's block after a grid point. -/
theorem after_3 (c : Dev nD) (t : Fin cfg1.N) : (dat V c).after 3 t = iblk V c 3 t := by dsimp only [dat]
/-- Window 4's block after a grid point. -/
theorem after_4 (c : Dev nD) (t : Fin cfg1.N) : (dat V c).after 4 t = iblk V c 4 t := by dsimp only [dat]
/-- Window 5's block after a grid point. -/
theorem after_5 (c : Dev nD) (t : Fin cfg1.N) : (dat V c).after 5 t = iblk V c 5 t := by dsimp only [dat]
/-- Window 6's block after a grid point. -/
theorem after_6 (c : Dev nD) (t : Fin cfg1.N) : (dat V c).after 6 t = iblk V c 6 t := by dsimp only [dat]
/-- Window 7's block after a grid point. -/
theorem after_7 (c : Dev nD) (t : Fin cfg1.N) : (dat V c).after 7 t = iblk V c 7 t := by dsimp only [dat]
/-- Window 8's block after a grid point. -/
theorem after_8 (c : Dev nD) (t : Fin cfg1.N) : (dat V c).after 8 t = iblk V c 8 t := by dsimp only [dat]
/-- Window 9's block after a grid point. -/
theorem after_9 (c : Dev nD) (t : Fin cfg1.N) : (dat V c).after 9 t = iblk V c 9 t := by dsimp only [dat]
/-- Window 10's block after a grid point. -/
theorem after_10 (c : Dev nD) (t : Fin cfg1.N) : (dat V c).after 10 t = (st V c t.val t.isLt).out := by dsimp only [dat]
/-- Window 0's block before a grid point. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Window 1's block before a grid point. -/
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Window 2's block before a grid point. -/
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Window 3's block before a grid point. -/
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Window 4's block before a grid point. -/
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Window 5's block before a grid point. -/
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Window 6's block before a grid point. -/
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
/-- Window 7's block before a grid point. -/
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
/-- Window 8's block before a grid point. -/
theorem before_8 (c : Dev nD) (t : Fin cfg1.N) (d) : (dat V c).before 8 t d = iblk V c 8 t :=
  ((dat V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
/-- Window 9's block before a grid point. -/
theorem before_9 (c : Dev nD) (t : Fin cfg1.N) (d) : (dat V c).before 9 t d = iblk V c 9 t :=
  ((dat V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-- The body's condition holds at the points first in a sequence. -/
theorem hcond (t : Fin cfg1.N) : cond (grid1.coords t) ↔ t.val % 8 = 0 := by
  have ht : t.val < 16 := Nat.lt_of_lt_of_eq t.isLt N_1
  have e1 : (grid1.coords t 1).val = t.val / 1 % 8 := Pipeline.Grid.coords_val t 1 (by decide) rfl
  simp only [cond, e1]
  word_cmp

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d)))

/-- What the body returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t))

set_option maxHeartbeats 3200000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9]
  rw [show (dat V c).owesAt () t.succ = (dat V c).owesAt () t.castSucc from rfl,
    after_0, after_1, after_2, after_3, after_4, after_5, after_6, after_7, after_8, after_9, after_10]
  rw [show (dat V c).Φ t.succ = ΦS c (st V c t.val t.isLt) from rfl, PhiS_castSucc]
  have hN : t.val < 16 := lt_of_lt_of_eq t.isLt (show cfg1.N = 16 from N_1)
  by_cases h0 : t.val % 8 = 0
  · rw [st_A V c _ _ h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HΦ' := (PhiS_open V c t.val (Nat.le_of_lt t.isLt)) $$ HΦ
    icases HΦ' with ⟨⟨S0, S1, S2, S3⟩, Hr⟩
    iapply (runA c (grid1.coords t) _ _ _ _ _ _ _ _ _ _ _ _ _ _ _ _ _ _ _ _ _ _ _ _ _ _ _ _ _ _ ((hcond t).mpr h0) (ins V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [S0]; · iexact S0
    isplitl [S1]; · iexact S1
    isplitl [S2]; · iexact S2
    isplitl [S3]; · iexact S3
    iintro ⟨H0, H1, H2, H3, H4, H5, H6, H7, H8, H9, H10, S0, S1, S2, S3⟩
    isplitl [S0 S1 S2 S3 Hr]
    · unfold ΦS; isplitr [Hr]
      · isplitl [S0]; · iexact S0
        isplitl [S1]; · iexact S1
        isplitl [S2]; · iexact S2
        iexact S3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [PhiS_pos V c _ _ (fun hz => h0 (by rw [hz])) (Nat.lt_of_le_of_lt (Nat.sub_le _ _) t.isLt), st_B V c _ _ h0 (Nat.lt_of_le_of_lt (Nat.sub_le _ _) t.isLt)]
    generalize st V c (t.val - 1) _ = p
    unfold ΦS
    iintro ⟨⟨⟨S0, ⟨%xt, %hxt, S1⟩, S2, S3⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hB : stB (ins V c t) p = ⟨(step1 (ins V c t) p.s (row3 xt) p.wi p.wo).1, (step1 (ins V c t) p.s (row3 xt) p.wi p.wo).2.1, (step1 (ins V c t) p.s (row3 xt) p.wi p.wo).2.2, p.wi, p.wo⟩ := by
      rw [hxt]; rfl
    rw [hB]
    iapply (runB c (grid1.coords t) _ _ _ _ _ _ _ _ _ _ _ _ _ _ _ _ _ _ _ _ _ _ _ _ _ _ _ _ _ _ (fun h => h0 ((hcond t).mp h)) (ins V c t) p.s xt p.wi p.wo Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [S0]; · iexact S0
    isplitl [S1]; · iexact S1
    isplitl [S2]; · iexact S2
    isplitl [S3]; · iexact S3
    iintro ⟨H0, H1, H2, H3, H4, H5, H6, H7, H8, H9, H10, S0, S1, S2, S3⟩
    isplitl [S0 S1 S2 S3 Hr]
    · isplitr [Hr]
      · isplitl [S0]; · iexact S0
        isplitl [S1]; · iexact S1
        isplitl [S2]; · iexact S2
        iexact S3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The kernel's row of the body table at point `t`. -/
theorem defs₀_row (t : Fin cfg1.N) : (defs₀ (F := F)) .tc cfg1.body (cfg1.bodyArgs t (cfg1.slots t)) = bodyAt1 t := by
  unfold defs₀; rw [Defs.onTc_tc]

/-- The body obligation. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.Proof.KI.R1

end
-- ==== Proof.KernelIdealMain.lean ====
/- The run of the whole program: the host lines and the two launches, chained. -/
module

public import proofs.«01_k».proof.Proof.KernelIdealReg0
public import proofs.«01_k».proof.Proof.KernelIdealReg1
public import proofs.«01_k».proof.Proof.Gen.KernelIdeal.Regions

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)
variable {F : FTy → Type} [FloatOps F] [Named F]

local notation "𝕄" => MT nD τ sig Unit (Elt F) ℕ (UR sig nD τ) ℕ

/-- The pipeline library's algebra is the certificate's. -/
abbrev EP : Emb (UR sig nD τ) (MT nD τ sig Unit (Elt F) ℕ (UR sig nD τ) ℕ) := emb₁

/-- The levels: the one index on the TensorCore, at level zero. -/
abbrev L (g : GSem nD τ sig) : Finset Unit := if g.1.2 = .tc then {()} else ∅
/-- The level of every counter: zero. -/
abbrev lv : GSem nD τ sig → Unit → ℕ := fun _ _ => 0

variable (m : (ℓ : Loc nD τ sig) → Buf (Elt F) ℓ) (ρ : Dev nD → PrngReg)

/-- What launch 0 leaves in its output array. -/
def fin0 (c : Dev nD) : Buf (Elt F) ((c : Thread nD τ).loc main_call0_v53) := (R0.dat (V1 m) c).arrAt 10 cfg0.N

/-- The contents the first launch leaves, the second's unknown yet. -/
def outs0 : Outs (F := F) := fun _ r c => if h : r = main_call0_v53 then h ▸ fin0 m c else m ((c : Thread nD τ).loc r)

/-- What launch 1 leaves in its output array. -/
def fin1 (c : Dev nD) : Buf (Elt F) ((c : Thread nD τ).loc main_call0_v62) := (R1.dat (V3 m (outs0 m)) c).arrAt 10 cfg1.N

/-- What the launches leave. -/
def outs : Outs (F := F) := fun _ r c => if h : r = main_call0_v53 then h ▸ fin0 m c else if h : r = main_call0_v62 then h ▸ fin1 m c else m ((c : Thread nD τ).loc r)

/-- The first call's output. -/
theorem outs_0 (c : Dev nD) : outs m 2 main_call0_v53 c = fin0 m c := dif_pos rfl
/-- The second call's output. -/
theorem outs_1 (c : Dev nD) : outs m 4 main_call0_v62 c = fin1 m c := (dif_neg (by decide)).trans (dif_pos rfl)
/-- The first call's output, before the second call. -/
theorem outs0_0 (c : Dev nD) : outs0 m 2 main_call0_v53 c = fin0 m c := dif_pos rfl

/-- The contents the second launch finds. -/
theorem V3_eq : V3 m (outs m) = V3 m (outs0 m) := by
  funext c; unfold V3 V2; rw [outs_0, outs0_0]

/-- The proof data of the two launches. -/
def pdats (p : Fin 2) (c : Dev nD) : Dat τ (Elt F) Unit ℕ (UR sig nD τ) ℕ (cfgs p) c :=
  match p with
  | 0 => R0.dat (V1 m) c
  | 1 => R1.dat (V3 m (outs0 m)) c

/-- No core owes anything: the levels cut. -/
theorem hcut (p : Fin 2) : Pipeline.LevelCut (pcfgs (F := F)) Gen.adm () L lv p (fun _ => 0) (fun _ => 0) where
  hι c w s := by show () ∈ (if (Proc.tc : Proc τ) = .tc then {()} else ∅ : Finset Unit); simp
  hιb c w s := Nat.le_refl _
  hD c g i h := absurd h (Nat.lt_irrefl 0)

set_option backward.isDefEq.respectTransparency.types false in
/-- Launch 0's record. -/
def reg0 : RegionSeg (pcfgs (F := F)) Gen.adm (pdats m) () defs₀ Variants.none L lv 0 :=
  RegionSeg.ofHeldIn (pcfgs (F := F)) Gen.adm (pdats m) () defs₀ Variants.none L lv 0 (fun _ => 0) (Pipeline.ucRefs τ sig)
    (fun _ => iprop(emp)) (fun _ => iprop(emp)) launch0.toP rfl (fun c => (R0.body_obligation (V1 m) c).loose) (fun _ _ => rfl) (fun _ => rfl)
    (fun c => (R0.dat (V1 m) c).share_full fun _ => rfl)
    (fun c => by
      show iprop(Pipeline.scopedRest spec0 c ∗ emp) ⊢ Pipeline.scopedRest spec0 c
      iintro ⟨H, -⟩; iexact H)
    (fun c => by
      refine BI.Entails.trans (Q := Pipeline.scopedRest spec0 c) ?_ ?_
      · exact R0.PhiS_rest (V1 m) c cfg0.N (Nat.le_refl _)
      · show Pipeline.scopedRest spec0 c ⊢ iprop(Pipeline.scopedRest spec0 c ∗ emp)
        iintro H; isplitl [H]; · iexact H
        iempintro)
    (fun _ => 0) (hcut 0) (fun _ => iprop(emp)) (V1 m) (fun c w => R0.A_eq (V1 m) c w)

/-- The contents launch 0 leaves are the next ones of the chain. -/
theorem after0 (c : Dev nD) (b : DevRef τ sig) (hb : b ∈ Pipeline.ucRefs τ sig) : Pipeline.afterRegion (R0.dat (V1 m) c) (V1 m c) b = V2 m (outs m) c b := by
  have key : ∀ r : Ref sig .tc, Pipeline.afterRegion (R0.dat (V1 m) c) (V1 m c) (Proc.devRef .tc r) = V2 m (outs m) c (Proc.devRef .tc r) := by
    intro r
    by_cases h : r = main_call0_v53
    · subst h
      refine (Pipeline.afterRegion_arr (R0.dat (V1 m) c) (V1 m c) winFacts0.arr_inj 10).trans ?_
      exact ((show V2 m (outs m) c (Proc.devRef .tc main_call0_v53) = outs m 2 main_call0_v53 c by simp only [V2, Function.update_self]).trans (outs_0 m c)).symm
    · refine (Pipeline.afterRegion_keeps (R0.dat (V1 m) c) (V1 m c) winFacts0.arr_inj (R0.A_eq (V1 m) c) r ?_).trans ?_
      · intro w hw
        fin_cases w <;> first | rfl | exact absurd hw.symm h
      · exact (V2_of m (outs m) c r (by simpa using h)).symm
  obtain ⟨r, -, rfl⟩ := Finset.mem_map.mp (Finset.mem_filter.mp hb).1
  exact key r

set_option backward.isDefEq.respectTransparency.types false in
/-- Launch 1's record. -/
def reg1 : RegionSeg (pcfgs (F := F)) Gen.adm (pdats m) () defs₀ Variants.none L lv 1 :=
  RegionSeg.ofHeldIn (pcfgs (F := F)) Gen.adm (pdats m) () defs₀ Variants.none L lv 1 (fun _ => 0) (Pipeline.ucRefs τ sig)
    (fun _ => iprop(emp)) (fun _ => iprop(emp)) launch1.toP rfl (fun c => (R1.body_obligation (V3 m (outs0 m)) c).loose) (fun _ _ => rfl) (fun _ => rfl)
    (fun c => (R1.dat (V3 m (outs0 m)) c).share_full fun _ => rfl)
    (fun c => by
      show iprop(Pipeline.scopedRest spec1 c ∗ emp) ⊢ Pipeline.scopedRest spec1 c
      iintro ⟨H, -⟩; iexact H)
    (fun c => by
      refine BI.Entails.trans (Q := Pipeline.scopedRest spec1 c) ?_ ?_
      · exact R1.PhiS_rest (V3 m (outs0 m)) c cfg1.N (Nat.le_refl _)
      · show Pipeline.scopedRest spec1 c ⊢ iprop(Pipeline.scopedRest spec1 c ∗ emp)
        iintro H; isplitl [H]; · iexact H
        iempintro)
    (fun _ => 0) (hcut 1) (fun _ => iprop(emp)) (V3 m (outs0 m)) (fun c w => R1.A_eq (V3 m (outs0 m)) c w)

/-- The contents launch 1 leaves are the next ones of the chain. -/
theorem after1 (c : Dev nD) (b : DevRef τ sig) (hb : b ∈ Pipeline.ucRefs τ sig) : Pipeline.afterRegion (R1.dat (V3 m (outs0 m)) c) (V3 m (outs0 m) c) b = V4 m (outs m) c b := by
  have key : ∀ r : Ref sig .tc, Pipeline.afterRegion (R1.dat (V3 m (outs0 m)) c) (V3 m (outs0 m) c) (Proc.devRef .tc r) = V4 m (outs m) c (Proc.devRef .tc r) := by
    intro r
    by_cases h : r = main_call0_v62
    · subst h
      refine (Pipeline.afterRegion_arr (R1.dat (V3 m (outs0 m)) c) (V3 m (outs0 m) c) winFacts1.arr_inj 10).trans ?_
      exact ((show V4 m (outs m) c (Proc.devRef .tc main_call0_v62) = outs m 4 main_call0_v62 c by simp only [V4, Function.update_self]).trans (outs_1 m c)).symm
    · refine (Pipeline.afterRegion_keeps (R1.dat (V3 m (outs0 m)) c) (V3 m (outs0 m) c) winFacts1.arr_inj (R1.A_eq (V3 m (outs0 m)) c) r ?_).trans ?_
      · intro w hw
        fin_cases w <;> first | rfl | exact absurd hw.symm h
      · rw [← V3_eq]; exact (V4_of m (outs m) c r (by simpa using h)).symm
  obtain ⟨r, -, rfl⟩ := Finset.mem_map.mp (Finset.mem_filter.mp hb).1
  exact key r

/-- The first call's arrays are launch buffers. -/
theorem arr_sub0 : Pipeline.arrRefs (τ := τ) (pcfgs (F := F) 0).spec ⊆ Pipeline.ucRefs τ sig := Pipeline.arrRefs_sub_ucRefs _ launch0.win.arr_unscoped
/-- The second call's arrays are launch buffers. -/
theorem arr_sub1 : Pipeline.arrRefs (τ := τ) (pcfgs (F := F) 1).spec ⊆ Pipeline.ucRefs τ sig := Pipeline.arrRefs_sub_ucRefs _ launch1.win.arr_unscoped

/-- What rides beside the buffers: what the core owes. -/
abbrev Er (_ : Fin 3) (c : Dev nD) : sProp 𝕄 := iprop(∃ W, owes (c : Thread nD τ) (0 : CellTallies nD τ sig Unit) W)

set_option backward.isDefEq.respectTransparency.types false in
/-- The host lines before the first call leave what it needs. -/
theorem hpre0 (c : Dev nD) : iprop(StableHlo.held (c : Thread nD τ) (Pipeline.ucRefs τ sig) (V1 m c) ∗ Er 0 c) ⊢ (reg0 m).pre c := by
  refine BIBase.Entails.trans ?_ (RegionSeg.ofHeldIn_pre arr_sub0 c)
  iintro ⟨Hh, HO⟩
  isplitl [Hh]; · iexact Hh
  isplitl [HO]; · iexact HO
  isplitl <;> iempintro

set_option backward.isDefEq.respectTransparency.types false in
/-- The first call leaves what the host lines after it need. -/
theorem hpost0 (c : Dev nD) : (reg0 m).post c ⊢ iprop(StableHlo.held (c : Thread nD τ) (Pipeline.ucRefs τ sig) (V2 m (outs m) c) ∗ Er 1 c) := by
  refine BIBase.Entails.trans (RegionSeg.ofHeldIn_post arr_sub0 c) ?_
  rw [StableHlo.held_congr (c : Thread nD τ) (S := Pipeline.ucRefs τ sig) (V := Pipeline.afterRegion (pdats m 0 c) (V1 m c)) (V' := V2 m (outs m) c) (after0 m c)]
  iintro ⟨Hh, HO, -, -⟩
  isplitl [Hh]; · iexact Hh
  iexact HO

set_option backward.isDefEq.respectTransparency.types false in
/-- The host lines between the calls leave what the second call needs. -/
theorem hpre1 (c : Dev nD) : iprop(StableHlo.held (c : Thread nD τ) (Pipeline.ucRefs τ sig) (V3 m (outs m) c) ∗ Er 1 c) ⊢ (reg1 m).pre c := by
  rw [V3_eq]; refine BIBase.Entails.trans ?_ (RegionSeg.ofHeldIn_pre arr_sub1 c)
  iintro ⟨Hh, HO⟩
  isplitl [Hh]; · iexact Hh
  isplitl [HO]; · iexact HO
  isplitl <;> iempintro

set_option backward.isDefEq.respectTransparency.types false in
/-- The second call leaves what the host lines after it need. -/
theorem hpost1 (c : Dev nD) : (reg1 m).post c ⊢ iprop(StableHlo.held (c : Thread nD τ) (Pipeline.ucRefs τ sig) (V4 m (outs m) c) ∗ Er 2 c) := by
  refine BIBase.Entails.trans (RegionSeg.ofHeldIn_post arr_sub1 c) ?_
  rw [StableHlo.held_congr (c : Thread nD τ) (S := Pipeline.ucRefs τ sig) (V := Pipeline.afterRegion (pdats m 1 c) (V3 m (outs0 m) c)) (V' := V4 m (outs m) c) (after1 m c)]
  iintro ⟨Hh, HO, -, -⟩
  isplitl [Hh]; · iexact Hh
  iexact HO

/-- The launch element. -/
def u₀ : UR sig nD τ := initOf (Pipeline.cells cfgs cellOf_inj) (Pipeline.launchToks cfgs cellOf_inj)

/-- The launch state holds every window's tokens. -/
theorem hu₀ : (ownU u₀ : sProp 𝕄) ⊢ |={Set.univ}=> iprop(BI.own (EP (F := F) (initOf (Pipeline.cells cfgs cellOf_inj) (Pipeline.launchToks cfgs cellOf_inj))) ∗ bigSep Finset.univ fun _ : Dev nD => (BI.emp : sProp 𝕄)) := by
  iintro Hu
  imodintro
  isplitl [Hu]
  · iapply (show (ownU u₀ : sProp 𝕄) ⊢ BI.own (EP (F := F) (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

/-- The launch state holds what the first call's windows start from. -/
theorem hE0 : iprop((bigSep Finset.univ fun c : Dev nD => iprop(unscopedSems0 c ∗ owes (c : Thread nD τ) (0 : CellTallies nD τ sig Unit) ∅ ∗ Pipeline.launchCred (fun _ => 0) c ∗ prngReg c (ρ c) ∗ BI.emp)) ∗ levAts L lv)
    ⊢ (|={Set.univ}=> bigSep Finset.univ (Er (F := F) 0) : sProp 𝕄) := by
  iintro ⟨H, -⟩
  imodintro
  iapply (show (bigSep Finset.univ fun c : Dev nD => iprop(unscopedSems0 c ∗ owes (c : Thread nD τ) (0 : CellTallies nD τ sig Unit) ∅ ∗ Pipeline.launchCred (fun _ => 0) c ∗ prngReg c (ρ c) ∗ BI.emp)) ⊢ (bigSep Finset.univ (Er (F := F) 0) : sProp 𝕄) from
    bigSep_mono fun c _ => by
      show iprop(unscopedSems0 c ∗ owes (c : Thread nD τ) (0 : CellTallies nD τ sig Unit) ∅ ∗ Pipeline.launchCred (fun _ => 0) c ∗ prngReg c (ρ c) ∗ BI.emp) ⊢ Er (F := F) 0 c
      iintro ⟨-, HO, -⟩
      iexists ∅; iexact HO)
  iexact H

/-- The frame: every run terminates, the arguments are kept, every semaphore ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  Gen.frame_cond m (EP (F := F)) () Variants.none L lv (fun g h => if_neg h) ρ (outs m) (pdats m) (fun _ => 0) (fun _ => BI.emp) u₀ hu₀
    (Er (F := F)) (hE0 ρ) (fun _ => .rfl) (reg0 m) (hpre0 m) (hpost0 m) (reg1 m) (hpre1 m) (hpost1 m)

end Cert.Proof.KI

end
-- ==== Proof.Vocab.lean ====
/- The body of both launches, once for both: each value as a function of the values before it, from the input projection on. -/
module

public import proofs.«01_k».proof.Proof.KernelIdealStep

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- The input projection of a block of rows. -/
def cZx (u : FVec F S1x256x1024 .bf16) (wiT : FVec F S1024x4384 .bf16) : FVec F S256x4384 .f32 :=
  matmul dot_S256x1024_S1024x4384_S256x4384_1_0_0_1_n_n none (shapeCast S256x1024 u shapeCasts_S1x256x1024_S256x1024) wiT (constant S256x4384 .f32 0x00000000#32)

/-- The one-hot matrix that turns the rows of a block around. -/
def cRev : FVec F S256x256 .bf16 :=
  truncf .bf16 (sitofp .f32 (extui 32 (cmpi .eq (addi (iota .tc S256x256 32 [0] iota_S256x256_d0_w32 : IVec S256x256 32) (iota .tc S256x256 32 [1] iota_S256x256_d1_w32)) (broadcast S256x256 255#32)) natLt_1_32)) bitsLt_bf16_f32

/-- The input projection of a block of rows turned around. -/
def cZxRev (u : FVec F S1x256x1024 .bf16) (wiT : FVec F S1024x4384 .bf16) : FVec F S256x4384 .f32 :=
  matmul dot_S256x1024_S1024x4384_S256x4384_1_0_0_1_n_n none
    (truncf .bf16 (matmul dot_S256x256_S256x1024_S256x1024_1_0_0_1_n_n none (cRev (F := F)) (shapeCast S256x1024 u shapeCasts_S1x256x1024_S256x1024) (constant S256x1024 .f32 0x00000000#32)) bitsLt_bf16_f32)
    wiT (constant S256x4384 .f32 0x00000000#32)

/-- The gate's input. -/
def cZ (zx : FVec F S256x4384 .f32) : FVec F S256x2048 .f32 := extractStridedSlice S256x2048 ![0, 0] zx slices_S256x4384_o0_0_S256x2048

/-- The convolution's input. -/
def cRaw (zx : FVec F S256x4384 .f32) : FVec F S256x2304 .f32 := extractStridedSlice S256x2304 ![0, 2048] zx slices_S256x4384_o0_2048_S256x2304

/-- The time step's input. -/
def cDtr (zx : FVec F S256x4384 .f32) : FVec F S256x32 .f32 := extractStridedSlice S256x32 ![0, 4352] zx slices_S256x4384_o0_4352_S256x32

/-- The three rows handed to the next block. -/
def cRows (raw : FVec F S256x2304 .f32) : FVec F S3x2304 .f32 :=
  shapeCast S3x2304 (extractStridedSlice S3x2304 ![253, 0] raw slices_S256x2304_o253_0_S3x2304) shapeCasts_S3x2304_S3x2304

/-- The block's rows behind the three rows before them. -/
def cExt (raw : FVec F S256x2304 .f32) (t3 : FVec F S3x2304 .f32) : FVec F S259x2304 .f32 :=
  concatenate S259x2304 0 [⟨S3x2304, t3⟩, ⟨S256x2304, raw⟩] concatenates_S3x2304_S256x2304_S259x2304_d0

/-- The convolution. -/
def cConv (ext : FVec F S259x2304 .f32) (cw : FVec F S1x4x2304 .f32) (cb : FVec F S1x1x2304 .f32) : FVec F S256x2304 .f32 :=
  addf (addf (addf (addf
    (mulf (broadcastTo S256x2304 (extractStridedSlice S1x2304 ![0, 0] (shapeCast S4x2304 cw shapeCasts_S1x4x2304_S4x2304) slices_S4x2304_o0_0_S1x2304) broadcasts_S1x2304_S256x2304) (extractStridedSlice S256x2304 ![0, 0] ext slices_S259x2304_o0_0_S256x2304))
    (mulf (broadcastTo S256x2304 (extractStridedSlice S1x2304 ![1, 0] (shapeCast S4x2304 cw shapeCasts_S1x4x2304_S4x2304) slices_S4x2304_o1_0_S1x2304) broadcasts_S1x2304_S256x2304) (extractStridedSlice S256x2304 ![1, 0] ext slices_S259x2304_o1_0_S256x2304)))
    (mulf (broadcastTo S256x2304 (extractStridedSlice S1x2304 ![2, 0] (shapeCast S4x2304 cw shapeCasts_S1x4x2304_S4x2304) slices_S4x2304_o2_0_S1x2304) broadcasts_S1x2304_S256x2304) (extractStridedSlice S256x2304 ![2, 0] ext slices_S259x2304_o2_0_S256x2304)))
    (mulf (broadcastTo S256x2304 (extractStridedSlice S1x2304 ![3, 0] (shapeCast S4x2304 cw shapeCasts_S1x4x2304_S4x2304) slices_S4x2304_o3_0_S1x2304) broadcasts_S1x2304_S256x2304) (extractStridedSlice S256x2304 ![3, 0] ext slices_S259x2304_o3_0_S256x2304)))
    (broadcastTo S256x2304 (shapeCast S1x2304 cb shapeCasts_S1x1x2304_S1x2304) broadcasts_S1x2304_S256x2304)

/-- The activation after the convolution. -/
def cXbc (cv : FVec F S256x2304 .f32) : FVec F S256x2304 .f32 := mulf cv (logistic cv)

/-- The values. -/
def cX (a : FVec F S256x2304 .f32) : FVec F S256x2048 .f32 := extractStridedSlice S256x2048 ![0, 0] a slices_S256x2304_o0_0_S256x2048

/-- The state's input directions. -/
def cB (a : FVec F S256x2304 .f32) : FVec F S256x128 .f32 := extractStridedSlice S256x128 ![0, 2048] a slices_S256x2304_o0_2048_S256x128

/-- The state's output directions. -/
def cC (a : FVec F S256x2304 .f32) : FVec F S256x128 .f32 := extractStridedSlice S256x128 ![0, 2176] a slices_S256x2304_o0_2176_S256x128

/-- The time steps. -/
def cDt (dtr : FVec F S256x32 .f32) (dtb : FVec F S1x1x32 .f32) : FVec F S256x32 .f32 :=
  have d : FVec F S256x32 .f32 := addf dtr (broadcastTo S256x32 (shapeCast S1x32 dtb shapeCasts_S1x1x32_S1x32) broadcasts_S1x32_S256x32)
  addf (log (addf (broadcast S256x32 (Scalar.ofBits .f32 0x3F800000#32)) (exp (minimumf d (broadcast S256x32 (Scalar.ofBits .f32 0x41A00000#32))))))
    (maximumf (subf d (broadcast S256x32 (Scalar.ofBits .f32 0x41A00000#32))) (broadcast S256x32 (Scalar.ofBits .f32 0x00000000#32)))

/-- The lower triangle, the diagonal included. -/
def cMask : IVec S256x256 1 := cmpi .sge (iota .tc S256x256 32 [0] iota_S256x256_d0_w32 : IVec S256x256 32) (iota .tc S256x256 32 [1] iota_S256x256_d1_w32)

/-- The log-decays. -/
def cLa (dt : FVec F S256x32 .f32) (alog : FVec F S1x1x32 .f32) : FVec F S256x32 .f32 :=
  mulf dt (broadcastTo S256x32 (subf (broadcast S1x32 (Scalar.ofBits .f32 0x00000000#32)) (exp (shapeCast S1x32 alog shapeCasts_S1x1x32_S1x32))) broadcasts_S1x32_S256x32)

/-- The log-decays summed down the rows, each term in two parts. -/
def cCs (la : FVec F S256x32 .f32) : FVec F S256x32 .f32 :=
  addf (matmul dot_S256x256_S256x32_S256x32_1_0_0_1_n_n none (truncf .bf16 (sitofp .f32 (extui 32 cMask natLt_1_32)) bitsLt_bf16_f32) (truncf .bf16 la bitsLt_bf16_f32) (constant S256x32 .f32 0x00000000#32))
    (matmul dot_S256x256_S256x32_S256x32_1_0_0_1_n_n none (truncf .bf16 (sitofp .f32 (extui 32 cMask natLt_1_32)) bitsLt_bf16_f32) (truncf .bf16 (subf la (extf .f32 (truncf .bf16 la bitsLt_bf16_f32) bitsLt_bf16_f32)) bitsLt_bf16_f32) (constant S256x32 .f32 0x00000000#32))

/-- The last row of the summed log-decays. -/
def cLast (cs : FVec F S256x32 .f32) : FVec F S1x32 .f32 := extractStridedSlice S1x32 ![255, 0] cs slices_S256x32_o255_0_S1x32

/-- The per-head factors, stacked. -/
def cV (dt cs : FVec F S256x32 .f32) (dd : FVec F S1x1x32 .f32) : FVec F S770x32 .f32 :=
  concatenate S770x32 0 [⟨S256x32, dt⟩, ⟨S256x32, mulf dt (exp (subf (broadcastTo S256x32 (cLast cs) broadcasts_S1x32_S256x32) cs))⟩, ⟨S256x32, exp cs⟩, ⟨S1x32, exp (cLast cs)⟩, ⟨S1x32, shapeCast S1x32 dd shapeCasts_S1x1x32_S1x32⟩] concatenates_S256x32_S256x32_S256x32_S1x32_S1x32_S770x32_d0

/-- The stacked per-head factors spread over the heads' columns, each term in two parts. -/
def cEx (v : FVec F S770x32 .f32) (e : FVec F S32x2048 .bf16) : FVec F S770x2048 .f32 :=
  addf (matmul dot_S770x32_S32x2048_S770x2048_1_0_0_1_n_n none (truncf .bf16 v bitsLt_bf16_f32) (shapeCast S32x2048 e shapeCasts_S32x2048_S32x2048) (constant S770x2048 .f32 0x00000000#32))
    (matmul dot_S770x32_S32x2048_S770x2048_1_0_0_1_n_n none (truncf .bf16 (subf v (extf .f32 (truncf .bf16 v bitsLt_bf16_f32) bitsLt_bf16_f32)) bitsLt_bf16_f32) (shapeCast S32x2048 e shapeCasts_S32x2048_S32x2048) (constant S770x2048 .f32 0x00000000#32))

/-- The values times the time steps. -/
def cDtx (ex : FVec F S770x2048 .f32) (x : FVec F S256x2048 .f32) : FVec F S256x2048 .f32 :=
  mulf (extractStridedSlice S256x2048 ![0, 0] ex slices_S770x2048_o0_0_S256x2048) x

/-- The contribution of the carried state. -/
def cYin (ex : FVec F S770x2048 .f32) (cc : FVec F S256x128 .f32) (s : FVec F S128x2048 .f32) : FVec F S256x2048 .f32 :=
  mulf (matmul dot_S256x128_S128x2048_S256x2048_1_0_0_1_n_n none cc s (constant S256x2048 .f32 0x00000000#32)) (extractStridedSlice S256x2048 ![512, 0] ex slices_S770x2048_o512_0_S256x2048)

/-- The state handed to the next block. -/
def cS (ex : FVec F S770x2048 .f32) (x : FVec F S256x2048 .f32) (bb : FVec F S256x128 .f32) (s : FVec F S128x2048 .f32) : FVec F S128x2048 .f32 :=
  shapeCast S128x2048 (addf (mulf (broadcastTo S128x2048 (extractStridedSlice S1x2048 ![768, 0] ex slices_S770x2048_o768_0_S1x2048) broadcasts_S1x2048_S128x2048) s)
    (matmul dot_S256x128_S256x2048_S128x2048_0_0_1_1_n_n none bb (mulf (extractStridedSlice S256x2048 ![256, 0] ex slices_S770x2048_o256_0_S256x2048) x) (constant S128x2048 .f32 0x00000000#32))) shapeCasts_S128x2048_S128x2048

/-- The products of output and input directions. -/
def cCB (bb cc : FVec F S256x128 .f32) : FVec F S256x256 .f32 :=
  matmul dot_S256x128_S256x128_S256x256_1_1_0_0_n_n none cc bb (constant S256x256 .f32 0x00000000#32)

/-- A column of the summed log-decays fits in them. -/
theorem fitsCol (h : Fin 32) : S256x32.Slices ![0, h.val] S256x1 := by revert h; decide +kernel

/-- A row of the transposed summed log-decays fits in them. -/
theorem fitsRow (h : Fin 32) : S32x256.Slices ![h.val, 0] S1x256 := by revert h; decide +kernel

/-- A head's columns fit in the values. -/
theorem fitsHead (h : Fin 32) : S256x2048.Slices ![0, 64 * h.val] S256x64 := by revert h; decide +kernel

/-- The contribution of the block's own rows, for one head. -/
def cHead (h : Fin 32) (cs : FVec F S256x32 .f32) (cb : FVec F S256x256 .f32) (dtx : FVec F S256x2048 .f32) : FVec F S256x64 .f32 :=
  matmul dot_S256x256_S256x64_S256x64_1_0_0_1_n_n none
    (mulf cb (exp (select cMask (subf (broadcastTo S256x256 (extractStridedSlice S256x1 ![0, h.val] cs (fitsCol h)) broadcasts_S256x1_S256x256)
      (broadcastTo S256x256 (extractStridedSlice S1x256 ![h.val, 0] (transpose S32x256 [1, 0] cs transposes_S256x32_p1_0_S32x256) (fitsRow h)) broadcasts_S1x256_S256x256))
      (broadcast S256x256 (Named.named κ "mask" 0xF149F2CA#32)))))
    (extractStridedSlice S256x64 ![0, 64 * h.val] dtx (fitsHead h)) (constant S256x64 .f32 0x00000000#32)

/-- The contribution of the block's own rows. -/
def cYi (cs : FVec F S256x32 .f32) (cb : FVec F S256x256 .f32) (dtx : FVec F S256x2048 .f32) : FVec F S256x2048 .f32 :=
  concatenate S256x2048 1 [⟨S256x64, cHead 0 cs cb dtx⟩, ⟨S256x64, cHead 1 cs cb dtx⟩, ⟨S256x64, cHead 2 cs cb dtx⟩, ⟨S256x64, cHead 3 cs cb dtx⟩, ⟨S256x64, cHead 4 cs cb dtx⟩, ⟨S256x64, cHead 5 cs cb dtx⟩, ⟨S256x64, cHead 6 cs cb dtx⟩, ⟨S256x64, cHead 7 cs cb dtx⟩, ⟨S256x64, cHead 8 cs cb dtx⟩, ⟨S256x64, cHead 9 cs cb dtx⟩, ⟨S256x64, cHead 10 cs cb dtx⟩, ⟨S256x64, cHead 11 cs cb dtx⟩, ⟨S256x64, cHead 12 cs cb dtx⟩, ⟨S256x64, cHead 13 cs cb dtx⟩, ⟨S256x64, cHead 14 cs cb dtx⟩, ⟨S256x64, cHead 15 cs cb dtx⟩, ⟨S256x64, cHead 16 cs cb dtx⟩, ⟨S256x64, cHead 17 cs cb dtx⟩, ⟨S256x64, cHead 18 cs cb dtx⟩, ⟨S256x64, cHead 19 cs cb dtx⟩, ⟨S256x64, cHead 20 cs cb dtx⟩, ⟨S256x64, cHead 21 cs cb dtx⟩, ⟨S256x64, cHead 22 cs cb dtx⟩, ⟨S256x64, cHead 23 cs cb dtx⟩, ⟨S256x64, cHead 24 cs cb dtx⟩, ⟨S256x64, cHead 25 cs cb dtx⟩, ⟨S256x64, cHead 26 cs cb dtx⟩, ⟨S256x64, cHead 27 cs cb dtx⟩, ⟨S256x64, cHead 28 cs cb dtx⟩, ⟨S256x64, cHead 29 cs cb dtx⟩, ⟨S256x64, cHead 30 cs cb dtx⟩, ⟨S256x64, cHead 31 cs cb dtx⟩] concatenates_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x2048_d1

/-- The output before the gate. -/
def cY (ex : FVec F S770x2048 .f32) (yi yin x : FVec F S256x2048 .f32) : FVec F S256x2048 .f32 :=
  addf (addf yi yin) (mulf (broadcastTo S256x2048 (extractStridedSlice S1x2048 ![769, 0] ex slices_S770x2048_o769_0_S1x2048) broadcasts_S1x2048_S256x2048) x)

/-- The gated output. -/
def cYg (y z : FVec F S256x2048 .f32) : FVec F S256x2048 .f32 := mulf y (mulf z (logistic z))

/-- The normalised output. -/
def cN (yg : FVec F S256x2048 .f32) (nw : FVec F S1x1x2048 .f32) : FVec F S256x2048 .bf16 :=
  truncf .bf16 (mulf (mulf yg (broadcastTo S256x2048 (rsqrt (addf (divf (shapeCast S256x1 (multiReduction .add [1] S256 (mulf yg yg) 0x00000000#32 reduces_S256x2048_S256 (.inl rfl) rfl) shapeCasts_S256_S256x1)
    (broadcast S256x1 (Scalar.ofBits .f32 0x45000000#32))) (broadcast S256x1 (Scalar.ofBits .f32 0x3727C5AC#32)))) broadcasts_S256x1_S256x2048))
    (broadcastTo S256x2048 (shapeCast S1x2048 nw shapeCasts_S1x1x2048_S1x2048) broadcasts_S1x2048_S256x2048)) bitsLt_bf16_f32

/-- The output projection. -/
def cOut (n : FVec F S256x2048 .bf16) (woT : FVec F S2048x1024 .bf16) : FVec F S1x256x1024 .f32 :=
  shapeCast S1x256x1024 (matmul dot_S256x2048_S2048x1024_S256x1024_1_0_0_1_n_n none n woT (constant S256x1024 .f32 0x00000000#32)) shapeCasts_S256x1024_S1x256x1024

/-- The rows of the normalised output turned around. -/
def cFlip (n : FVec F S256x2048 .bf16) : FVec F S256x2048 .bf16 :=
  truncf .bf16 (matmul dot_S256x256_S256x2048_S256x2048_1_0_0_1_n_n none (cRev (F := F)) n (constant S256x2048 .f32 0x00000000#32)) bitsLt_bf16_f32

/-! ## The block's values from its input projection -/

variable (zx : FVec F S256x4384 .f32) (x : Ins F) (s : Vec F S128x2048 .f32) (t3 : Vec F S3x2304 .f32)

/-- The activation, of the block. -/
def gXbc : FVec F S256x2304 .f32 := cXbc (cConv (cExt (cRaw zx) t3) x.cw x.cb)

/-- The time steps, of the block. -/
def gDt : FVec F S256x32 .f32 := cDt (cDtr zx) x.dtb

/-- The summed log-decays, of the block. -/
def gCs : FVec F S256x32 .f32 := cCs (cLa (gDt zx x) x.alog)

/-- The per-head factors over the heads' columns, of the block. -/
def gEx : FVec F S770x2048 .f32 := cEx (cV (gDt zx x) (gCs zx x) x.dd) x.e

/-- The normalised output, of the block. -/
def gN : FVec F S256x2048 .bf16 :=
  cN (cYg (cY (gEx zx x)
      (cYi (gCs zx x) (cCB (cB (gXbc zx x t3)) (cC (gXbc zx x t3))) (cDtx (gEx zx x) (cX (gXbc zx x t3))))
      (cYin (gEx zx x) (cC (gXbc zx x t3)) s) (cX (gXbc zx x t3))) (cZ zx)) x.nw

/-- The state handed on, of the block. -/
def gS : FVec F S128x2048 .f32 := cS (gEx zx x) (cX (gXbc zx x t3)) (cB (gXbc zx x t3)) s

/-- The first launch's grid point, in these values. -/
theorem step0_eq (wiT : Vec F S1024x4384 .bf16) (woT : Vec F S2048x1024 .bf16) :
    step0 x s t3 wiT woT = (cOut (gN (cZx x.u wiT) x s t3) woT, gS (cZx x.u wiT) x s t3, cRows (cRaw (cZx x.u wiT))) := by
  sl_kernel_rfl

/-- The second launch's grid point, in these values. -/
theorem step1_eq (wiT : Vec F S1024x4384 .bf16) (woT : Vec F S2048x1024 .bf16) :
    step1 x s t3 wiT woT = (cOut (cFlip (gN (cZxRev x.u wiT) x s t3)) woT, gS (cZxRev x.u wiT) x s t3, cRows (cRaw (cZxRev x.u wiT))) := by
  sl_kernel_rfl

end Cert.Proof.KI

end
-- ==== Proof.Spec.lean ====
/- The block over the real numbers: one direction of the layer, for one batch row, at direction-local time. -/
module

public import Mathlib.Analysis.SpecialFunctions.Log.Basic
public import Mathlib.Algebra.BigOperators.Fin
public import Mathlib.Algebra.Order.BigOperators.Ring.Finset
public import Mathlib.Tactic.Ring
public import Mathlib.Tactic.Linarith
public import Mathlib.Tactic.NormNum

@[expose] public section

noncomputable section

namespace Cert.Proof.Spec

open Finset

/-- The real parameters of one direction and one batch row. -/
structure Par where
  /-- the input sequence: time, feature -/
  u : ℕ → ℕ → ℝ
  /-- the input projection: output feature, input feature -/
  wi : ℕ → ℕ → ℝ
  /-- the convolution's taps: tap, channel -/
  cw : ℕ → ℕ → ℝ
  cb : ℕ → ℝ
  dtb : ℕ → ℝ
  alog : ℕ → ℝ
  dd : ℕ → ℝ
  nw : ℕ → ℝ
  /-- the output projection: output feature, inner feature -/
  wo : ℕ → ℕ → ℝ

/-- The logistic function. -/
def sg (x : ℝ) : ℝ := (1 + Real.exp (-x))⁻¹

/-- `x` times the logistic function of `x`. -/
def silu (x : ℝ) : ℝ := x * sg x

variable (p : Par)

/-- The input projection at time `t`, feature `j`. -/
def zx (t j : ℕ) : ℝ := ∑ k : Fin 1024, p.u t k * p.wi j k

/-- The convolution's input, three steps late: zero before the sequence starts. -/
def late (t j : ℕ) : ℝ := if t < 3 then 0 else zx p (t - 3) (2048 + j)

/-- The causal convolution with its bias. -/
def conv (t j : ℕ) : ℝ :=
  p.cw 0 j * late p t j + p.cw 1 j * late p (t + 1) j + p.cw 2 j * late p (t + 2) j + p.cw 3 j * late p (t + 3) j + p.cb j

/-- The convolution's activation. -/
def xbc (t j : ℕ) : ℝ := silu (conv p t j)

/-- The time-step input. -/
def darg (t h : ℕ) : ℝ := zx p t (4352 + h) + p.dtb h

/-- The time step. -/
def dt (t h : ℕ) : ℝ := Real.log (1 + Real.exp (darg p t h))

/-- The logarithm of the decay over one step. -/
def la (t h : ℕ) : ℝ := dt p t h * -Real.exp (p.alog h)

/-- The state's component `n` of inner feature `c`, before time `t`. -/
def st : ℕ → ℕ → ℕ → ℝ
  | 0, _, _ => 0
  | t + 1, n, c => st t n c * Real.exp (la p t (c / 64)) + dt p t (c / 64) * xbc p t c * xbc p t (2048 + n)

/-- The scan's output at time `t`, with the skip term. -/
def ysc (t c : ℕ) : ℝ := (∑ n : Fin 128, st p (t + 1) n c * xbc p t (2176 + n)) + p.dd (c / 64) * xbc p t c

/-- The gated output. -/
def yg (t c : ℕ) : ℝ := ysc p t c * silu (zx p t c)

/-- The mean square of the gated output. -/
def ms (t : ℕ) : ℝ := (∑ c : Fin 2048, yg p t c * yg p t c) / 2048

/-- The small constant under the root. -/
def eps : ℝ := 2748779 / 274877906944

/-- The normalised output. -/
def yn (t c : ℕ) : ℝ := yg p t c * (Real.sqrt (ms p t + eps))⁻¹ * p.nw c

/-- The output projection. -/
def out (t o : ℕ) : ℝ := ∑ c : Fin 2048, yn p t c * p.wo o c

/-- The mean square is nowhere negative. -/
theorem ms_nonneg (t : ℕ) : 0 ≤ ms p t :=
  div_nonneg (Finset.sum_nonneg fun _ _ => mul_self_nonneg _) (by norm_num)

/-- The log-decay summed over the `i` steps from `T`. -/
def cum (T i h : ℕ) : ℝ := ∑ j ∈ range i, la p (T + j) h

/-- One more step of the summed log-decay. -/
theorem cum_succ (T i h : ℕ) : cum p T (i + 1) h = cum p T i h + la p (T + i) h := by
  unfold cum; rw [Finset.sum_range_succ]

/-- The state `i` steps after `T`, in closed form: the decayed state at `T`, and each later input decayed since. -/
theorem st_add (T n c i : ℕ) :
    st p (T + i) n c = Real.exp (cum p T i (c / 64)) * st p T n c
      + ∑ j ∈ range i, Real.exp (cum p T i (c / 64) - cum p T (j + 1) (c / 64))
          * (dt p (T + j) (c / 64) * xbc p (T + j) c) * xbc p (T + j) (2048 + n) := by
  induction i with
  | zero => simp [cum]
  | succ i ih =>
    rw [← Nat.add_assoc, st, ih, Finset.sum_range_succ, cum_succ, sub_self, Real.exp_zero, add_mul, Finset.sum_mul,
      Real.exp_add, one_mul, ← add_assoc]
    congr 1
    congr 1
    · ring
    · refine Finset.sum_congr rfl fun j _ => ?_
      rw [show cum p T i (c / 64) + la p (T + i) (c / 64) - cum p T (j + 1) (c / 64)
        = (cum p T i (c / 64) - cum p T (j + 1) (c / 64)) + la p (T + i) (c / 64) by ring, Real.exp_add]
      ring

/-- The scan's output `i` steps after `T`: the part inside the block, the part from the state at `T`, the skip term. -/
theorem ysc_add (T i c : ℕ) (hi : i < 256) :
    ysc p (T + i) c
      = (∑ j : Fin 256, (∑ n : Fin 128, xbc p (T + i) (2176 + n) * xbc p (T + j) (2048 + n))
            * (if (j : ℕ) ≤ i then Real.exp (cum p T (i + 1) (c / 64) - cum p T (j + 1) (c / 64)) else 0)
            * (dt p (T + j) (c / 64) * xbc p (T + j) c))
        + (∑ n : Fin 128, xbc p (T + i) (2176 + n) * st p T n c) * Real.exp (cum p T (i + 1) (c / 64))
        + p.dd (c / 64) * xbc p (T + i) c := by
  unfold ysc
  congr 1
  rw [show T + i + 1 = T + (i + 1) by ring]
  simp only [st_add p T _ c (i + 1), add_mul, Finset.sum_add_distrib]
  rw [add_comm]
  congr 1
  · have hs : ∀ f : ℕ → ℝ, (∑ j : Fin 256, if (j : ℕ) ≤ i then f j else 0) = ∑ j ∈ range (i + 1), f j := by
      intro f
      rw [Fin.sum_univ_eq_sum_range (fun j => if j ≤ i then f j else 0) 256, ← Finset.sum_filter]
      congr 1
      ext j
      simp only [Finset.mem_filter, Finset.mem_range]
      omega
    rw [Finset.sum_congr rfl (fun n _ => Finset.sum_mul _ _ _), Finset.sum_comm, ← hs fun j => ∑ n : Fin 128, _]
    refine Finset.sum_congr rfl fun j _ => ?_
    split
    · rw [Finset.sum_mul, Finset.sum_mul]
      refine Finset.sum_congr rfl fun n _ => ?_
      ring
    · simp
  · rw [Finset.sum_mul]
    refine Finset.sum_congr rfl fun n _ => ?_
    ring

/-- The state after a block of 256 steps, in the block's terms. -/
theorem st_block (T n c : ℕ) :
    st p (T + 256) n c = Real.exp (cum p T 256 (c / 64)) * st p T n c
      + ∑ j : Fin 256, xbc p (T + j) (2048 + n)
          * (dt p (T + j) (c / 64) * Real.exp (cum p T 256 (c / 64) - cum p T (j + 1) (c / 64)) * xbc p (T + j) c) := by
  rw [st_add p T n c 256, Fin.sum_univ_eq_sum_range (fun j => xbc p (T + j) (2048 + n)
          * (dt p (T + j) (c / 64) * Real.exp (cum p T 256 (c / 64) - cum p T (j + 1) (c / 64)) * xbc p (T + j) c)) 256]
  congr 1
  refine Finset.sum_congr rfl fun j _ => ?_
  ring

end Cert.Proof.Spec

end
-- ==== Proof.CoeKit.lean ====
/- Arrays of extended reals all of whose entries are real numbers. -/
module

public import Idealize.ShloMosaic.Lib.Pointwise
public import Idealize.ShloMosaic.PureOps.Ideal
public import Idealize.ShloMosaic.Lib.IdealHost
public import proofs.«01_k».proof.Proof.Spec

@[expose] public section

noncomputable section

namespace Cert.Proof

open Idealize.ShloMosaic

/-- The one-axis array holds the reals `f`. -/
def Re1 {n : ℕ} (v : (⟨1, ![n]⟩ : Shape).Idx → EReal) (f : ℕ → ℝ) : Prop :=
  ∀ i : Fin n, v (ix1 i) = ((f i : ℝ) : EReal)

/-- The two-axis array holds the reals `f`. -/
def Re2 {m n : ℕ} (v : (⟨2, ![m, n]⟩ : Shape).Idx → EReal) (f : ℕ → ℕ → ℝ) : Prop :=
  ∀ (i : Fin m) (j : Fin n), v (ix2 i j) = ((f i j : ℝ) : EReal)

/-- The three-axis array holds the reals `f`. -/
def Re3 {l m n : ℕ} (v : (⟨3, ![l, m, n]⟩ : Shape).Idx → EReal) (f : ℕ → ℕ → ℕ → ℝ) : Prop :=
  ∀ (h : Fin l) (i : Fin m) (j : Fin n), v (ix3 h i j) = ((f h i j : ℝ) : EReal)

/-- Only the entries inside the array matter. -/
theorem Re2.congr {m n : ℕ} {v : (⟨2, ![m, n]⟩ : Shape).Idx → EReal} {f g : ℕ → ℕ → ℝ} (h : Re2 v f) (e : ∀ i < m, ∀ j < n, f i j = g i j) : Re2 v g :=
  fun i j => by rw [h i j, e i i.isLt j j.isLt]

/-- Only the entries inside the array matter. -/
theorem Re3.congr {l m n : ℕ} {v : (⟨3, ![l, m, n]⟩ : Shape).Idx → EReal} {f g : ℕ → ℕ → ℕ → ℝ} (h : Re3 v f)
    (e : ∀ k < l, ∀ i < m, ∀ j < n, f k i j = g k i j) : Re3 v g :=
  fun k i j => by rw [h k i j, e k k.isLt i i.isLt j j.isLt]

/-- A finite sum of reals, summed as extended reals. -/
theorem coe_sum {n : ℕ} (f : Fin n → ℝ) : (∑ k, ((f k : ℝ) : EReal)) = ((∑ k, f k : ℝ) : EReal) := by
  induction (Finset.univ : Finset (Fin n)) using Finset.cons_induction with
  | empty => simp
  | cons a s h ih => rw [Finset.sum_cons, Finset.sum_cons, ih, EReal.coe_add]

/-- A product of sums with a real left entry and a real right entry. -/
theorem coe_sum_mul {n : ℕ} {f g : Fin n → EReal} {a b : Fin n → ℝ} (hf : ∀ k, f k = ((a k : ℝ) : EReal))
    (hg : ∀ k, g k = ((b k : ℝ) : EReal)) : (∑ k, f k * g k) = ((∑ k, a k * b k : ℝ) : EReal) := by
  rw [← coe_sum]
  exact Finset.sum_congr rfl fun k _ => by rw [hf, hg, EReal.coe_mul]

/-- The word of twenty. -/
theorem word_20 : Ideal.ofBits .f32 0x41A00000#32 = ((20 : ℝ) : EReal) := by
  simp [Ideal.ofBits, Ideal.ieee, -EReal.coe_mul]; norm_num

/-- The word of 2048. -/
theorem word_2048 : Ideal.ofBits .f32 0x45000000#32 = ((2048 : ℝ) : EReal) := by
  simp [Ideal.ofBits, Ideal.ieee, -EReal.coe_mul]; norm_num

/-- The word of the small constant under the root. -/
theorem word_eps : Ideal.ofBits .f32 0x3727C5AC#32 = ((Spec.eps : ℝ) : EReal) := by
  simp [Ideal.ofBits, Ideal.ieee, -EReal.coe_mul, Spec.eps]; norm_num

/-- The word of one half. -/
theorem word_half : Ideal.ofBits .f32 0x3F000000#32 = (((1 : ℝ) / 2 : ℝ) : EReal) := by
  simp [Ideal.ofBits, Ideal.ieee, -EReal.coe_mul]; norm_num

end Cert.Proof

end
-- ==== Proof.VocabVal.lean ====
/- The block's values over the real numbers: from real entries, real entries, in closed form. -/
module

public import proofs.«01_k».proof.Proof.Vocab
public import proofs.«01_k».proof.Proof.CoeKit

@[expose] public section

set_option maxRecDepth 16384

noncomputable section

namespace Cert.Proof.KI

open Cert.KernelIdeal Cert.KernelIdeal.Gen
open Idealize.ShloMosaic Idealize.ShloMosaic.TcCoe Idealize.ShloMosaic.Tactic

/-- The input projection. -/
theorem cZx_re {u : FVec Ideal S1x256x1024 .bf16} {wiT : FVec Ideal S1024x4384 .bf16} {fu : ℕ → ℕ → ℕ → ℝ} {fw : ℕ → ℕ → ℝ}
    (hu : Re3 u fu) (hw : Re2 wiT fw) : Re2 (cZx u wiT) fun i j => ∑ k : Fin 1024, fu 0 i k * fw k j := by
  intro i j
  pointwise [cZx]
  exact coe_sum_mul (fun k => hu 0 i k) (fun k => hw k j)

/-- The comparison that lights the one-hot matrix. -/
theorem rev_bit (i k : Fin 256) :
    IntOp.cmpi .eq (IntOp.addi (BitVec.ofNat 32 (i : ℕ)) (BitVec.ofNat 32 (k : ℕ))) 255#32 = if (k : ℕ) = 255 - i then 1#1 else 0#1 := by
  have hi := i.isLt
  have hk := k.isLt
  have h : (BitVec.ofNat 32 (i : ℕ) + BitVec.ofNat 32 (k : ℕ) = 255#32) ↔ ((k : ℕ) = 255 - i) := by
    constructor
    · intro h
      have h' := congrArg BitVec.toNat h
      simp at h'
      omega
    · intro h
      apply BitVec.eq_of_toNat_eq
      simp
      omega
  by_cases c : (k : ℕ) = 255 - i
  · rw [if_pos c]
    simp [IntOp.cmpi, IntOp.addi, h.mpr c]
  · rw [if_neg c]
    have hb : (BitVec.ofNat 32 (i : ℕ) + BitVec.ofNat 32 (k : ℕ) == 255#32) = false := beq_eq_false_iff_ne.mpr (mt h.mp c)
    simp only [IntOp.cmpi, IntOp.addi, hb]
    rfl

/-- The one-hot matrix's entries. -/
theorem cRev_val (i k : Fin 256) : cRev (F := Ideal) (ix2 i k) = (((if (k : ℕ) = 255 - i then 1 else 0 : ℝ) : ℝ) : EReal) := by
  pointwise [cRev]
  rw [rev_bit]
  by_cases h : (k : ℕ) = 255 - i
  · rw [if_pos h, if_pos h]
    show (((BitVec.toInt (BitVec.setWidth 32 1#1) : ℤ) : ℝ) : EReal) = _
    norm_num
  · rw [if_neg h, if_neg h]
    show (((BitVec.toInt (BitVec.setWidth 32 0#1) : ℤ) : ℝ) : EReal) = _
    norm_num

/-- A one-hot row picks the mirrored row. -/
theorem pick_row (i : Fin 256) (f : ℕ → ℝ) : (∑ k : Fin 256, (if (k : ℕ) = 255 - i then 1 else 0 : ℝ) * f k) = f (255 - i) := by
  rw [Finset.sum_eq_single (⟨255 - i, by omega⟩ : Fin 256)]
  · simp
  · intro b _ hb
    rw [if_neg (fun h => hb (Fin.ext h)), zero_mul]
  · intro h; exact absurd (Finset.mem_univ _) h

/-- The gate's input. -/
theorem cZ_re {zx : FVec Ideal S256x4384 .f32} {f : ℕ → ℕ → ℝ} (h : Re2 zx f) : Re2 (cZ zx) f := by
  intro i j
  pointwise [cZ]
  simp [h _ _]

/-- The convolution's input. -/
theorem cRaw_re {zx : FVec Ideal S256x4384 .f32} {f : ℕ → ℕ → ℝ} (h : Re2 zx f) : Re2 (cRaw zx) fun i j => f i (2048 + j) := by
  intro i j
  pointwise [cRaw]
  simp [h _ _]

/-- The time step's input. -/
theorem cDtr_re {zx : FVec Ideal S256x4384 .f32} {f : ℕ → ℕ → ℝ} (h : Re2 zx f) : Re2 (cDtr zx) fun i j => f i (4352 + j) := by
  intro i j
  pointwise [cDtr]
  simp [h _ _]

/-- The last three rows. -/
theorem cRows_re {raw : FVec Ideal S256x2304 .f32} {f : ℕ → ℕ → ℝ} (h : Re2 raw f) : Re2 (cRows raw) fun i j => f (253 + i) j := by
  intro i j
  pointwise [cRows]
  simp [h _ _]

/-- The block's rows behind the three rows before them. -/
theorem cExt_re {raw : FVec Ideal S256x2304 .f32} {t3 : FVec Ideal S3x2304 .f32} {f g : ℕ → ℕ → ℝ} (h : Re2 raw f) (hg : Re2 t3 g) :
    Re2 (cExt raw t3) fun i j => if i < 3 then g i j else f (i - 3) j := by
  intro i j
  pointwise [cExt]
  by_cases hi : (i : ℕ) < 3
  · rw [dif_pos hi, if_pos hi]; exact hg ⟨i, hi⟩ j
  · rw [dif_neg hi, if_neg hi]; exact h ⟨i - 3, _⟩ j

/-- The convolution. -/
theorem cConv_re {ext : FVec Ideal S259x2304 .f32} {cw : FVec Ideal S1x4x2304 .f32} {cb : FVec Ideal S1x1x2304 .f32} {f : ℕ → ℕ → ℝ}
    {fw fb : ℕ → ℕ → ℕ → ℝ} (h : Re2 ext f) (hw : Re3 cw fw) (hb : Re3 cb fb) :
    Re2 (cConv ext cw cb) fun i j =>
      fw 0 0 j * f i j + fw 0 1 j * f (i + 1) j + fw 0 2 j * f (i + 2) j + fw 0 3 j * f (i + 3) j + fb 0 0 j := by
  intro i j
  pointwise [cConv]
  simp only [h _ _, hw _ _ _, hb _ _ _]
  simp only [Nat.add_comm _ (i : ℕ)]
  norm_cast

/-- The activation. -/
theorem cXbc_re {cv : FVec Ideal S256x2304 .f32} {f : ℕ → ℕ → ℝ} (h : Re2 cv f) : Re2 (cXbc cv) fun i j => Spec.silu (f i j) := by
  intro i j
  pointwise [cXbc]
  rw [h, Ideal.logistic_coe, ← EReal.coe_mul]
  rfl

/-- The values. -/
theorem cX_re {a : FVec Ideal S256x2304 .f32} {f : ℕ → ℕ → ℝ} (h : Re2 a f) : Re2 (cX a) f := by
  intro i j
  pointwise [cX]
  simp [h _ _]

/-- The input directions. -/
theorem cB_re {a : FVec Ideal S256x2304 .f32} {f : ℕ → ℕ → ℝ} (h : Re2 a f) : Re2 (cB a) fun i j => f i (2048 + j) := by
  intro i j
  pointwise [cB]
  simp [h _ _]

/-- The output directions. -/
theorem cC_re {a : FVec Ideal S256x2304 .f32} {f : ℕ → ℕ → ℝ} (h : Re2 a f) : Re2 (cC a) fun i j => f i (2176 + j) := by
  intro i j
  pointwise [cC]
  simp [h _ _]

/-- The time steps, where the input is at most twenty. -/
theorem cDt_re {d : FVec Ideal S256x32 .f32} {b : FVec Ideal S1x1x32 .f32} {f : ℕ → ℕ → ℝ} {g : ℕ → ℕ → ℕ → ℝ} (h : Re2 d f) (hb : Re3 b g)
    (hle : ∀ (i : Fin 256) (j : Fin 32), f i j + g 0 0 j ≤ 20) : Re2 (cDt d b) fun i j => Real.log (1 + Real.exp (f i j + g 0 0 j)) := by
  intro i j
  have h20 := hle i j
  pointwise [cDt]
  have hs : d (ix2 i j) + b (ix3 0 0 j) = ((f i j + g 0 0 j : ℝ) : EReal) := by
    rw [h, hb, EReal.coe_add]; rfl
  have hpos : ¬ (1 + Real.exp (f i j + g 0 0 j) ≤ 0) := by
    have := Real.exp_pos (f i j + g 0 0 j); linarith
  rw [hs, show (1101004800#32 : BitVec 32) = 0x41A00000#32 from rfl, word_20,
    min_eq_left (EReal.coe_le_coe_iff.mpr h20), Ideal.exp_coe, ← EReal.coe_one, ← EReal.coe_add, Ideal.log_coe, if_neg hpos,
    ← EReal.coe_sub, ← EReal.coe_zero, max_eq_right (EReal.coe_le_coe_iff.mpr (by linarith)), ← EReal.coe_add, add_zero]

/-- The log-decays. -/
theorem cLa_re {d : FVec Ideal S256x32 .f32} {a : FVec Ideal S1x1x32 .f32} {f : ℕ → ℕ → ℝ} {g : ℕ → ℕ → ℕ → ℝ} (h : Re2 d f) (ha : Re3 a g) :
    Re2 (cLa d a) fun i j => f i j * -Real.exp (g 0 0 j) := by
  intro i j
  pointwise [cLa]
  rw [h, ha, Ideal.exp_coe, ← EReal.coe_zero, ← EReal.coe_sub, ← EReal.coe_mul, zero_sub]
  rfl

/-- The lower triangle's entries. -/
theorem cMask_val (i k : Fin 256) : cMask (ix2 i k) = if (k : ℕ) ≤ i then 1#1 else 0#1 := by
  pointwise [cMask]
  have hi := i.isLt
  have hk := k.isLt
  have h : (BitVec.ofNat 32 (k : ℕ)).sle (BitVec.ofNat 32 (i : ℕ)) = decide ((k : ℕ) ≤ i) := by
    have e : ∀ n < 256, (BitVec.ofNat 32 n).toInt = (n : ℤ) := fun n hn => by
      rw [BitVec.toInt_eq_toNat_of_lt (by rw [BitVec.toNat_ofNat]; omega), BitVec.toNat_ofNat]
      omega
    rw [BitVec.sle_eq_decide, e _ hk, e _ hi]
    simp
  by_cases c : (k : ℕ) ≤ i
  · rw [if_pos c]
    simp [IntOp.cmpi, h, c]
  · rw [if_neg c]
    simp [IntOp.cmpi, h, c]

/-- The lower triangle's entries as numbers. -/
theorem mask_num (i k : Fin 256) :
    FloatOps.sitofp (F := Ideal) .f32 (BitVec.setWidth 32 (cMask (ix2 i k))) = (((if (k : ℕ) ≤ i then 1 else 0 : ℝ) : ℝ) : EReal) := by
  rw [cMask_val]
  by_cases c : (k : ℕ) ≤ i
  · rw [if_pos c, if_pos c]
    show (((BitVec.toInt (BitVec.setWidth 32 1#1) : ℤ) : ℝ) : EReal) = _
    norm_num
  · rw [if_neg c, if_neg c]
    show (((BitVec.toInt (BitVec.setWidth 32 0#1) : ℤ) : ℝ) : EReal) = _
    norm_num

/-- The summed log-decays. -/
theorem cCs_re {a : FVec Ideal S256x32 .f32} {f : ℕ → ℕ → ℝ} (h : Re2 a f) :
    Re2 (cCs a) fun i j => ∑ k : Fin 256, (if (k : ℕ) ≤ i then f k j else 0) := by
  intro i j
  pointwise [cCs]
  rw [coe_sum_mul (fun k => mask_num i k) (fun k => h k j),
    coe_sum_mul (b := fun _ => 0) (fun k => mask_num i k) (fun k => by rw [h k j, ← EReal.coe_sub, sub_self]), ← EReal.coe_add]
  simp

/-- The last row of the summed log-decays. -/
theorem cLast_re {a : FVec Ideal S256x32 .f32} {f : ℕ → ℕ → ℝ} (h : Re2 a f) : Re2 (cLast a) fun _ j => f 255 j := by
  intro i j
  pointwise [cLast]
  exact h 255 j

/-- The input projection of the rows turned around. -/
theorem cZxRev_re {u : FVec Ideal S1x256x1024 .bf16} {wiT : FVec Ideal S1024x4384 .bf16} {fu : ℕ → ℕ → ℕ → ℝ} {fw : ℕ → ℕ → ℝ}
    (hu : Re3 u fu) (hw : Re2 wiT fw) : Re2 (cZxRev u wiT) fun i j => ∑ k : Fin 1024, fu 0 (255 - i) k * fw k j := by
  intro i j
  pointwise [cZxRev]
  refine coe_sum_mul (fun k => ?_) (fun k => hw k j)
  rw [coe_sum_mul (fun r => cRev_val i r) (fun r => hu 0 r k)]
  exact congrArg _ (pick_row i fun r => fu 0 r k)

/-- The rows turned around. -/
theorem cFlip_re {n : FVec Ideal S256x2048 .bf16} {f : ℕ → ℕ → ℝ} (h : Re2 n f) : Re2 (cFlip n) fun i j => f (255 - i) j := by
  intro i j
  pointwise [cFlip]
  rw [coe_sum_mul (fun r => cRev_val i r) (fun r => h r j)]
  rw [pick_row i fun r => f r j]

/-- The per-head factors, stacked: five pieces. -/
def fV (fdt fcs : ℕ → ℕ → ℝ) (fd : ℕ → ℕ → ℕ → ℝ) (r h : ℕ) : ℝ :=
  if r < 256 then fdt r h
  else if r < 512 then fdt (r - 256) h * Real.exp (fcs 255 h - fcs (r - 256) h)
  else if r < 768 then Real.exp (fcs (r - 512) h)
  else if r < 769 then Real.exp (fcs 255 h)
  else fd 0 0 h

/-- The per-head factors, stacked. -/
theorem cV_re {dt cs : FVec Ideal S256x32 .f32} {dd : FVec Ideal S1x1x32 .f32} {fdt fcs : ℕ → ℕ → ℝ} {fd : ℕ → ℕ → ℕ → ℝ}
    (h : Re2 dt fdt) (hc : Re2 cs fcs) (hd : Re3 dd fd) : Re2 (cV dt cs dd) (fV fdt fcs fd) := by
  intro i j
  pointwise [cV]
  have hi := i.isLt
  unfold fV
  by_cases h1 : (i : ℕ) < 256
  · rw [dif_pos h1, if_pos h1]; exact h ⟨i, h1⟩ j
  rw [dif_neg h1, if_neg h1]
  by_cases h2 : (i : ℕ) < 512
  · rw [dif_pos (show (i : ℕ) - 256 < 256 by omega), if_pos h2, h _ _, hc _ _, cLast_re hc _ _, ← EReal.coe_sub, Ideal.exp_coe, ← EReal.coe_mul]
  rw [dif_neg (show ¬ (i : ℕ) - 256 < 256 by omega), if_neg h2]
  by_cases h3 : (i : ℕ) < 768
  · rw [dif_pos (show (i : ℕ) - 256 - 256 < 256 by omega), if_pos h3, hc _ _, Ideal.exp_coe, show (i : ℕ) - 512 = i - 256 - 256 by omega]
  rw [dif_neg (show ¬ (i : ℕ) - 256 - 256 < 256 by omega), if_neg h3]
  by_cases h4 : (i : ℕ) < 769
  · rw [dif_pos (show (i : ℕ) - 256 - 256 - 256 < 1 by omega), if_pos h4, cLast_re hc _ _, Ideal.exp_coe]
  rw [dif_neg (show ¬ (i : ℕ) - 256 - 256 - 256 < 1 by omega), if_neg h4]
  exact hd 0 0 j

/-- The per-head factors over the heads' columns. -/
theorem cEx_re {v : FVec Ideal S770x32 .f32} {e : FVec Ideal S32x2048 .bf16} {f : ℕ → ℕ → ℝ} (h : Re2 v f)
    (he : Re2 e fun r c => if r = c / 64 then 1 else 0) : Re2 (cEx v e) fun r c => f r (c / 64) := by
  intro i j
  pointwise [cEx]
  rw [coe_sum_mul (fun k => h i k) (fun k => he k j),
    coe_sum_mul (a := fun _ => 0) (fun k => by rw [h i k, ← EReal.coe_sub, sub_self]) (fun k => he k j), ← EReal.coe_add]
  congr 1
  have hj : (j : ℕ) / 64 < 32 := by have := j.isLt; omega
  rw [Finset.sum_eq_single (⟨(j : ℕ) / 64, hj⟩ : Fin 32)]
  · simp
  · intro b _ hb
    show f i b * (if (b : ℕ) = j / 64 then 1 else 0) = 0
    rw [if_neg (fun h => hb (Fin.ext h)), mul_zero]
  · intro h; exact absurd (Finset.mem_univ _) h

/-- The values times the time steps. -/
theorem cDtx_re {ex : FVec Ideal S770x2048 .f32} {x : FVec Ideal S256x2048 .f32} {f g : ℕ → ℕ → ℝ} (h : Re2 ex f) (hx : Re2 x g) :
    Re2 (cDtx ex x) fun i j => f i j * g i j := by
  intro i j
  pointwise [cDtx]
  simp [h _ _, hx _ _]

/-- The contribution of the carried state. -/
theorem cYin_re {ex : FVec Ideal S770x2048 .f32} {cc : FVec Ideal S256x128 .f32} {s : FVec Ideal S128x2048 .f32} {f g fs : ℕ → ℕ → ℝ}
    (h : Re2 ex f) (hc : Re2 cc g) (hs : Re2 s fs) :
    Re2 (cYin ex cc s) fun i j => (∑ n : Fin 128, g i n * fs n j) * f (512 + i) j := by
  intro i j
  pointwise [cYin]
  rw [coe_sum_mul (fun n => hc i n) (fun n => hs n j), h _ _, ← EReal.coe_mul]

/-- The state handed on. -/
theorem cS_re {ex : FVec Ideal S770x2048 .f32} {x : FVec Ideal S256x2048 .f32} {bb : FVec Ideal S256x128 .f32} {s : FVec Ideal S128x2048 .f32}
    {f g fb fs : ℕ → ℕ → ℝ} (h : Re2 ex f) (hx : Re2 x g) (hb : Re2 bb fb) (hs : Re2 s fs) :
    Re2 (cS ex x bb s) fun n c => f 768 c * fs n c + ∑ j : Fin 256, fb j n * (f (256 + j) c * g j c) := by
  intro i j
  pointwise [cS]
  rw [coe_sum_mul (b := fun k : Fin 256 => f (256 + k) j * g k j) (fun k => hb k i) (fun k => by rw [h _ _, hx _ _, ← EReal.coe_mul]), h _ _, hs _ _,
    ← EReal.coe_mul, ← EReal.coe_add]
  rfl

/-- The products of output and input directions. -/
theorem cCB_re {bb cc : FVec Ideal S256x128 .f32} {f g : ℕ → ℕ → ℝ} (h : Re2 bb f) (hc : Re2 cc g) :
    Re2 (cCB bb cc) fun i j => ∑ n : Fin 128, g i n * f j n := by
  intro i j
  pointwise [cCB]
  exact coe_sum_mul (fun n => hc i n) (fun n => h j n)

/-- The contribution of the block's own rows, for one head. -/
theorem cHead_re {cs : FVec Ideal S256x32 .f32} {cb : FVec Ideal S256x256 .f32} {dtx : FVec Ideal S256x2048 .f32} {fc fb fx : ℕ → ℕ → ℝ}
    (hc : Re2 cs fc) (hb : Re2 cb fb) (hx : Re2 dtx fx) (h : Fin 32) :
    Re2 (cHead h cs cb dtx) fun i j =>
      ∑ k : Fin 256, fb i k * (if (k : ℕ) ≤ i then Real.exp (fc i h - fc k h) else 0) * fx k (64 * h + j) := by
  intro i j
  pointwise [cHead]
  have hm : ∀ k : Fin 256, Ideal.exp (Scalar.select (cMask (ix2 i k)) (cs (ix2 i h) - cs (ix2 k h)) (Named.named (F := Ideal) (φ := .f32) κ "mask" 0xF149F2CA#32 : EReal))
      = (((if (k : ℕ) ≤ i then Real.exp (fc i h - fc k h) else 0 : ℝ) : ℝ) : EReal) := by
    intro k
    rw [cMask_val]
    by_cases c : (k : ℕ) ≤ i
    · rw [if_pos c, if_pos c, hc, hc, ← EReal.coe_sub, ← Ideal.exp_coe]
      rfl
    · rw [if_neg c, if_neg c]
      show Ideal.exp (Named.named (F := Ideal) (φ := .f32) κ "mask" 0xF149F2CA#32 : EReal) = _
      rw [IdealRules.named_const.ideal_named_scalar _ _ _ _ rfl]
      rfl
  refine coe_sum_mul (a := fun k : Fin 256 => fb i k * (if (k : ℕ) ≤ i then Real.exp (fc i h - fc k h) else 0)) (fun k => ?_) (fun k => hx k _)
  rw [hb, EReal.coe_mul, ← hm k]

/-- The contribution of the block's own rows. -/
theorem cYi_re {cs : FVec Ideal S256x32 .f32} {cb : FVec Ideal S256x256 .f32} {dtx : FVec Ideal S256x2048 .f32} {fc fb fx : ℕ → ℕ → ℝ}
    (hc : Re2 cs fc) (hb : Re2 cb fb) (hx : Re2 dtx fx) :
    Re2 (cYi cs cb dtx) fun i c =>
      ∑ k : Fin 256, fb i k * (if (k : ℕ) ≤ i then Real.exp (fc i (c / 64) - fc k (c / 64)) else 0) * fx k c := by
  intro i j
  have hj : (j : ℕ) / 64 < 32 := by have := j.isLt; omega
  have e : cYi cs cb dtx (ix2 i j) = cHead ⟨(j : ℕ) / 64, hj⟩ cs cb dtx (ix2 i ⟨(j : ℕ) % 64, Nat.mod_lt _ (by norm_num)⟩) :=
    concatenate_ofFn_apply (t := S256x2048) (s₁ := S256x64) (1 : Fin 2) (fun h : Fin 32 => cHead h cs cb dtx)
      concatenates_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x2048_d1
      rfl 64 rfl (ix2 i j) ⟨(j : ℕ) / 64, hj⟩ rfl (ix2 i ⟨(j : ℕ) % 64, Nat.mod_lt _ (by norm_num)⟩) rfl
      (fun b hb => by fin_cases b <;> first | rfl | exact absurd rfl hb)
  rw [e, cHead_re hc hb hx]
  simp only [Nat.div_add_mod]

/-- The output before the gate. -/
theorem cY_re {ex : FVec Ideal S770x2048 .f32} {yi yin x : FVec Ideal S256x2048 .f32} {f a b g : ℕ → ℕ → ℝ} (h : Re2 ex f) (ha : Re2 yi a)
    (hb : Re2 yin b) (hx : Re2 x g) : Re2 (cY ex yi yin x) fun i j => a i j + b i j + f 769 j * g i j := by
  intro i j
  pointwise [cY]
  rw [h _ _, ha, hb, hx, ← EReal.coe_add, ← EReal.coe_mul, ← EReal.coe_add]
  rfl

/-- The gated output. -/
theorem cYg_re {y z : FVec Ideal S256x2048 .f32} {f g : ℕ → ℕ → ℝ} (h : Re2 y f) (hz : Re2 z g) :
    Re2 (cYg y z) fun i j => f i j * Spec.silu (g i j) := by
  intro i j
  pointwise [cYg]
  rw [h, hz, Ideal.logistic_coe, ← EReal.coe_mul, ← EReal.coe_mul]
  rfl

/-- The normalised output. -/
theorem cN_re {yg : FVec Ideal S256x2048 .f32} {nw : FVec Ideal S1x1x2048 .f32} {f : ℕ → ℕ → ℝ} {g : ℕ → ℕ → ℕ → ℝ} (h : Re2 yg f) (hn : Re3 nw g) :
    Re2 (cN yg nw) fun i j => f i j * (Real.sqrt ((∑ c : Fin 2048, f i c * f i c) / 2048 + Spec.eps))⁻¹ * g 0 0 j := by
  intro i j
  pointwise [cN]
  have hms : (0 : ℝ) ≤ (∑ c : Fin 2048, f i c * f i c) / 2048 := div_nonneg (Finset.sum_nonneg fun _ _ => mul_self_nonneg _) (by norm_num)
  have hpos : 0 < (∑ c : Fin 2048, f i c * f i c) / 2048 + Spec.eps := add_pos_of_nonneg_of_pos hms (by norm_num [Spec.eps])
  rw [coe_sum_mul (fun c => h i c) (fun c => h i c), show (1157627904#32 : BitVec 32) = 0x45000000#32 from rfl, word_2048,
    show (925353388#32 : BitVec 32) = 0x3727C5AC#32 from rfl, word_eps, Ideal.div_coe (by norm_num), ← EReal.coe_mul, mul_one_div, ← EReal.coe_add,
    Ideal.rsqrt_coe, if_neg (not_lt.mpr hpos.le), if_neg hpos.ne', h, hn, ← EReal.coe_mul, ← EReal.coe_mul]
  rfl

/-- The output projection. -/
theorem cOut_re {n : FVec Ideal S256x2048 .bf16} {woT : FVec Ideal S2048x1024 .bf16} {f g : ℕ → ℕ → ℝ} (h : Re2 n f) (hw : Re2 woT g) :
    Re3 (cOut n woT) fun _ i j => ∑ c : Fin 2048, f i c * g c j := by
  intro a i j
  pointwise [cOut]
  exact coe_sum_mul (fun c => h i c) (fun c => hw c j)

end Cert.Proof.KI

end
-- ==== Proof.Block.lean ====
/- One block of 256 steps of the kernel is 256 steps of the layer over the real numbers. -/
module

public import proofs.«01_k».proof.Proof.VocabVal

@[expose] public section

set_option maxRecDepth 16384

noncomputable section

namespace Cert.Proof.KI

open Cert.KernelIdeal Cert.KernelIdeal.Gen
open Idealize.ShloMosaic Idealize.ShloMosaic.TcCoe Idealize.ShloMosaic.Tactic

/-- The small inputs of a block hold one direction's parameters. -/
structure Holds (p : Spec.Par) (x : Ins Ideal) : Prop where
  cw : Re3 x.cw fun _ k j => p.cw k j
  cb : Re3 x.cb fun _ _ j => p.cb j
  dtb : Re3 x.dtb fun _ _ j => p.dtb j
  alog : Re3 x.alog fun _ _ j => p.alog j
  dd : Re3 x.dd fun _ _ j => p.dd j
  nw : Re3 x.nw fun _ _ j => p.nw j
  e : Re2 x.e fun r c => if r = c / 64 then 1 else 0

variable {p : Spec.Par} {T : ℕ} {zx : FVec Ideal S256x4384 .f32} {x : Ins Ideal} {s : FVec Ideal S128x2048 .f32} {t3 : FVec Ideal S3x2304 .f32}

/-- The activation after the convolution. -/
theorem gXbc_re (hx : Holds p x) (hz : Re2 zx fun i j => Spec.zx p (T + i) j) (ht : Re2 t3 fun i j => Spec.late p (T + i) j) :
    Re2 (gXbc zx x t3) fun i j => Spec.xbc p (T + i) j := by
  have h : Re2 (cExt (cRaw zx) t3) fun i j => Spec.late p (T + i) j := (cExt_re (cRaw_re hz) ht).congr fun i _ j _ => by
    by_cases hi : i < 3
    · simp only [if_pos hi]
    · rw [if_neg hi, Spec.late, if_neg (by omega), show T + i - 3 = T + (i - 3) by omega]
  exact cXbc_re (cConv_re h hx.cw hx.cb)

/-- The time steps. -/
theorem gDt_re (hx : Holds p x) (hz : Re2 zx fun i j => Spec.zx p (T + i) j) (h20 : ∀ i < 256, ∀ h < 32, Spec.darg p (T + i) h ≤ 20) :
    Re2 (gDt zx x) fun i j => Spec.dt p (T + i) j :=
  cDt_re (cDtr_re hz) hx.dtb fun i j => h20 i i.isLt j j.isLt

/-- The summed log-decays. -/
theorem gCs_re (hx : Holds p x) (hz : Re2 zx fun i j => Spec.zx p (T + i) j) (h20 : ∀ i < 256, ∀ h < 32, Spec.darg p (T + i) h ≤ 20) :
    Re2 (gCs zx x) fun i j => Spec.cum p T (i + 1) j :=
  (cCs_re (cLa_re (gDt_re hx hz h20) hx.alog)).congr fun i hi j _ => by
    rw [Fin.sum_univ_eq_sum_range (fun k => if k ≤ i then Spec.dt p (T + k) j * -Real.exp (p.alog j) else 0) 256, ← Finset.sum_filter]
    unfold Spec.cum Spec.la
    congr 1
    ext k
    simp only [Finset.mem_filter, Finset.mem_range]
    omega

/-- The per-head factors over the heads' columns. -/
theorem gEx_re (hx : Holds p x) (hz : Re2 zx fun i j => Spec.zx p (T + i) j) (h20 : ∀ i < 256, ∀ h < 32, Spec.darg p (T + i) h ≤ 20) :
    Re2 (gEx zx x) fun r c => fV (fun i j => Spec.dt p (T + i) j) (fun i j => Spec.cum p T (i + 1) j) (fun _ _ j => p.dd j) r (c / 64) :=
  cEx_re (cV_re (gDt_re hx hz h20) (gCs_re hx hz h20) hx.dd) hx.e

/-- The state after the block. -/
theorem gS_re (hx : Holds p x) (hz : Re2 zx fun i j => Spec.zx p (T + i) j) (ht : Re2 t3 fun i j => Spec.late p (T + i) j)
    (hs : Re2 s (Spec.st p T)) (h20 : ∀ i < 256, ∀ h < 32, Spec.darg p (T + i) h ≤ 20) : Re2 (gS zx x s t3) (Spec.st p (T + 256)) :=
  (cS_re (gEx_re hx hz h20) (cX_re (gXbc_re hx hz ht)) (cB_re (gXbc_re hx hz ht)) hs).congr fun n _ c _ => by
    rw [Spec.st_block]
    refine congrArg₂ (· + ·) rfl (Finset.sum_congr rfl fun j _ => ?_)
    have hj := j.isLt
    simp only [fV, if_neg (show ¬ 256 + (j : ℕ) < 256 by omega), if_pos (show 256 + (j : ℕ) < 512 by omega), Nat.add_sub_cancel_left]

/-- The last three rows of the block. -/
theorem cRows_late (hz : Re2 zx fun i j => Spec.zx p (T + i) j) : Re2 (cRows (cRaw zx)) fun i j => Spec.late p (T + 256 + i) j :=
  (cRows_re (cRaw_re hz)).congr fun i _ j _ => by
    rw [Spec.late, if_neg (by omega), show T + 256 + i - 3 = T + (253 + i) by omega]

/-- The normalised output of the block. -/
theorem gN_re (hx : Holds p x) (hz : Re2 zx fun i j => Spec.zx p (T + i) j) (ht : Re2 t3 fun i j => Spec.late p (T + i) j)
    (hs : Re2 s (Spec.st p T)) (h20 : ∀ i < 256, ∀ h < 32, Spec.darg p (T + i) h ≤ 20) : Re2 (gN zx x s t3) fun i c => Spec.yn p (T + i) c := by
  have hX := gXbc_re hx hz ht
  have hE := gEx_re hx hz h20
  have hy : Re2 (cY (gEx zx x) (cYi (gCs zx x) (cCB (cB (gXbc zx x t3)) (cC (gXbc zx x t3))) (cDtx (gEx zx x) (cX (gXbc zx x t3))))
      (cYin (gEx zx x) (cC (gXbc zx x t3)) s) (cX (gXbc zx x t3))) fun i c => Spec.ysc p (T + i) c :=
    (cY_re hE (cYi_re (gCs_re hx hz h20) (cCB_re (cB_re hX) (cC_re hX)) (cDtx_re hE (cX_re hX))) (cYin_re hE (cC_re hX) hs) (cX_re hX)).congr
      fun i hi c _ => by
        rw [Spec.ysc_add p T i c hi]
        refine congrArg₂ (· + ·) (congrArg₂ (· + ·) (Finset.sum_congr rfl fun j _ => ?_) ?_) rfl
        · simp only [fV, if_pos j.isLt]
        · simp only [fV, if_neg (show ¬ 512 + i < 256 by omega), if_neg (show ¬ 512 + i < 512 by omega), if_pos (show 512 + i < 768 by omega),
            Nat.add_sub_cancel_left]
  exact cN_re (cYg_re hy (cZ_re hz)) hx.nw

end Cert.Proof.KI

end
-- ==== Proof.Steps.lean ====
/- The grid points of either launch carry one direction's sequence forward by a block. -/
module

public import proofs.«01_k».proof.Proof.Block

@[expose] public section

set_option maxRecDepth 16384

noncomputable section

namespace Cert.Proof.KI

open Cert.KernelIdeal Cert.KernelIdeal.Gen
open Idealize.ShloMosaic Idealize.ShloMosaic.TcCoe Idealize.ShloMosaic.Tactic

/-- What is carried into time `T`: the state, the three rows before, the two transposed weights. -/
structure Carries (p : Spec.Par) (T : ℕ) (s : FVec Ideal S128x2048 .f32) (t3 : FVec Ideal S3x2304 .f32)
    (wi : FVec Ideal S1024x4384 .bf16) (wo : FVec Ideal S2048x1024 .bf16) : Prop where
  s : Re2 s (Spec.st p T)
  t3 : Re2 t3 fun i j => Spec.late p (T + i) j
  wi : Re2 wi fun k j => p.wi j k
  wo : Re2 wo fun c o => p.wo o c

variable {p : Spec.Par} {T : ℕ} {x : Ins Ideal} {s : FVec Ideal S128x2048 .f32} {t3 : FVec Ideal S3x2304 .f32}
  {wi : FVec Ideal S1024x4384 .bf16} {wo : FVec Ideal S2048x1024 .bf16}

/-- A grid point of the first launch. -/
theorem step0_carries (hx : Holds p x) (hu : Re3 x.u fun _ i k => p.u (T + i) k) (h : Carries p T s t3 wi wo)
    (h20 : ∀ i < 256, ∀ h < 32, Spec.darg p (T + i) h ≤ 20) :
    Re3 (step0 x s t3 wi wo).1 (fun _ i o => Spec.out p (T + i) o)
      ∧ Carries p (T + 256) (step0 x s t3 wi wo).2.1 (step0 x s t3 wi wo).2.2 wi wo := by
  rw [step0_eq]
  have hz : Re2 (cZx x.u wi) fun i j => Spec.zx p (T + i) j := cZx_re hu h.wi
  exact ⟨cOut_re (gN_re hx hz h.t3 h.s h20) h.wo, gS_re hx hz h.t3 h.s h20, cRows_late hz, h.wi, h.wo⟩

/-- A grid point of the second launch: the rows come and go turned around. -/
theorem step1_carries (hx : Holds p x) (hu : Re3 x.u fun _ i k => p.u (T + (255 - i)) k) (h : Carries p T s t3 wi wo)
    (h20 : ∀ i < 256, ∀ h < 32, Spec.darg p (T + i) h ≤ 20) :
    Re3 (step1 x s t3 wi wo).1 (fun _ i o => Spec.out p (T + (255 - i)) o)
      ∧ Carries p (T + 256) (step1 x s t3 wi wo).2.1 (step1 x s t3 wi wo).2.2 wi wo := by
  rw [step1_eq]
  have hz : Re2 (cZxRev x.u wi) fun i j => Spec.zx p (T + i) j := (cZxRev_re hu h.wi).congr fun i hi j _ => by
    rw [show 255 - (255 - i) = i by omega]; rfl
  exact ⟨cOut_re (cFlip_re (gN_re hx hz h.t3 h.s h20)) h.wo, gS_re hx hz h.t3 h.s h20, cRows_late hz, h.wi, h.wo⟩

/-- What the first grid point of a sequence sets up. -/
theorem carries_init (hwi : Re3 x.wi fun _ j k => p.wi j k) (hwo : Re3 x.wo fun _ o c => p.wo o c) :
    Carries p 0 k0_pay2 (row3 (F := Ideal) (k0_pay3 (F := Ideal))) (k0_pay4 x.wi) (k0_pay5 x.wo) where
  s i j := by pointwise [k0_pay2]; rfl
  t3 i j := by
    have hi := i.isLt
    show _ = ((Spec.late p (0 + (i : ℕ)) j : ℝ) : EReal)
    have e : Spec.late p (0 + (i : ℕ)) j = 0 := by unfold Spec.late; exact if_pos (by omega)
    rw [e]
    pointwise [row3, k0_pay3]; rfl
  wi i j := by pointwise [k0_pay4]; exact hwi 0 j i
  wo i j := by pointwise [k0_pay5]; exact hwo 0 j i

/-- The same of the second launch. -/
theorem carries_init1 (hwi : Re3 x.wi fun _ j k => p.wi j k) (hwo : Re3 x.wo fun _ o c => p.wo o c) :
    Carries p 0 k1_pay2 (row3 (F := Ideal) (k1_pay3 (F := Ideal))) (k1_pay4 x.wi) (k1_pay5 x.wo) :=
  carries_init hwi hwo

/-- The nine arrays beside the sequence hold one direction's parameters, whatever the batch row. -/
structure Feeds (P : ℕ → Spec.Par) (wi : FVec Ideal S1x4384x1024 .bf16) (cw : FVec Ideal S1x4x2304 .f32) (cb : FVec Ideal S1x1x2304 .f32)
    (dtb alog dd : FVec Ideal S1x1x32 .f32) (nw : FVec Ideal S1x1x2048 .f32) (wo : FVec Ideal S1x1024x2048 .bf16) (e : FVec Ideal S32x2048 .bf16) : Prop where
  wi b : Re3 wi fun _ j k => (P b).wi j k
  cw b : Re3 cw fun _ k j => (P b).cw k j
  cb b : Re3 cb fun _ _ j => (P b).cb j
  dtb b : Re3 dtb fun _ _ j => (P b).dtb j
  alog b : Re3 alog fun _ _ j => (P b).alog j
  dd b : Re3 dd fun _ _ j => (P b).dd j
  nw b : Re3 nw fun _ _ j => (P b).nw j
  wo b : Re3 wo fun _ o c => (P b).wo o c
  e : Re2 e fun r c => if r = c / 64 then 1 else 0

end Cert.Proof.KI

end
-- ==== Proof.Grid0.lean ====
/- Launch 0 of the kernel, over the real numbers: its output array in the layer's terms. -/
module

public import proofs.«01_k».proof.Proof.Steps
public import proofs.«01_k».proof.Proof.KernelIdealMain

@[expose] public section

set_option maxRecDepth 16384

noncomputable section

namespace Cert.Proof.KI.R0

open Cert.KernelIdeal Cert.KernelIdeal.Gen
open Idealize.ShloMosaic Idealize.ShloMosaic.TcCoe Idealize.ShloMosaic.Tactic
open Idealize.ShloMosaic.Pipeline (Dat Cfg Window)

/-- The windows' block indices. -/
theorem idx : ∀ t : Fin cfg0.N, win0_0.index t = ![t.val / 8, t.val % 8, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] ∧ win0_9.index t = ![0, 0] ∧ win0_10.index t = ![t.val / 8, t.val % 8, 0] :=
  (by decide +kernel : ∀ t : Fin grid0.N, _)

variable (V : Dev nD → Valuation τ sig (Elt Ideal)) (c : Dev nD) (P : ℕ → Spec.Par)

/-- The arrays this launch finds beside the sequence hold the parameters. -/
abbrev Fed : Prop :=
  Feeds P (V c main_call0_v45) (V c main_call0_v46) (V c main_call0_v47) (V c main_call0_v48) (V c main_call0_v49) (V c main_call0_v50) (V c main_call0_v51) (V c main_call0_v52) (V c main_call0_v44)

/-! The blocks of the small arrays are the arrays. -/

/-- Window 1's block is its array. -/
theorem rd_1 (t : Fin cfg0.N) i j k : iblk V c 1 t (ix3 i j k) = V c main_call0_v45 (ix3 i j k) := by
  blk_ext [iblk, idx t]

/-- Window 2's block is its array. -/
theorem rd_2 (t : Fin cfg0.N) i j k : iblk V c 2 t (ix3 i j k) = V c main_call0_v46 (ix3 i j k) := by
  blk_ext [iblk, idx t]

/-- Window 3's block is its array. -/
theorem rd_3 (t : Fin cfg0.N) i j k : iblk V c 3 t (ix3 i j k) = V c main_call0_v47 (ix3 i j k) := by
  blk_ext [iblk, idx t]

/-- Window 4's block is its array. -/
theorem rd_4 (t : Fin cfg0.N) i j k : iblk V c 4 t (ix3 i j k) = V c main_call0_v48 (ix3 i j k) := by
  blk_ext [iblk, idx t]

/-- Window 5's block is its array. -/
theorem rd_5 (t : Fin cfg0.N) i j k : iblk V c 5 t (ix3 i j k) = V c main_call0_v49 (ix3 i j k) := by
  blk_ext [iblk, idx t]

/-- Window 6's block is its array. -/
theorem rd_6 (t : Fin cfg0.N) i j k : iblk V c 6 t (ix3 i j k) = V c main_call0_v50 (ix3 i j k) := by
  blk_ext [iblk, idx t]

/-- Window 7's block is its array. -/
theorem rd_7 (t : Fin cfg0.N) i j k : iblk V c 7 t (ix3 i j k) = V c main_call0_v51 (ix3 i j k) := by
  blk_ext [iblk, idx t]

/-- Window 8's block is its array. -/
theorem rd_8 (t : Fin cfg0.N) i j k : iblk V c 8 t (ix3 i j k) = V c main_call0_v52 (ix3 i j k) := by
  blk_ext [iblk, idx t]

/-- Window 9's block is its array. -/
theorem rd_9 (t : Fin cfg0.N) i j : iblk V c 9 t (ix2 i j) = V c main_call0_v44 (ix2 i j) := by
  blk_ext [iblk, idx t]

variable {V c P}

/-- The blocks of the small arrays hold the parameters. -/
theorem holds (h : Fed V c P) (b : ℕ) (t : Fin cfg0.N) : Holds (P b) (ins V c t) where
  cw i j k := (rd_2 V c t i j k).trans (h.cw b i j k)
  cb i j k := (rd_3 V c t i j k).trans (h.cb b i j k)
  dtb i j k := (rd_4 V c t i j k).trans (h.dtb b i j k)
  alog i j k := (rd_5 V c t i j k).trans (h.alog b i j k)
  dd i j k := (rd_6 V c t i j k).trans (h.dd b i j k)
  nw i j k := (rd_7 V c t i j k).trans (h.nw b i j k)
  e i j := (rd_9 V c t i j).trans (h.e i j)

/-- What the points up to `n` leave, in the layer's terms. -/
theorem st_re (h : Fed V c P) (hu : Re3 (V c main_call0_v0 : FVec Ideal S2x2048x1024 .bf16) fun b t k => (P b).u t k)
    (h20 : ∀ b < 2, ∀ t < 2048, ∀ h < 32, Spec.darg (P b) t h ≤ 20) :
    ∀ (n : ℕ) (hn : n < cfg0.N), Re3 (st V c n hn).out (fun _ i o => Spec.out (P (n / 8)) (256 * (n % 8) + i) o)
      ∧ Carries (P (n / 8)) (256 * (n % 8) + 256) (st V c n hn).s (st V c n hn).t3 (st V c n hn).wi (st V c n hn).wo := by
  intro n
  induction n using Nat.strong_induction_on with
  | _ n ih =>
    intro hn
    have hN : n < 16 := lt_of_lt_of_eq hn (show cfg0.N = 16 from N_0)
    have hub : Re3 (ins V c ⟨n, hn⟩).u fun _ i k => (P (n / 8)).u (256 * (n % 8) + i) k := by
      intro a i k
      have e : iblk V c 0 ⟨n, hn⟩ (ix3 a i k) = (V c main_call0_v0 : FVec Ideal S2x2048x1024 .bf16) (ix3 ⟨n / 8, by omega⟩ ⟨256 * (n % 8) + i, by omega⟩ k) := by
        blk_ext [iblk, idx ⟨n, hn⟩]
      refine e.trans ((hu _ _ _).trans ?_)
      have hi := i.isLt
      exact congrArg (fun T => (((P (n / 8)).u T k : ℝ) : EReal)) (by show 256 * (n % 8) + (i : ℕ) = _; rfl)
    have hh : ∀ i < 256, ∀ h < 32, Spec.darg (P (n / 8)) (256 * (n % 8) + i) h ≤ 20 := fun i hi => h20 _ (by omega) _ (by omega)
    by_cases h0 : n % 8 = 0
    · rw [st_A V c n hn h0]
      rw [h0] at hub hh ⊢
      have key := step0_carries (holds h (n / 8) ⟨n, hn⟩) hub (carries_init (x := ins V c ⟨n, hn⟩)
        (fun i j k => (rd_1 V c ⟨n, hn⟩ i j k).trans (h.wi _ i j k))
        (fun i j k => (rd_8 V c ⟨n, hn⟩ i j k).trans (h.wo _ i j k))) hh
      exact key
    · have hn' : n - 1 < cfg0.N := Nat.lt_of_le_of_lt (Nat.sub_le _ _) hn
      rw [st_B V c n hn h0 hn']
      have prev := (ih (n - 1) (by omega) hn').2
      rw [show (n - 1) / 8 = n / 8 by omega, show 256 * ((n - 1) % 8) + 256 = 256 * (n % 8) by omega] at prev
      exact step0_carries (holds h (n / 8) ⟨n, hn⟩) hub prev hh

/-- The output array after the launch. -/
theorem out_re (h : Fed V c P) (hu : Re3 (V c main_call0_v0 : FVec Ideal S2x2048x1024 .bf16) fun b t k => (P b).u t k)
    (h20 : ∀ b < 2, ∀ t < 2048, ∀ h < 32, Spec.darg (P b) t h ≤ 20) :
    Re3 ((dat V c).arrAt 10 cfg0.N : FVec Ideal S2x2048x1024 .f32) fun b t o => Spec.out (P b) t o := by
  intro b t o
  have key := (dat V c).arrAt_forall_of_covers 10
    (fun (i : S2x2048x1024.Idx) (v : EReal) => v = ((Spec.out (P (i 0).val) (i 1).val (i 2).val : ℝ) : EReal)) (by decide +kernel) ?_ (ix3 b t o)
  · exact key
  intro s hf y
  have hN : s.val < 16 := lt_of_lt_of_eq s.isLt (show cfg0.N = 16 from N_0)
  idx_vars y
  blk_simp [idx s]
  rw [after_10]
  refine ((st_re h hu h20 s.val s.isLt).1 y0 y1 y2).trans ?_
  exact congrArg (fun T => ((Spec.out (P (s.val / 8)) T y2 : ℝ) : EReal)) (by show 256 * (s.val % 8) + (y1 : ℕ) = s.val % 8 * 256 + (y1 : ℕ); omega)

end Cert.Proof.KI.R0

end
-- ==== Proof.Grid1.lean ====
/- Launch 1 of the kernel, over the real numbers: its output array in the layer's terms. -/
module

public import proofs.«01_k».proof.Proof.Steps
public import proofs.«01_k».proof.Proof.KernelIdealMain

@[expose] public section

set_option maxRecDepth 16384

noncomputable section

namespace Cert.Proof.KI.R1

open Cert.KernelIdeal Cert.KernelIdeal.Gen
open Idealize.ShloMosaic Idealize.ShloMosaic.TcCoe Idealize.ShloMosaic.Tactic
open Idealize.ShloMosaic.Pipeline (Dat Cfg Window)

/-- The windows' block indices. -/
theorem idx : ∀ t : Fin cfg1.N, win1_0.index t = ![t.val / 8, 7 - t.val % 8, 0] ∧ win1_1.index t = ![0, 0, 0] ∧ win1_2.index t = ![0, 0, 0]
    ∧ win1_3.index t = ![0, 0, 0] ∧ win1_4.index t = ![0, 0, 0] ∧ win1_5.index t = ![0, 0, 0] ∧ win1_6.index t = ![0, 0, 0]
    ∧ win1_7.index t = ![0, 0, 0] ∧ win1_8.index t = ![0, 0, 0] ∧ win1_9.index t = ![0, 0] ∧ win1_10.index t = ![t.val / 8, 7 - t.val % 8, 0] :=
  (by decide +kernel : ∀ t : Fin grid1.N, _)

variable (V : Dev nD → Valuation τ sig (Elt Ideal)) (c : Dev nD) (P : ℕ → Spec.Par)

/-- The arrays this launch finds beside the sequence hold the parameters. -/
abbrev Fed : Prop :=
  Feeds P (V c main_call0_v54) (V c main_call0_v55) (V c main_call0_v56) (V c main_call0_v57) (V c main_call0_v58) (V c main_call0_v59) (V c main_call0_v60) (V c main_call0_v61) (V c main_call0_v44)

/-! The blocks of the small arrays are the arrays. -/

/-- Window 1's block is its array. -/
theorem rd_1 (t : Fin cfg1.N) i j k : iblk V c 1 t (ix3 i j k) = V c main_call0_v54 (ix3 i j k) := by
  blk_ext [iblk, idx t]

/-- Window 2's block is its array. -/
theorem rd_2 (t : Fin cfg1.N) i j k : iblk V c 2 t (ix3 i j k) = V c main_call0_v55 (ix3 i j k) := by
  blk_ext [iblk, idx t]

/-- Window 3's block is its array. -/
theorem rd_3 (t : Fin cfg1.N) i j k : iblk V c 3 t (ix3 i j k) = V c main_call0_v56 (ix3 i j k) := by
  blk_ext [iblk, idx t]

/-- Window 4's block is its array. -/
theorem rd_4 (t : Fin cfg1.N) i j k : iblk V c 4 t (ix3 i j k) = V c main_call0_v57 (ix3 i j k) := by
  blk_ext [iblk, idx t]

/-- Window 5's block is its array. -/
theorem rd_5 (t : Fin cfg1.N) i j k : iblk V c 5 t (ix3 i j k) = V c main_call0_v58 (ix3 i j k) := by
  blk_ext [iblk, idx t]

/-- Window 6's block is its array. -/
theorem rd_6 (t : Fin cfg1.N) i j k : iblk V c 6 t (ix3 i j k) = V c main_call0_v59 (ix3 i j k) := by
  blk_ext [iblk, idx t]

/-- Window 7's block is its array. -/
theorem rd_7 (t : Fin cfg1.N) i j k : iblk V c 7 t (ix3 i j k) = V c main_call0_v60 (ix3 i j k) := by
  blk_ext [iblk, idx t]

/-- Window 8's block is its array. -/
theorem rd_8 (t : Fin cfg1.N) i j k : iblk V c 8 t (ix3 i j k) = V c main_call0_v61 (ix3 i j k) := by
  blk_ext [iblk, idx t]

/-- Window 9's block is its array. -/
theorem rd_9 (t : Fin cfg1.N) i j : iblk V c 9 t (ix2 i j) = V c main_call0_v44 (ix2 i j) := by
  blk_ext [iblk, idx t]

variable {V c P}

/-- The blocks of the small arrays hold the parameters. -/
theorem holds (h : Fed V c P) (b : ℕ) (t : Fin cfg1.N) : Holds (P b) (ins V c t) where
  cw i j k := (rd_2 V c t i j k).trans (h.cw b i j k)
  cb i j k := (rd_3 V c t i j k).trans (h.cb b i j k)
  dtb i j k := (rd_4 V c t i j k).trans (h.dtb b i j k)
  alog i j k := (rd_5 V c t i j k).trans (h.alog b i j k)
  dd i j k := (rd_6 V c t i j k).trans (h.dd b i j k)
  nw i j k := (rd_7 V c t i j k).trans (h.nw b i j k)
  e i j := (rd_9 V c t i j).trans (h.e i j)

/-- What the points up to `n` leave, in the layer's terms. -/
theorem st_re (h : Fed V c P) (hu : Re3 (V c main_call0_v0 : FVec Ideal S2x2048x1024 .bf16) fun b t k => (P b).u (2047 - t) k)
    (h20 : ∀ b < 2, ∀ t < 2048, ∀ h < 32, Spec.darg (P b) t h ≤ 20) :
    ∀ (n : ℕ) (hn : n < cfg1.N), Re3 (st V c n hn).out (fun _ i o => Spec.out (P (n / 8)) (256 * (n % 8) + (255 - i)) o)
      ∧ Carries (P (n / 8)) (256 * (n % 8) + 256) (st V c n hn).s (st V c n hn).t3 (st V c n hn).wi (st V c n hn).wo := by
  intro n
  induction n using Nat.strong_induction_on with
  | _ n ih =>
    intro hn
    have hN : n < 16 := lt_of_lt_of_eq hn (show cfg1.N = 16 from N_1)
    have hub : Re3 (ins V c ⟨n, hn⟩).u fun _ i k => (P (n / 8)).u (256 * (n % 8) + (255 - i)) k := by
      intro a i k
      have e : iblk V c 0 ⟨n, hn⟩ (ix3 a i k) = (V c main_call0_v0 : FVec Ideal S2x2048x1024 .bf16) (ix3 ⟨n / 8, by omega⟩ ⟨256 * (7 - n % 8) + i, by omega⟩ k) := by
        blk_ext [iblk, idx ⟨n, hn⟩]
      refine e.trans ((hu _ _ _).trans ?_)
      have hi := i.isLt
      exact congrArg (fun T => (((P (n / 8)).u T k : ℝ) : EReal)) (by show 2047 - (256 * (7 - n % 8) + (i : ℕ)) = _; omega)
    have hh : ∀ i < 256, ∀ h < 32, Spec.darg (P (n / 8)) (256 * (n % 8) + i) h ≤ 20 := fun i hi => h20 _ (by omega) _ (by omega)
    by_cases h0 : n % 8 = 0
    · rw [st_A V c n hn h0]
      rw [h0] at hub hh ⊢
      have key := step1_carries (holds h (n / 8) ⟨n, hn⟩) hub (carries_init1 (x := ins V c ⟨n, hn⟩)
        (fun i j k => (rd_1 V c ⟨n, hn⟩ i j k).trans (h.wi _ i j k))
        (fun i j k => (rd_8 V c ⟨n, hn⟩ i j k).trans (h.wo _ i j k))) hh
      exact key
    · have hn' : n - 1 < cfg1.N := Nat.lt_of_le_of_lt (Nat.sub_le _ _) hn
      rw [st_B V c n hn h0 hn']
      have prev := (ih (n - 1) (by omega) hn').2
      rw [show (n - 1) / 8 = n / 8 by omega, show 256 * ((n - 1) % 8) + 256 = 256 * (n % 8) by omega] at prev
      exact step1_carries (holds h (n / 8) ⟨n, hn⟩) hub prev hh

/-- The output array after the launch. -/
theorem out_re (h : Fed V c P) (hu : Re3 (V c main_call0_v0 : FVec Ideal S2x2048x1024 .bf16) fun b t k => (P b).u (2047 - t) k)
    (h20 : ∀ b < 2, ∀ t < 2048, ∀ h < 32, Spec.darg (P b) t h ≤ 20) :
    Re3 ((dat V c).arrAt 10 cfg1.N : FVec Ideal S2x2048x1024 .f32) fun b t o => Spec.out (P b) (2047 - t) o := by
  intro b t o
  have key := (dat V c).arrAt_forall_of_covers 10
    (fun (i : S2x2048x1024.Idx) (v : EReal) => v = ((Spec.out (P (i 0).val) (2047 - (i 1).val) (i 2).val : ℝ) : EReal)) (by decide +kernel) ?_ (ix3 b t o)
  · exact key
  intro s hf y
  have hN : s.val < 16 := lt_of_lt_of_eq s.isLt (show cfg1.N = 16 from N_1)
  idx_vars y
  blk_simp [idx s]
  rw [after_10]
  refine ((st_re h hu h20 s.val s.isLt).1 y0 y1 y2).trans ?_
  exact congrArg (fun T => ((Spec.out (P (s.val / 8)) T y2 : ℝ) : EReal)) (by show 256 * (s.val % 8) + (255 - (y1 : ℕ)) = 2047 - ((7 - s.val % 8) * 256 + (y1 : ℕ)); omega)

end Cert.Proof.KI.R1

end
-- ==== Proof.Args.lean ====
/- The seventeen arguments as real numbers, and the parameters of each direction and batch row among them. -/
module

public import proofs.«01_k».proof.Proof.CoeKit

@[expose] public section

noncomputable section

namespace Cert.Proof

open Idealize.ShloMosaic

/-- The arguments' real entries; the direction comes first: 0 forward, 1 backward. -/
structure Reals where
  /-- batch row, time, feature -/
  u : ℕ → ℕ → ℕ → ℝ
  wi : ℕ → ℕ → ℕ → ℝ
  /-- direction, tap, channel -/
  cw : ℕ → ℕ → ℕ → ℝ
  cb : ℕ → ℕ → ℝ
  dtb : ℕ → ℕ → ℝ
  alog : ℕ → ℕ → ℝ
  dd : ℕ → ℕ → ℝ
  nw : ℕ → ℕ → ℝ
  wo : ℕ → ℕ → ℕ → ℝ

/-- The parameters of direction `d` and batch row `b`: the backward direction reads the sequence from its end. -/
def Reals.par (R : Reals) (d b : ℕ) : Spec.Par where
  u t k := R.u b (if d = 0 then t else 2047 - t) k
  wi := R.wi d
  cw := R.cw d
  cb := R.cb d
  dtb := R.dtb d
  alog := R.alog d
  dd := R.dd d
  nw := R.nw d
  wo := R.wo d

/-- The result: the two directions' mean. -/
def Reals.res (R : Reals) (b t o : ℕ) : ℝ := (Spec.out (R.par 0 b) t o + Spec.out (R.par 1 b) (2047 - t) o) * (1 / 2)

/-- The seventeen arrays hold the reals. -/
structure IsReal (R : Reals) (a0 : (⟨3, ![2, 2048, 1024]⟩ : Shape).Idx → EReal)
    (a1 : (⟨2, ![4384, 1024]⟩ : Shape).Idx → EReal) (a2 : (⟨3, ![2304, 1, 4]⟩ : Shape).Idx → EReal) (a3 : (⟨1, ![2304]⟩ : Shape).Idx → EReal)
    (a4 a5 a6 : (⟨1, ![32]⟩ : Shape).Idx → EReal) (a7 : (⟨1, ![2048]⟩ : Shape).Idx → EReal) (a8 : (⟨2, ![1024, 2048]⟩ : Shape).Idx → EReal)
    (a9 : (⟨2, ![4384, 1024]⟩ : Shape).Idx → EReal) (a10 : (⟨3, ![2304, 1, 4]⟩ : Shape).Idx → EReal) (a11 : (⟨1, ![2304]⟩ : Shape).Idx → EReal)
    (a12 a13 a14 : (⟨1, ![32]⟩ : Shape).Idx → EReal) (a15 : (⟨1, ![2048]⟩ : Shape).Idx → EReal) (a16 : (⟨2, ![1024, 2048]⟩ : Shape).Idx → EReal) : Prop where
  u : Re3 a0 R.u
  wi0 : Re2 a1 (R.wi 0)
  cw0 : Re3 a2 fun j _ k => R.cw 0 k j
  cb0 : Re1 a3 (R.cb 0)
  dtb0 : Re1 a4 (R.dtb 0)
  alog0 : Re1 a5 (R.alog 0)
  dd0 : Re1 a6 (R.dd 0)
  nw0 : Re1 a7 (R.nw 0)
  wo0 : Re2 a8 (R.wo 0)
  wi1 : Re2 a9 (R.wi 1)
  cw1 : Re3 a10 fun j _ k => R.cw 1 k j
  cb1 : Re1 a11 (R.cb 1)
  dtb1 : Re1 a12 (R.dtb 1)
  alog1 : Re1 a13 (R.alog 1)
  dd1 : Re1 a14 (R.dd 1)
  nw1 : Re1 a15 (R.nw 1)
  wo1 : Re2 a16 (R.wo 1)
  /-- the time-step inputs are at most twenty, in both directions -/
  small : ∀ d < 2, ∀ b < 2, ∀ t < 2048, ∀ h < 32, Spec.darg (R.par d b) t h ≤ 20

end Cert.Proof

end
-- ==== Proof.HostIn.lean ====
/- What the host lines before the launches leave, element by element. -/
module

public import proofs.«01_k».proof.Proof.Gen.KernelIdeal.Regions
public import proofs.«01_k».proof.Proof.Args
public import Idealize.ShloMosaic.Lib.StableHlo.ReadAt
public import Idealize.ShloMosaic.Lib.StableHlo.RunRead

@[expose] public section

set_option maxRecDepth 16384

noncomputable section

namespace Cert.Proof.KI

open Cert.KernelIdeal Cert.KernelIdeal.Gen
open Idealize.ShloMosaic Idealize.ShloMosaic.TcCoe Idealize.ShloMosaic.Tactic

variable (m : (ℓ : Loc nD τ sig) → Buf (Elt Ideal) ℓ) (outs : Outs (F := Ideal)) (c : Dev nD)

/-- The sequence. -/
theorem in_u (b : Fin 2) (t : Fin 2048) (k : Fin 1024) : (V1 m c main_call0_v0 : FVec Ideal S2x2048x1024 .bf16) (ix3 b t k) = (m ((c : Thread nD τ).loc main_arg0) : FVec Ideal S2x2048x1024 .f32) (ix3 b t k) := by
  unfold V1
  after_reads_at

/-- The forward input projection. -/
theorem in_wi (i : Fin 1) (j : Fin 4384) (k : Fin 1024) : (V1 m c main_call0_v45 : FVec Ideal S1x4384x1024 .bf16) (ix3 i j k) = (m ((c : Thread nD τ).loc main_arg1) : FVec Ideal S4384x1024 .f32) (ix2 j k) := by
  unfold V1
  after_reads_at
  after_reads_at

/-- The forward convolution. -/
theorem in_cw (i : Fin 1) (k : Fin 4) (j : Fin 2304) : (V1 m c main_call0_v46 : FVec Ideal S1x4x2304 .f32) (ix3 i k j) = (m ((c : Thread nD τ).loc main_arg2) : FVec Ideal S2304x1x4 .f32) (ix3 j 0 k) := by
  unfold V1
  after_reads_at
  after_reads_at

/-- The forward convolution bias. -/
theorem in_cb (i k : Fin 1) (j : Fin 2304) : (V1 m c main_call0_v47 : FVec Ideal S1x1x2304 .f32) (ix3 i k j) = (m ((c : Thread nD τ).loc main_arg3) : FVec Ideal S2304 .f32) (ix1 j) := by
  unfold V1
  after_reads_at
  after_reads_at

/-- The forward time-step bias. -/
theorem in_dtb (i k : Fin 1) (j : Fin 32) : (V1 m c main_call0_v48 : FVec Ideal S1x1x32 .f32) (ix3 i k j) = (m ((c : Thread nD τ).loc main_arg4) : FVec Ideal S32 .f32) (ix1 j) := by
  unfold V1
  after_reads_at
  after_reads_at

/-- The forward decay rate. -/
theorem in_alog (i k : Fin 1) (j : Fin 32) : (V1 m c main_call0_v49 : FVec Ideal S1x1x32 .f32) (ix3 i k j) = (m ((c : Thread nD τ).loc main_arg5) : FVec Ideal S32 .f32) (ix1 j) := by
  unfold V1
  after_reads_at
  after_reads_at

/-- The forward skip weight. -/
theorem in_dd (i k : Fin 1) (j : Fin 32) : (V1 m c main_call0_v50 : FVec Ideal S1x1x32 .f32) (ix3 i k j) = (m ((c : Thread nD τ).loc main_arg6) : FVec Ideal S32 .f32) (ix1 j) := by
  unfold V1
  after_reads_at
  after_reads_at

/-- The forward norm weight. -/
theorem in_nw (i k : Fin 1) (j : Fin 2048) : (V1 m c main_call0_v51 : FVec Ideal S1x1x2048 .f32) (ix3 i k j) = (m ((c : Thread nD τ).loc main_arg7) : FVec Ideal S2048 .f32) (ix1 j) := by
  unfold V1
  after_reads_at
  after_reads_at

/-- The forward output projection. -/
theorem in_wo (i : Fin 1) (j : Fin 1024) (k : Fin 2048) : (V1 m c main_call0_v52 : FVec Ideal S1x1024x2048 .bf16) (ix3 i j k) = (m ((c : Thread nD τ).loc main_arg8) : FVec Ideal S1024x2048 .f32) (ix2 j k) := by
  unfold V1
  after_reads_at
  after_reads_at

/-- The backward input projection. -/
theorem in_wi' (i : Fin 1) (j : Fin 4384) (k : Fin 1024) : (V3 m outs c main_call0_v54 : FVec Ideal S1x4384x1024 .bf16) (ix3 i j k) = (m ((c : Thread nD τ).loc main_arg9) : FVec Ideal S4384x1024 .f32) (ix2 j k) := by
  unfold V3
  after_reads_at
  rw [V2_of m outs c main_call0_v4 (by decide)]
  unfold V1
  after_reads_at
  after_reads_at

/-- The backward convolution. -/
theorem in_cw' (i : Fin 1) (k : Fin 4) (j : Fin 2304) : (V3 m outs c main_call0_v55 : FVec Ideal S1x4x2304 .f32) (ix3 i k j) = (m ((c : Thread nD τ).loc main_arg10) : FVec Ideal S2304x1x4 .f32) (ix3 j 0 k) := by
  unfold V3
  after_reads_at
  rw [V2_of m outs c main_call0_v15 (by decide)]
  unfold V1
  after_reads_at
  after_reads_at

/-- The backward convolution bias. -/
theorem in_cb' (i k : Fin 1) (j : Fin 2304) : (V3 m outs c main_call0_v56 : FVec Ideal S1x1x2304 .f32) (ix3 i k j) = (m ((c : Thread nD τ).loc main_arg11) : FVec Ideal S2304 .f32) (ix1 j) := by
  unfold V3
  after_reads_at
  rw [V2_of m outs c main_call0_v19 (by decide)]
  unfold V1
  after_reads_at
  after_reads_at

/-- The backward time-step bias. -/
theorem in_dtb' (i k : Fin 1) (j : Fin 32) : (V3 m outs c main_call0_v57 : FVec Ideal S1x1x32 .f32) (ix3 i k j) = (m ((c : Thread nD τ).loc main_arg12) : FVec Ideal S32 .f32) (ix1 j) := by
  unfold V3
  after_reads_at
  rw [V2_of m outs c main_call0_v23 (by decide)]
  unfold V1
  after_reads_at
  after_reads_at

/-- The backward decay rate. -/
theorem in_alog' (i k : Fin 1) (j : Fin 32) : (V3 m outs c main_call0_v58 : FVec Ideal S1x1x32 .f32) (ix3 i k j) = (m ((c : Thread nD τ).loc main_arg13) : FVec Ideal S32 .f32) (ix1 j) := by
  unfold V3
  after_reads_at
  rw [V2_of m outs c main_call0_v27 (by decide)]
  unfold V1
  after_reads_at
  after_reads_at

/-- The backward skip weight. -/
theorem in_dd' (i k : Fin 1) (j : Fin 32) : (V3 m outs c main_call0_v59 : FVec Ideal S1x1x32 .f32) (ix3 i k j) = (m ((c : Thread nD τ).loc main_arg14) : FVec Ideal S32 .f32) (ix1 j) := by
  unfold V3
  after_reads_at
  rw [V2_of m outs c main_call0_v31 (by decide)]
  unfold V1
  after_reads_at
  after_reads_at

/-- The backward norm weight. -/
theorem in_nw' (i k : Fin 1) (j : Fin 2048) : (V3 m outs c main_call0_v60 : FVec Ideal S1x1x2048 .f32) (ix3 i k j) = (m ((c : Thread nD τ).loc main_arg15) : FVec Ideal S2048 .f32) (ix1 j) := by
  unfold V3
  after_reads_at
  rw [V2_of m outs c main_call0_v35 (by decide)]
  unfold V1
  after_reads_at
  after_reads_at

/-- The backward output projection. -/
theorem in_wo' (i : Fin 1) (j : Fin 1024) (k : Fin 2048) : (V3 m outs c main_call0_v61 : FVec Ideal S1x1024x2048 .bf16) (ix3 i j k) = (m ((c : Thread nD τ).loc main_arg16) : FVec Ideal S1024x2048 .f32) (ix2 j k) := by
  unfold V3
  after_reads_at
  rw [V2_of m outs c main_call0_v8 (by decide)]
  unfold V1
  after_reads_at
  after_reads_at

/-- Dividing a column by the head's width, as the host lines do it on words. -/
theorem head_word : ∀ k : Fin 2048,
    Scalar.select
      (IntOp.andi
        (IntOp.cmpi CmpIPredicate.ne (if BitVec.ofNat 32 k.val = 0 then (0 : BitVec 32) else if (BitVec.ofNat 32 k.val).msb = true then -1 else 1)
          (if (64#32 : BitVec 32) = 0 then 0 else if BitVec.msb (64#32) = true then -1 else 1))
        (IntOp.cmpi CmpIPredicate.ne (IntOp.remsi ArithUnit.host (BitVec.ofNat 32 k.val) 64#32) 0#32))
      (IntOp.subi (IntOp.divsi ArithUnit.host (BitVec.ofNat 32 k.val) 64#32) 1#32)
      (IntOp.divsi ArithUnit.host (BitVec.ofNat 32 k.val) 64#32) = BitVec.ofNat 32 (k.val / 64) := by
  decide +kernel

/-- Two heads' words are equal exactly when the heads are, as a one-bit word. -/
theorem head_bit : ∀ h g : Fin 32, (IntOp.cmpi CmpIPredicate.eq (BitVec.ofNat 32 g.val) (BitVec.ofNat 32 h.val)).toNat = if h.val = g.val then 1 else 0 := by
  decide +kernel

/-- The one-hot rows: row `h` marks the columns of head `h`. -/
theorem in_e (h : Fin 32) (k : Fin 2048) : (V1 m c main_call0_v44 : FVec Ideal S32x2048 .bf16) (ix2 h k) = (((if h.val = k.val / 64 then 1 else 0 : ℝ)) : EReal) := by
  have e : (V1 m c main_call0_v44 : FVec Ideal S32x2048 .bf16) (ix2 h k) = FloatOps.uitofp (F := Ideal) FTy.bf16 (IntOp.cmpi CmpIPredicate.eq (BitVec.ofNat 32 (k.val / 64)) (BitVec.ofNat 32 h.val)) := by
    rw [← head_word k]
    unfold V1
    after_reads_at
    rfl
  rw [e]
  have b := head_bit h ⟨k.val / 64, by omega⟩
  show (((IntOp.cmpi CmpIPredicate.eq (BitVec.ofNat 32 (k.val / 64)) (BitVec.ofNat 32 h.val)).toNat : ℝ) : EReal) = _
  rw [b]
  split_ifs <;> simp

end Cert.Proof.KI
end
-- ==== Proof.KernelIdealValue.lean ====
/- What the whole program leaves in its result, read as real numbers. -/
module

public import proofs.«01_k».proof.Proof.KernelIdealMain
public import proofs.«01_k».proof.Proof.Grid0
public import proofs.«01_k».proof.Proof.Grid1
public import proofs.«01_k».proof.Proof.HostIn

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Seg HostSeg RegionSeg)

variable (m : (ℓ : Loc nD τ sig) → Buf (Elt Ideal) ℓ) (ρ : Dev nD → PrngReg) (c : Dev nD) (R : Reals)

/-- The seventeen arguments hold the reals. -/
abbrev Real : Prop := IsReal R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))

variable {m c R}

/-- The first launch finds the forward direction's parameters. -/
theorem fed0 (h : Real m c R) : R0.Fed (V1 m) c (R.par 0) where
  wi b i j k := (in_wi m c i j k).trans (h.wi0 j k)
  cw b i k j := (in_cw m c i k j).trans (h.cw0 j 0 k)
  cb b i k j := (in_cb m c i k j).trans (h.cb0 j)
  dtb b i k j := (in_dtb m c i k j).trans (h.dtb0 j)
  alog b i k j := (in_alog m c i k j).trans (h.alog0 j)
  dd b i k j := (in_dd m c i k j).trans (h.dd0 j)
  nw b i k j := (in_nw m c i k j).trans (h.nw0 j)
  wo b i j k := (in_wo m c i j k).trans (h.wo0 j k)
  e i k := in_e m c i k

/-- The second launch finds the backward direction's parameters. -/
theorem fed1 (outs : Outs (F := Ideal)) (h : Real m c R) : R1.Fed (V3 m outs) c (R.par 1) where
  wi b i j k := (in_wi' m outs c i j k).trans (h.wi1 j k)
  cw b i k j := (in_cw' m outs c i k j).trans (h.cw1 j 0 k)
  cb b i k j := (in_cb' m outs c i k j).trans (h.cb1 j)
  dtb b i k j := (in_dtb' m outs c i k j).trans (h.dtb1 j)
  alog b i k j := (in_alog' m outs c i k j).trans (h.alog1 j)
  dd b i k j := (in_dd' m outs c i k j).trans (h.dd1 j)
  nw b i k j := (in_nw' m outs c i k j).trans (h.nw1 j)
  wo b i j k := (in_wo' m outs c i j k).trans (h.wo1 j k)
  e i k := (congrFun ((V3_of m outs c main_call0_v44 (by decide)).trans (V2_of m outs c main_call0_v44 (by decide))) (ix2 i k)).trans (in_e m c i k)

/-- The forward launch's result. -/
theorem fin0_re (h : Real m c R) : Re3 (fin0 m c : FVec Ideal S2x2048x1024 .f32) fun b t o => Spec.out (R.par 0 b) t o :=
  R0.out_re (V := V1 m) (c := c) (P := R.par 0) (fed0 h) (fun b t k => (in_u m c b t k).trans (h.u b t k)) (h.small 0 (by omega))

/-- The backward launch's result. -/
theorem fin1_re (h : Real m c R) : Re3 (fin1 m c : FVec Ideal S2x2048x1024 .f32) fun b t o => Spec.out (R.par 1 b) (2047 - t) o := by
  refine R1.out_re (V := V3 m (outs0 m)) (c := c) (P := R.par 1) (fed1 (outs0 m) h) (fun b t k => ?_) (h.small 1 (by omega))
  refine ((congrFun ((V3_of m (outs0 m) c main_call0_v0 (by decide)).trans (V2_of m (outs0 m) c main_call0_v0 (by decide))) (ix3 b t k)).trans (in_u m c b t k)).trans ((h.u b t k).trans ?_)
  have ht := t.isLt
  exact congrArg (fun T => ((R.u b T k : ℝ) : EReal)) (by show (t : ℕ) = 2047 - (2047 - t); omega)

/-- The two results' mean. -/
theorem v0_re (h : Real m c R) : Re3 (V5 m (outs m) c main_v0 : FVec Ideal S2x2048x1024 .f32) R.res := by
  intro b t o
  have e0 := fin0_re h b t o
  have e1 := fin1_re h b t o
  rw [← outs_0 m c] at e0
  rw [← outs_1 m c] at e1
  unfold V5
  after_reads_at
  rw [V4_of m (outs m) c main_call0_v53 (by decide), V3_of m (outs m) c main_call0_v53 (by decide)]
  unfold V4 V2
  rw [Function.update_self, Function.update_self, e0, e1, show (1056964608#32 : BitVec 32) = 0x3F000000#32 from rfl, word_half]
  unfold Reals.res
  norm_cast

variable (m)

/-- The run: the result buffer ends at the last valuation's, and each argument as launched. -/
theorem run :
    θ_run defs (onTc (τ := τ) (main (F := Ideal))) ⟨m, fun _ => 0, ρ⟩ (fun r => (∀ c : Dev nD,
      r.2.mem ((c.tc : Thread nD τ).loc main_v0) = V5 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      )
      ∧ r.2.sem = fun _ => 0) := by
  refine Pipeline.θ_run_regions_kit_dev_sems (pcfgs (F := Ideal)) adm (pdats m) () cellOf_inj (EP (F := Ideal)) defs₀ Variants.none L lv m ρ main
    (segs m (outs m) Variants.none L lv (Er (F := Ideal)) () (pdats m) (reg0 m) (reg1 m))
    (fun c Q => by
      rewrite [main_chain c, Seg.run_eq_chain,
        show (segs m (outs m) Variants.none L lv (Er (F := Ideal)) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun g h => if_neg h) (fun _ => BI.emp) u₀ hu₀
    (T₀ := fun c => iprop(StableHlo.held (c : Thread nD τ) (Pipeline.ucRefs τ sig) (V0 m c) ∗ Er 0 c))
    (Tₙ := fun c => StableHlo.held (c : Thread nD τ) (Pipeline.ucRefs τ sig) (V5 m (outs m) c))
    (hch := fun c => ⟨.rfl, hpre0 m c, hpost0 m c, hpre1 m c, hpost1 m c, sep_mono .rfl .rfl⟩)
    (hinit := ?_) (QY := fun c s => s.mem ((c.tc : Thread nD τ).loc main_v0) = V5 m (outs m) c main_v0 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ BI.emp))
            : sProp (MT nD τ sig Unit (Elt Ideal) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h (Proc.devRef .tc main_v0) (Finset.mem_filter.mpr ⟨StableHlo.devRef_mem_tcRefs main_v0, by decide⟩),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c),
        (h (Proc.devRef .tc main_arg6) (Finset.mem_filter.mpr ⟨StableHlo.devRef_mem_tcRefs main_arg6, by decide⟩)).trans (V5_main_arg6 m (outs m) c),
        (h (Proc.devRef .tc main_arg7) (Finset.mem_filter.mpr ⟨StableHlo.devRef_mem_tcRefs main_arg7, by decide⟩)).trans (V5_main_arg7 m (outs m) c),
        (h (Proc.devRef .tc main_arg8) (Finset.mem_filter.mpr ⟨StableHlo.devRef_mem_tcRefs main_arg8, by decide⟩)).trans (V5_main_arg8 m (outs m) c),
        (h (Proc.devRef .tc main_arg9) (Finset.mem_filter.mpr ⟨StableHlo.devRef_mem_tcRefs main_arg9, by decide⟩)).trans (V5_main_arg9 m (outs m) c),
        (h (Proc.devRef .tc main_arg10) (Finset.mem_filter.mpr ⟨StableHlo.devRef_mem_tcRefs main_arg10, by decide⟩)).trans (V5_main_arg10 m (outs m) c),
        (h (Proc.devRef .tc main_arg11) (Finset.mem_filter.mpr ⟨StableHlo.devRef_mem_tcRefs main_arg11, by decide⟩)).trans (V5_main_arg11 m (outs m) c),
        (h (Proc.devRef .tc main_arg12) (Finset.mem_filter.mpr ⟨StableHlo.devRef_mem_tcRefs main_arg12, by decide⟩)).trans (V5_main_arg12 m (outs m) c),
        (h (Proc.devRef .tc main_arg13) (Finset.mem_filter.mpr ⟨StableHlo.devRef_mem_tcRefs main_arg13, by decide⟩)).trans (V5_main_arg13 m (outs m) c),
        (h (Proc.devRef .tc main_arg14) (Finset.mem_filter.mpr ⟨StableHlo.devRef_mem_tcRefs main_arg14, by decide⟩)).trans (V5_main_arg14 m (outs m) c),
        (h (Proc.devRef .tc main_arg15) (Finset.mem_filter.mpr ⟨StableHlo.devRef_mem_tcRefs main_arg15, by decide⟩)).trans (V5_main_arg15 m (outs m) c),
        (h (Proc.devRef .tc main_arg16) (Finset.mem_filter.mpr ⟨StableHlo.devRef_mem_tcRefs main_arg16, by decide⟩)).trans (V5_main_arg16 m (outs m) c)⟩
    · iexact HSI

end Cert.Proof.KI

end
-- ==== Proof.RefFrame.lean ====
module

public import proofs.«01_k».proof.Proof.Gen.ReferenceIdeal.Run
public import Idealize.ShloMosaic.Lib.StableHlo.RunHlo

@[expose] public section

noncomputable section

namespace Cert.Proof.RI

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The reference program declares no semaphore. -/
theorem no_cell (x : SemLoc sig) : False := by
  cases x with
  | reg s => exact Fin.elim0 s
  | dma s => exact Fin.elim0 s

/-- What host stretch 7 writes, in order. -/
abbrev hostOps0_7_W : List (Ref sig .tc) := [main_v89, main_v90, main_v91, main_v92, main_v93, main_v94]

/-- Host stretch 7 writes nothing else. -/
theorem hostOps0_7_writes : (hostOps0_7 : List (HloOp τ sig (Elt F))).Forall fun op => op.writes ⊆ (hostOps0_7_W.map (Proc.devRef (τ := τ) .tc)).toFinset :=
  StableHlo.forall_writes_sub_of_map rfl

/-- What host stretch 8 writes, in order. -/
abbrev hostOps0_8_W : List (Ref sig .tc) := [main_call8_v0, main_call8_v1, main_call8_cst, main_call8_v2, main_call8_v3, main_call8_cst_0, main_call8_v4, main_call8_v5, main_v95]

/-- Host stretch 8 writes nothing else. -/
theorem hostOps0_8_writes : (hostOps0_8 : List (HloOp τ sig (Elt F))).Forall fun op => op.writes ⊆ (hostOps0_8_W.map (Proc.devRef (τ := τ) .tc)).toFinset :=
  StableHlo.forall_writes_sub_of_map rfl

/-- What host stretch 9 writes, in order. -/
abbrev hostOps0_9_W : List (Ref sig .tc) := [main_v96, main_v97, main_cst_3, main_v98, main_v99, main_cst_4, main_v100, main_v101, main_cst_5, main_v102, main_v103, main_v104, main_v105, main_v106, main_v107, main_v108, main_v109, main_v110, main_v111, main_v112, main_v113, main_v114, main_v115, main_v116, main_v117, main_cst_6, main_v118, main_v119]

/-- Host stretch 9 writes nothing else. -/
theorem hostOps0_9_writes : (hostOps0_9 : List (HloOp τ sig (Elt F))).Forall fun op => op.writes ⊆ (hostOps0_9_W.map (Proc.devRef (τ := τ) .tc)).toFinset :=
  StableHlo.forall_writes_sub_of_map rfl

/-- A buffer that no trip of the loop and no test of the loop writes. -/
def LoopKept (b : Ref sig .tc) : Prop :=
  b ∉ condOps_W ∧ b ∉ while0Ops0_W ∧ b ∉ while0Ops0_1_W ∧ b ∉ while0Ops0_2_W ∧ b ∉ while0Ops0_3_W ∧ b ∉ while0Ops0_4_W
    ∧ b ∉ while0Ops0_5_W ∧ b ∉ while0Ops0_6_W

/-- A buffer that no host line, no trip of the loop and no test of the loop writes. -/
def Kept (b : Ref sig .tc) : Prop :=
  b ∉ hostOps0_W ∧ b ∉ hostOps0_1_W ∧ b ∉ hostOps0_2_W ∧ b ∉ hostOps0_3_W ∧ b ∉ hostOps0_4_W ∧ b ∉ hostOps0_5_W
    ∧ b ∉ hostOps0_6_W ∧ b ∉ hostOps0_7_W ∧ b ∉ hostOps0_8_W ∧ b ∉ hostOps0_9_W ∧ LoopKept b

/-- A buffer kept by the whole run is kept by the loop. -/
theorem Kept.loop {b : Ref sig .tc} (h : Kept b) : LoopKept b := h.2.2.2.2.2.2.2.2.2.2

/-- The host lines before the loop leave a kept buffer alone. -/
theorem pre_keeps (V : Valuation τ sig (Elt F)) {b : Ref sig .tc} (h : Kept b) :
    afterL preI V (Proc.devRef .tc b) = V (Proc.devRef .tc b) := by
  obtain ⟨h0, h1, h2, h3, h4, h5, h6, -⟩ := h
  simp only [preI, afterL_cons, afterL_nil]
  rw [after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- The host lines after the loop leave a kept buffer alone. -/
theorem post_keeps (V : Valuation τ sig (Elt F)) {b : Ref sig .tc} (h : Kept b) :
    afterL postI V (Proc.devRef .tc b) = V (Proc.devRef .tc b) := by
  obtain ⟨-, -, -, -, -, -, -, h7, h8, h9, -⟩ := h
  simp only [postI, afterL_cons, afterL_nil]
  rw [after_of_writes_sub _ _ hostOps0_9_writes h9, after_of_writes_sub _ _ hostOps0_8_writes h8,
    after_of_writes_sub _ _ hostOps0_7_writes h7]

/-- The loop's test leaves a kept buffer alone. -/
theorem cond_keeps (V : Valuation τ sig (Elt F)) {b : Ref sig .tc} (h : LoopKept b) :
    after condOps V (Proc.devRef .tc b) = V (Proc.devRef .tc b) := by
  obtain ⟨hc, -⟩ := h
  rw [after_of_writes_sub _ _ condOps_writes hc]

/-- One trip of the loop leaves a kept buffer alone. -/
theorem body_keeps (V : Valuation τ sig (Elt F)) {b : Ref sig .tc} (h : LoopKept b) :
    afterL bodyI V (Proc.devRef .tc b) = V (Proc.devRef .tc b) := by
  obtain ⟨-, h0, h1, h2, h3, h4, h5, h6⟩ := h
  simp only [bodyI, afterL_cons, afterL_nil]
  rw [after_of_writes_sub _ _ while0Ops0_6_writes h6, after_of_writes_sub _ _ while0Ops0_5_writes h5,
    after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0]

/-- Any number of trips leave a kept buffer alone. -/
theorem trips_keep (W : Dev nD → Valuation τ sig (Elt F)) {b : Ref sig .tc} (h : LoopKept b) (c : Dev nD) :
    ∀ k, atTrip condOps bodyI W k c (Proc.devRef .tc b) = W c (Proc.devRef .tc b)
  | 0 => rfl
  | k + 1 => (body_keeps _ h).trans ((cond_keeps _ h).trans (trips_keep W h c k))

/-- The whole run leaves a kept buffer at its launch contents. -/
theorem final_keeps (m : (ℓ : Loc nD τ sig) → Buf (Elt F) ℓ) {b : Ref sig .tc} (h : Kept b) (c : Dev nD) :
    finalContents condOps preI bodyI postI 2048 m c (Proc.devRef .tc b) = m ((c.tc : Thread nD τ).loc b) :=
  (post_keeps _ h).trans ((cond_keeps _ h.loop).trans ((trips_keep _ h.loop c 2048).trans (pre_keeps _ h)))

set_option maxRecDepth 16384 in
/-- Argument 0 is written by nothing. -/
theorem kept_0 : Kept main_arg0 := by unfold Kept LoopKept; decide +kernel

set_option maxRecDepth 16384 in
/-- Argument 1 is written by nothing. -/
theorem kept_1 : Kept main_arg1 := by unfold Kept LoopKept; decide +kernel

set_option maxRecDepth 16384 in
/-- Argument 2 is written by nothing. -/
theorem kept_2 : Kept main_arg2 := by unfold Kept LoopKept; decide +kernel

set_option maxRecDepth 16384 in
/-- Argument 3 is written by nothing. -/
theorem kept_3 : Kept main_arg3 := by unfold Kept LoopKept; decide +kernel

set_option maxRecDepth 16384 in
/-- Argument 4 is written by nothing. -/
theorem kept_4 : Kept main_arg4 := by unfold Kept LoopKept; decide +kernel

set_option maxRecDepth 16384 in
/-- Argument 5 is written by nothing. -/
theorem kept_5 : Kept main_arg5 := by unfold Kept LoopKept; decide +kernel

set_option maxRecDepth 16384 in
/-- Argument 6 is written by nothing. -/
theorem kept_6 : Kept main_arg6 := by unfold Kept LoopKept; decide +kernel

set_option maxRecDepth 16384 in
/-- Argument 7 is written by nothing. -/
theorem kept_7 : Kept main_arg7 := by unfold Kept LoopKept; decide +kernel

set_option maxRecDepth 16384 in
/-- Argument 8 is written by nothing. -/
theorem kept_8 : Kept main_arg8 := by unfold Kept LoopKept; decide +kernel

set_option maxRecDepth 16384 in
/-- Argument 9 is written by nothing. -/
theorem kept_9 : Kept main_arg9 := by unfold Kept LoopKept; decide +kernel

set_option maxRecDepth 16384 in
/-- Argument 10 is written by nothing. -/
theorem kept_10 : Kept main_arg10 := by unfold Kept LoopKept; decide +kernel

set_option maxRecDepth 16384 in
/-- Argument 11 is written by nothing. -/
theorem kept_11 : Kept main_arg11 := by unfold Kept LoopKept; decide +kernel

set_option maxRecDepth 16384 in
/-- Argument 12 is written by nothing. -/
theorem kept_12 : Kept main_arg12 := by unfold Kept LoopKept; decide +kernel

set_option maxRecDepth 16384 in
/-- Argument 13 is written by nothing. -/
theorem kept_13 : Kept main_arg13 := by unfold Kept LoopKept; decide +kernel

set_option maxRecDepth 16384 in
/-- Argument 14 is written by nothing. -/
theorem kept_14 : Kept main_arg14 := by unfold Kept LoopKept; decide +kernel

set_option maxRecDepth 16384 in
/-- Argument 15 is written by nothing. -/
theorem kept_15 : Kept main_arg15 := by unfold Kept LoopKept; decide +kernel

set_option maxRecDepth 16384 in
/-- Argument 16 is written by nothing. -/
theorem kept_16 : Kept main_arg16 := by unfold Kept LoopKept; decide +kernel

/-- The reference run from any memory with zero semaphores: the result it leaves, the seventeen arguments as launched,
    and every semaphore at zero. -/
theorem run (m : (ℓ : Loc nD τ sig) → Buf (Elt F) ℓ) (ρ : Dev nD → PrngReg) :
    θ_run defs (onTc main) ⟨m, fun _ => 0, ρ⟩ (fun r => (∀ c : Dev nD, r.2.mem ((c.tc : Thread nD τ).loc main_v119) = finalContents condOps preI bodyI postI 2048 m c (Proc.devRef .tc main_v119) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16)) ∧ r.2.sem = fun _ => 0) := by
  refine θ_run_mono (run_fold m ρ) ?_
  intro r h
  refine ⟨fun c => ⟨h c main_v119 rfl, (h c main_arg0 rfl).trans (final_keeps m kept_0 c), (h c main_arg1 rfl).trans (final_keeps m kept_1 c), (h c main_arg2 rfl).trans (final_keeps m kept_2 c), (h c main_arg3 rfl).trans (final_keeps m kept_3 c), (h c main_arg4 rfl).trans (final_keeps m kept_4 c), (h c main_arg5 rfl).trans (final_keeps m kept_5 c), (h c main_arg6 rfl).trans (final_keeps m kept_6 c), (h c main_arg7 rfl).trans (final_keeps m kept_7 c), (h c main_arg8 rfl).trans (final_keeps m kept_8 c), (h c main_arg9 rfl).trans (final_keeps m kept_9 c), (h c main_arg10 rfl).trans (final_keeps m kept_10 c), (h c main_arg11 rfl).trans (final_keeps m kept_11 c), (h c main_arg12 rfl).trans (final_keeps m kept_12 c), (h c main_arg13 rfl).trans (final_keeps m kept_13 c), (h c main_arg14 rfl).trans (final_keeps m kept_14 c), (h c main_arg15 rfl).trans (final_keeps m kept_15 c), (h c main_arg16 rfl).trans (final_keeps m kept_16 c)⟩, funext fun g => (no_cell g.2).elim⟩

/-- From any memory with zero semaphores, the reference run terminates, with the seventeen arguments as launched
    and every semaphore at zero. -/
theorem frame (m : (ℓ : Loc nD τ sig) → Buf (Elt F) ℓ) (ρ : Dev nD → PrngReg) :
    θ_run defs (onTc main) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16)) ∧ r.2.sem = fun _ => 0) :=
  θ_run_mono (run m ρ) fun _ h => ⟨fun c => (h.1 c).2, h.2⟩

end Cert.Proof.RI

end
-- ==== Proof.RefPre.lean ====
/- What the reference's lines before its loop leave, read as real numbers. -/
module

public import proofs.«01_k».proof.Proof.RefFrame
public import proofs.«01_k».proof.Proof.Args
public import Idealize.ShloMosaic.Lib.StableHlo.ReadAt
public import Idealize.ShloMosaic.Lib.StableHlo.RunRead

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.Tactic

variable (m : (ℓ : Loc nD τ sig) → Buf (Elt Ideal) ℓ) (c : Dev nD) (R : Reals)

/-- The four-axis array holds the reals `f`. -/
def Re4 {n0 n1 n2 n3 : ℕ} (v : (⟨4, ![n0, n1, n2, n3]⟩ : Shape).Idx → EReal) (f : ℕ → ℕ → ℕ → ℕ → ℝ) : Prop :=
  ∀ (d : Fin n0) (b : Fin n1) (t : Fin n2) (j : Fin n3), v (ix4 d b t j) = ((f d b t j : ℝ) : EReal)

/-- The five-axis array holds the reals `f`. -/
def Re5 {n0 n1 n2 n3 n4 : ℕ} (v : (⟨5, ![n0, n1, n2, n3, n4]⟩ : Shape).Idx → EReal) (f : ℕ → ℕ → ℕ → ℕ → ℕ → ℝ) : Prop :=
  ∀ (d : Fin n0) (b : Fin n1) (t : Fin n2) (h : Fin n3) (j : Fin n4), v (ix5 d b t h j) = ((f d b t h j : ℝ) : EReal)

/-- The seventeen arguments hold the reals. -/
abbrev Real : Prop := IsReal R (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

variable {m c R}

/-- A direction is the forward one or the backward one. -/
theorem dir_cases (d : Fin 2) : d = 0 ∨ d = 1 := by revert d; decide

/-- The activation, as the host lines spell it. -/
theorem silu_host (x : ℝ) : (x : EReal) * Ideal.div 1 (1 + Ideal.exp (-(x : EReal))) = ((Spec.silu x : ℝ) : EReal) := by
  have hpos : 1 + Real.exp (-x) ≠ 0 := by have := Real.exp_pos (-x); linarith
  rw [← EReal.coe_neg, Ideal.exp_coe, ← EReal.coe_one, ← EReal.coe_add, Ideal.div_coe hpos, ← EReal.coe_mul, ← EReal.coe_mul]
  simp [Spec.silu, Spec.sg]

/-- The softplus, as the host lines spell it: the larger of `x` and zero, and the logarithm of the rest. -/
theorem softplus_host (x : ℝ) : max (x : EReal) 0 + Ideal.log1p (Ideal.exp (-FloatOps.absf (F := Ideal) (φ := .f32) (x : EReal))) = ((Real.log (1 + Real.exp x) : ℝ) : EReal) := by
  show max (x : EReal) 0 + Ideal.log (1 + Ideal.exp (-max (x : EReal) (-(x : EReal)))) = _
  have hmax : ∀ a b : ℝ, max (a : EReal) (b : EReal) = ((max a b : ℝ) : EReal) := fun a b => (EReal.coe_strictMono.monotone.map_max).symm
  have hp : ∀ y : ℝ, ¬ (1 + Real.exp y ≤ 0) := fun y => by have := Real.exp_pos y; linarith
  rw [← EReal.coe_neg, hmax, ← EReal.coe_neg, Ideal.exp_coe, ← EReal.coe_one, ← EReal.coe_add, Ideal.log_coe, if_neg (hp _), ← EReal.coe_zero, hmax,
    ← EReal.coe_add]
  congr 1
  rcases le_total x 0 with hx | hx
  · rw [max_eq_right hx, max_eq_right (by linarith), neg_neg, zero_add]
  · rw [max_eq_left hx, max_eq_left (by linarith)]
    have e : 1 + Real.exp x = Real.exp x * (1 + Real.exp (-x)) := by rw [mul_add, ← Real.exp_add]; simp [add_comm]
    rw [e, Real.log_mul (Real.exp_pos x).ne' (by have := Real.exp_pos (-x); linarith), Real.log_exp]

/-- Both directions' sequences, the backward one reversed in time. -/
theorem v3_re (h : Real m c R) : Re4 (StableHlo.after hostOps0 (fun b => m (c, b)) main_v3 : FVec Ideal S2x2x2048x1024 .f32) fun d b t k => (R.par d b).u t k := by
  intro d b t k
  after_reads_at
  rcases dir_cases d with rfl | rfl
  · exact h.u b t k
  · refine (h.u b t.rev k).trans ?_
    have ht := t.isLt
    exact congrArg (fun T => ((R.u b T k : ℝ) : EReal)) (by show t.rev.val = 2047 - t.val; rw [Fin.val_rev]; omega)

/-- Both directions' input projections. -/
theorem v6_re (h : Real m c R) : Re3 (StableHlo.after hostOps0 (fun b => m (c, b)) main_v6 : FVec Ideal S2x4384x1024 .f32) fun d j k => R.wi d j k := by
  intro d j k
  after_reads_at
  rcases dir_cases d with rfl | rfl
  · exact h.wi0 j k
  · exact h.wi1 j k

/-- Both directions' convolution taps. -/
theorem v9_re (h : Real m c R) : Re4 (StableHlo.after hostOps0 (fun b => m (c, b)) main_v9 : FVec Ideal S2x2304x1x4 .f32) fun d j _ k => R.cw d k j := by
  intro d j i k
  after_reads_at
  rcases dir_cases d with rfl | rfl
  · exact h.cw0 j 0 k
  · exact h.cw1 j 0 k

/-- Both directions' convolution biases. -/
theorem v12_re (h : Real m c R) : Re2 (StableHlo.after hostOps0 (fun b => m (c, b)) main_v12 : FVec Ideal S2x2304 .f32) fun d j => R.cb d j := by
  intro d j
  after_reads_at
  rcases dir_cases d with rfl | rfl
  · exact h.cb0 j
  · exact h.cb1 j

/-- Both directions' time-step biases. -/
theorem v15_re (h : Real m c R) : Re2 (StableHlo.after hostOps0 (fun b => m (c, b)) main_v15 : FVec Ideal S2x32 .f32) fun d j => R.dtb d j := by
  intro d j
  after_reads_at
  rcases dir_cases d with rfl | rfl
  · exact h.dtb0 j
  · exact h.dtb1 j

/-- Both directions' decay rates. -/
theorem v18_re (h : Real m c R) : Re2 (StableHlo.after hostOps0 (fun b => m (c, b)) main_v18 : FVec Ideal S2x32 .f32) fun d j => R.alog d j := by
  intro d j
  after_reads_at
  rcases dir_cases d with rfl | rfl
  · exact h.alog0 j
  · exact h.alog1 j

/-- Both directions' skip weights. -/
theorem v21_re (h : Real m c R) : Re2 (StableHlo.after hostOps0 (fun b => m (c, b)) main_v21 : FVec Ideal S2x32 .f32) fun d j => R.dd d j := by
  intro d j
  after_reads_at
  rcases dir_cases d with rfl | rfl
  · exact h.dd0 j
  · exact h.dd1 j

/-- Both directions' norm weights. -/
theorem v24_re (h : Real m c R) : Re2 (StableHlo.after hostOps0 (fun b => m (c, b)) main_v24 : FVec Ideal S2x2048 .f32) fun d j => R.nw d j := by
  intro d j
  after_reads_at
  rcases dir_cases d with rfl | rfl
  · exact h.nw0 j
  · exact h.nw1 j

/-- Both directions' output projections. -/
theorem v27_re (h : Real m c R) : Re3 (StableHlo.after hostOps0 (fun b => m (c, b)) main_v27 : FVec Ideal S2x1024x2048 .f32) fun d j k => R.wo d j k := by
  intro d j k
  after_reads_at
  rcases dir_cases d with rfl | rfl
  · exact h.wo0 j k
  · exact h.wo1 j k

/-- The projected sequence, in the projection's product. -/
theorem v29_re (h : Real m c R) : Re4 (StableHlo.after hostOps0 (fun b => m (c, b)) main_v29 : FVec Ideal S2x2x2048x4384 .f32) fun d b t j => Spec.zx (R.par d b) t j := by
  intro d b t j
  have e3 := v3_re h d b t
  have e6 := v6_re h d j
  revert e3 e6
  after_reads_at
  after_reads_at
  intro e3 e6
  exact coe_sum_mul (fun k => e3 k) (fun k => e6 k)

/-- Its three parts. -/
theorem v30_re (h : Real m c R) : Re4 (StableHlo.after hostOps0 (fun b => m (c, b)) main_v30 : FVec Ideal S2x2x2048x2048 .f32) fun d b t j => Spec.zx (R.par d b) t j := by
  intro d b t j
  have e := v29_re h d b t ⟨j.val, by omega⟩
  revert e
  after_reads_at
  exact id

/-- The projection's convolution channels. -/
theorem v31_re (h : Real m c R) : Re4 (StableHlo.after hostOps0 (fun b => m (c, b)) main_v31 : FVec Ideal S2x2x2048x2304 .f32) fun d b t j => Spec.zx (R.par d b) t (2048 + j) := by
  intro d b t j
  have e := v29_re h d b t ⟨2048 + j.val, by omega⟩
  revert e
  after_reads_at
  exact id

/-- The projection's time-step channels. -/
theorem v32_re (h : Real m c R) : Re4 (StableHlo.after hostOps0 (fun b => m (c, b)) main_v32 : FVec Ideal S2x2x2048x32 .f32) fun d b t j => Spec.zx (R.par d b) t (4352 + j) := by
  intro d b t j
  have e := v29_re h d b t ⟨4352 + j.val, by omega⟩
  revert e
  after_reads_at
  exact id

/-- The padding's word. -/
theorem c_word : (StableHlo.after hostOps0 (fun b => m (c, b)) main_c : IVec S_ 32) = constantI S_ 32 0#32 := by
  after_reads_simp

variable {V : Valuation τ sig (Elt Ideal)}

/-- Three steps late, zeros first. -/
theorem v33_re (h : Re4 (V main_v31 : FVec Ideal S2x2x2048x2304 .f32) fun d b t j => Spec.zx (R.par d b) t (2048 + j)) (h0 : (V main_c : IVec S_ 32) = constantI S_ 32 0#32) :
    Re4 (StableHlo.after hostOps0_1 V main_v33 : FVec Ideal S2x2x2051x2304 .f32) fun d b t j => Spec.late (R.par d b) t j := by
  intro d b t j
  after_reads_at
  have ht := t.isLt
  show _ = ((Spec.late (R.par d b) t j : ℝ) : EReal)
  unfold Spec.late
  by_cases h3 : t.val < 3
  · rw [dif_neg (by omega), if_pos h3, h0]
    show (((0#32 : BitVec 32).toInt : ℝ) : EReal) = _
    simp
  · rw [dif_pos (by omega), if_neg h3, h]

/-- The convolution. -/
theorem v65_re (h : Re4 (V main_v33 : FVec Ideal S2x2x2051x2304 .f32) fun d b t j => Spec.late (R.par d b) t j)
    (hw : Re4 (V main_v9 : FVec Ideal S2x2304x1x4 .f32) fun d j _ k => R.cw d k j) (hb : Re2 (V main_v12 : FVec Ideal S2x2304 .f32) fun d j => R.cb d j) :
    Re4 (StableHlo.after hostOps0_2 V main_v65 : FVec Ideal S2x2x2048x2304 .f32) fun d b t j => Spec.conv (R.par d b) t j := by
  intro d b t j
  after_reads_at
  rw [h, h, h, h, hw, hw, hw, hw, hb]
  show _ = ((Spec.conv (R.par d b) t j : ℝ) : EReal)
  unfold Spec.conv
  rw [add_comm t.val 1, add_comm t.val 2, add_comm t.val 3]
  simp only [EReal.coe_add, EReal.coe_mul]
  rfl

/-- Its activation. -/
theorem v66_re (h : Re4 (V main_v65 : FVec Ideal S2x2x2048x2304 .f32) fun d b t j => Spec.conv (R.par d b) t j) :
    Re4 (StableHlo.after hostOps0_3 V main_v66 : FVec Ideal S2x2x2048x2304 .f32) fun d b t j => Spec.xbc (R.par d b) t j := by
  intro d b t j
  after_reads_at
  rw [h]
  exact silu_host _

/-- Its three parts: the inner features by head, and the two state projections. -/
theorem v68_re (h : Re4 (V main_v66 : FVec Ideal S2x2x2048x2304 .f32) fun d b t j => Spec.xbc (R.par d b) t j) :
    Re5 (StableHlo.after hostOps0_4 V main_v68 : FVec Ideal S2x2x2048x32x64 .f32) fun d b t h j => Spec.xbc (R.par d b) t (h * 64 + j) := by
  intro d b t g j
  after_reads_at
  exact h d b t _

/-- The state's input projection. -/
theorem v69_re (h : Re4 (V main_v66 : FVec Ideal S2x2x2048x2304 .f32) fun d b t j => Spec.xbc (R.par d b) t j) :
    Re4 (StableHlo.after hostOps0_4 V main_v69 : FVec Ideal S2x2x2048x128 .f32) fun d b t n => Spec.xbc (R.par d b) t (2048 + n) := by
  intro d b t n
  after_reads_at
  exact h d b t _

/-- The state's output projection. -/
theorem v70_re (h : Re4 (V main_v66 : FVec Ideal S2x2x2048x2304 .f32) fun d b t j => Spec.xbc (R.par d b) t j) :
    Re4 (StableHlo.after hostOps0_4 V main_v70 : FVec Ideal S2x2x2048x128 .f32) fun d b t n => Spec.xbc (R.par d b) t (2176 + n) := by
  intro d b t n
  after_reads_at
  exact h d b t _

/-- The time-step inputs. -/
theorem v73_re (h : Re4 (V main_v32 : FVec Ideal S2x2x2048x32 .f32) fun d b t j => Spec.zx (R.par d b) t (4352 + j)) (h1 : Re2 (V main_v15 : FVec Ideal S2x32 .f32) fun d j => R.dtb d j) :
    Re4 (StableHlo.after hostOps0_4 V main_v73 : FVec Ideal S2x2x2048x32 .f32) fun d b t j => Spec.darg (R.par d b) t j := by
  intro d b t j
  after_reads_at
  rw [h, h1, ← EReal.coe_add]
  rfl

/-- The time steps. -/
theorem v74_re (h : Re4 (V main_v73 : FVec Ideal S2x2x2048x32 .f32) fun d b t j => Spec.darg (R.par d b) t j) :
    Re4 (StableHlo.after hostOps0_5 V main_v74 : FVec Ideal S2x2x2048x32 .f32) fun d b t j => Spec.dt (R.par d b) t j := by
  intro d b t j
  after_reads_at
  rw [if_neg (by simp), h]
  exact softplus_host _

/-- The arrays the loop carries, at its entry, time first. -/
theorem v88_0_re (h : Re5 (V main_v68 : FVec Ideal S2x2x2048x32x64 .f32) fun d b t h j => Spec.xbc (R.par d b) t (h * 64 + j)) :
    Re5 (StableHlo.after hostOps0_6 V main_v88_0 : FVec Ideal S2048x2x2x32x64 .f32) fun t d b h j => Spec.xbc (R.par d b) t (h * 64 + j) := by
  intro t d b g j
  after_reads_at
  simp only [id_eq]
  pointwise
  exact h d b t g j

/-- The loop's input projections, time first. -/
theorem v88_1_re (h : Re4 (V main_v69 : FVec Ideal S2x2x2048x128 .f32) fun d b t n => Spec.xbc (R.par d b) t (2048 + n)) :
    Re4 (StableHlo.after hostOps0_6 V main_v88_1 : FVec Ideal S2048x2x2x128 .f32) fun t d b n => Spec.xbc (R.par d b) t (2048 + n) := by
  intro t d b n
  after_reads_at
  simp only [id_eq]
  pointwise
  exact h d b t n

/-- The loop's output projections, time first. -/
theorem v88_2_re (h : Re4 (V main_v70 : FVec Ideal S2x2x2048x128 .f32) fun d b t n => Spec.xbc (R.par d b) t (2176 + n)) :
    Re4 (StableHlo.after hostOps0_6 V main_v88_2 : FVec Ideal S2048x2x2x128 .f32) fun t d b n => Spec.xbc (R.par d b) t (2176 + n) := by
  intro t d b n
  after_reads_at
  simp only [id_eq]
  pointwise
  exact h d b t n

/-- The loop's time steps, time first. -/
theorem v88_3_re (h : Re4 (V main_v74 : FVec Ideal S2x2x2048x32 .f32) fun d b t j => Spec.dt (R.par d b) t j) :
    Re4 (StableHlo.after hostOps0_6 V main_v88_3 : FVec Ideal S2048x2x2x32 .f32) fun t d b j => Spec.dt (R.par d b) t j := by
  intro t d b n
  after_reads_at
  simp only [id_eq]
  pointwise
  exact h d b t n

/-- The loop's decay rates. -/
theorem v88_4_re (h : Re2 (V main_v18 : FVec Ideal S2x32 .f32) fun d h => R.alog d h) : Re2 (StableHlo.after hostOps0_6 V main_v88_4 : FVec Ideal S2x32 .f32) fun d h => - Real.exp (R.alog d h) := by
  intro d g
  after_reads_at
  simp only [id_eq]
  pointwise
  rw [h, Ideal.exp_coe, EReal.coe_neg]

/-- The loop's state starts at zero. -/
theorem v88_6_re : Re5 (StableHlo.after hostOps0_6 V main_v88_6 : FVec Ideal S2x2x32x64x128 .f32) fun _ _ _ _ _ => 0 := by
  intro t d b g j
  after_reads_at
  simp only [id_eq]
  pointwise
  rfl

end Cert.Proof.RI
end
-- ==== Proof.PreTame.lean ====
/- The precondition, read back: every argument entry is real, and every time-step input at most twenty. -/
module

public import proofs.«01_k».proof.Defs
public import proofs.«01_k».proof.Proof.KernelIdealValue
public import proofs.«01_k».proof.Proof.RefPre

@[expose] public section

set_option maxRecDepth 16384

noncomputable section

namespace Cert.Proof.Tame

open Idealize.ShloMosaic Idealize.ShloMosaic.TcCoe Idealize.ShloMosaic.Tactic

section Pre

open Cert.Pre_tame

/-- The shape relations the precondition's operations take. -/
instance facts : Cert.Pre_tame.Facts where
  bcast_S_S2x2048x1024 := by decide
  bcast_S_S4384x1024 := by decide
  bcast_S_S2304x1x4 := by decide
  bcast_S_S2304 := by decide
  bcast_S_S32 := by decide
  bcast_S_S2048 := by decide
  bcast_S_S1024x2048 := by decide
  slices_S4384x1024_S32x1024_4352_0 := by decide
  bcast_S32_S1x1x32_2 := by decide
  bcast_S1x1x32_S2x2048x32_0_1_2 := by decide
  bcast_S_S2x2048x32 := by decide
  dot_S2x2048x1024_S32x1024_S2x2048x32_2_1_01_0_n_n_wf := by decide

/-- The word of the float infinity. -/
theorem word_inf : Ideal.ofBits .f32 0x7F800000#32 = (⊤ : EReal) := by
  simp [Ideal.ofBits, Ideal.ieee]

/-- An array whose magnitudes are all below infinity holds reals. -/
theorem fin_of {s : Shape} (hb : S_.BroadcastsInDim s (![] : Fin 0 → Fin s.rank)) (X : FVec Ideal s .f32)
    (h : cmpf .olt (Host.absf X) (broadcastInDim s ![] hb (constant (F := Ideal) S_ .f32 0x7F800000#32)) = fun _ => 1#1) (i : s.Idx) :
    (X i : EReal) = (((X i : EReal).toReal : ℝ) : EReal) := by
  have e : Ideal.cmp .olt (max (X i : EReal) (-(X i : EReal))) (Ideal.ofBits .f32 0x7F800000#32) = 1#1 := congrFun h i
  rw [word_inf] at e
  have l : max (X i : EReal) (-(X i : EReal)) < ⊤ := by
    by_contra hn
    simp [Ideal.cmp, hn] at e
  refine (EReal.coe_toReal (fun ht => ?_) fun hbt => ?_).symm
  · rw [ht] at l; simp at l
  · rw [hbt] at l; simp at l

/-- The time-step inputs compared, on the reals. -/
theorem small_of {x : FVec Ideal S2x2048x1024 .f32} {w : FVec Ideal S4384x1024 .f32} {bias : FVec Ideal S32 .f32} {u : ℕ → ℕ → ℕ → ℝ} {wi : ℕ → ℕ → ℝ} {dtb : ℕ → ℝ}
    (hu : Re3 x u) (hw : Re2 w wi) (hd : Re1 bias dtb)
    (h : cmpf .ole (addf (Host.dotGeneral dot_S2x2048x1024_S32x1024_S2x2048x32_2_1_01_0_n_n none x (extractStridedSlice S32x1024 ![4352, 0] w Facts.slices_S4384x1024_S32x1024_4352_0))
      (broadcastInDim S2x2048x32 ![0, 1, 2] Facts.bcast_S1x1x32_S2x2048x32_0_1_2 (broadcastInDim S1x1x32 ![2] Facts.bcast_S32_S1x1x32_2 bias)))
      (broadcastInDim S2x2048x32 ![] Facts.bcast_S_S2x2048x32 (constant (F := Ideal) S_ .f32 0x41A00000#32)) = fun _ => 1#1)
    (b : Fin 2) (t : Fin 2048) (g : Fin 32) : (∑ k : Fin 1024, u b t k * wi (4352 + g) k) + dtb g ≤ 20 := by
  have e := congrFun h (ix3 b t g)
  revert e
  pointwise
  rw [coe_sum_mul (fun k => hu b t k) (fun k => hw ⟨4352 + g.val, by omega⟩ k), hd, show (1101004800#32 : BitVec 32) = 0x41A00000#32 from rfl, word_20, ← EReal.coe_add]
  intro e
  by_contra hn
  rw [decide_eq_false (fun hl => hn (EReal.coe_le_coe_iff.mp hl))] at e
  exact absurd e (by decide)

end Pre

/-- The reals in a one-axis array, zero outside it. -/
def at1 {n : ℕ} (v : (⟨1, ![n]⟩ : Shape).Idx → EReal) (i : ℕ) : ℝ := if h : i < n then (v (ix1 ⟨i, h⟩)).toReal else 0

/-- The reals in a two-axis array, zero outside it. -/
def at2 {m n : ℕ} (v : (⟨2, ![m, n]⟩ : Shape).Idx → EReal) (i j : ℕ) : ℝ :=
  if h : i < m ∧ j < n then (v (ix2 ⟨i, h.1⟩ ⟨j, h.2⟩)).toReal else 0

/-- The reals in a three-axis array, zero outside it. -/
def at3 {l m n : ℕ} (v : (⟨3, ![l, m, n]⟩ : Shape).Idx → EReal) (i j k : ℕ) : ℝ :=
  if h : i < l ∧ j < m ∧ k < n then (v (ix3 ⟨i, h.1⟩ ⟨j, h.2.1⟩ ⟨k, h.2.2⟩)).toReal else 0

/-- A one-axis array of reals holds them. -/
theorem at1_re {n : ℕ} {v : (⟨1, ![n]⟩ : Shape).Idx → EReal} (h : ∀ i, v i = ((v i).toReal : EReal)) : Re1 v (at1 v) := by
  intro i
  rw [at1, dif_pos i.isLt]
  exact h _

/-- A two-axis array of reals holds them. -/
theorem at2_re {m n : ℕ} {v : (⟨2, ![m, n]⟩ : Shape).Idx → EReal} (h : ∀ i, v i = ((v i).toReal : EReal)) : Re2 v (at2 v) := by
  intro i j
  rw [at2, dif_pos ⟨i.isLt, j.isLt⟩]
  exact h _

/-- A three-axis array of reals holds them. -/
theorem at3_re {l m n : ℕ} {v : (⟨3, ![l, m, n]⟩ : Shape).Idx → EReal} (h : ∀ i, v i = ((v i).toReal : EReal)) : Re3 v (at3 v) := by
  intro i j k
  rw [at3, dif_pos ⟨i.isLt, j.isLt, k.isLt⟩]
  exact h _

section Args

open Cert.KernelIdeal

variable (m : (ℓ : Loc nD τ sig) → Buf (Elt Ideal) ℓ) (c : Dev nD)

/-- The arguments' reals. -/
def reals : Reals where
  u := at3 (m ((c.tc : Thread nD τ).loc main_arg0) : FVec Ideal S2x2048x1024 .f32)
  wi d := if d = 0 then at2 (m ((c.tc : Thread nD τ).loc main_arg1) : FVec Ideal S4384x1024 .f32) else at2 (m ((c.tc : Thread nD τ).loc main_arg9) : FVec Ideal S4384x1024 .f32)
  cw d k j := if d = 0 then at3 (m ((c.tc : Thread nD τ).loc main_arg2) : FVec Ideal S2304x1x4 .f32) j 0 k else at3 (m ((c.tc : Thread nD τ).loc main_arg10) : FVec Ideal S2304x1x4 .f32) j 0 k
  cb d := if d = 0 then at1 (m ((c.tc : Thread nD τ).loc main_arg3) : FVec Ideal S2304 .f32) else at1 (m ((c.tc : Thread nD τ).loc main_arg11) : FVec Ideal S2304 .f32)
  dtb d := if d = 0 then at1 (m ((c.tc : Thread nD τ).loc main_arg4) : FVec Ideal S32 .f32) else at1 (m ((c.tc : Thread nD τ).loc main_arg12) : FVec Ideal S32 .f32)
  alog d := if d = 0 then at1 (m ((c.tc : Thread nD τ).loc main_arg5) : FVec Ideal S32 .f32) else at1 (m ((c.tc : Thread nD τ).loc main_arg13) : FVec Ideal S32 .f32)
  dd d := if d = 0 then at1 (m ((c.tc : Thread nD τ).loc main_arg6) : FVec Ideal S32 .f32) else at1 (m ((c.tc : Thread nD τ).loc main_arg14) : FVec Ideal S32 .f32)
  nw d := if d = 0 then at1 (m ((c.tc : Thread nD τ).loc main_arg7) : FVec Ideal S2048 .f32) else at1 (m ((c.tc : Thread nD τ).loc main_arg15) : FVec Ideal S2048 .f32)
  wo d := if d = 0 then at2 (m ((c.tc : Thread nD τ).loc main_arg8) : FVec Ideal S1024x2048 .f32) else at2 (m ((c.tc : Thread nD τ).loc main_arg16) : FVec Ideal S1024x2048 .f32)

variable {m c}

/-- Under the precondition the arguments are those reals. -/
theorem real_of (h : Cert.Pre_KernelIdeal_tame m) : KI.Real m c (reals m c) := by
  obtain ⟨h0, h1, h2, h3, h4, h5, h6, h7, h8, h9, h10, h11, h12, h13, h14, h15, h16, h17, h18⟩ := h c
  have w0 : Re3 (m ((c.tc : Thread nD τ).loc main_arg0) : FVec Ideal S2x2048x1024 .f32) (reals m c).u := at3_re (fin_of _ _ h0)
  have w1 : Re2 (m ((c.tc : Thread nD τ).loc main_arg1) : FVec Ideal S4384x1024 .f32) ((reals m c).wi 0) := at2_re (fin_of _ _ h1)
  have w2 : Re3 (m ((c.tc : Thread nD τ).loc main_arg2) : FVec Ideal S2304x1x4 .f32) fun j _ k => (reals m c).cw 0 k j := fun j i k => by
    obtain rfl : i = 0 := Subsingleton.elim _ _
    exact at3_re (fin_of _ _ h2) j 0 k
  have w3 : Re1 (m ((c.tc : Thread nD τ).loc main_arg3) : FVec Ideal S2304 .f32) ((reals m c).cb 0) := at1_re (fin_of _ _ h3)
  have w4 : Re1 (m ((c.tc : Thread nD τ).loc main_arg4) : FVec Ideal S32 .f32) ((reals m c).dtb 0) := at1_re (fin_of _ _ h4)
  have w5 : Re1 (m ((c.tc : Thread nD τ).loc main_arg5) : FVec Ideal S32 .f32) ((reals m c).alog 0) := at1_re (fin_of _ _ h5)
  have w6 : Re1 (m ((c.tc : Thread nD τ).loc main_arg6) : FVec Ideal S32 .f32) ((reals m c).dd 0) := at1_re (fin_of _ _ h6)
  have w7 : Re1 (m ((c.tc : Thread nD τ).loc main_arg7) : FVec Ideal S2048 .f32) ((reals m c).nw 0) := at1_re (fin_of _ _ h7)
  have w8 : Re2 (m ((c.tc : Thread nD τ).loc main_arg8) : FVec Ideal S1024x2048 .f32) ((reals m c).wo 0) := at2_re (fin_of _ _ h8)
  have w9 : Re2 (m ((c.tc : Thread nD τ).loc main_arg9) : FVec Ideal S4384x1024 .f32) ((reals m c).wi 1) := at2_re (fin_of _ _ h9)
  have w10 : Re3 (m ((c.tc : Thread nD τ).loc main_arg10) : FVec Ideal S2304x1x4 .f32) fun j _ k => (reals m c).cw 1 k j := fun j i k => by
    obtain rfl : i = 0 := Subsingleton.elim _ _
    exact at3_re (fin_of _ _ h10) j 0 k
  have w11 : Re1 (m ((c.tc : Thread nD τ).loc main_arg11) : FVec Ideal S2304 .f32) ((reals m c).cb 1) := at1_re (fin_of _ _ h11)
  have w12 : Re1 (m ((c.tc : Thread nD τ).loc main_arg12) : FVec Ideal S32 .f32) ((reals m c).dtb 1) := at1_re (fin_of _ _ h12)
  have w13 : Re1 (m ((c.tc : Thread nD τ).loc main_arg13) : FVec Ideal S32 .f32) ((reals m c).alog 1) := at1_re (fin_of _ _ h13)
  have w14 : Re1 (m ((c.tc : Thread nD τ).loc main_arg14) : FVec Ideal S32 .f32) ((reals m c).dd 1) := at1_re (fin_of _ _ h14)
  have w15 : Re1 (m ((c.tc : Thread nD τ).loc main_arg15) : FVec Ideal S2048 .f32) ((reals m c).nw 1) := at1_re (fin_of _ _ h15)
  have w16 : Re2 (m ((c.tc : Thread nD τ).loc main_arg16) : FVec Ideal S1024x2048 .f32) ((reals m c).wo 1) := at2_re (fin_of _ _ h16)
  refine { u := w0, wi0 := w1, cw0 := w2, cb0 := w3, dtb0 := w4, alog0 := w5, dd0 := w6, nw0 := w7, wo0 := w8, wi1 := w9, cw1 := w10, cb1 := w11, dtb1 := w12, alog1 := w13, dd1 := w14, nw1 := w15, wo1 := w16, small := ?_ }
  intro d hd b hb t ht g hg
  obtain rfl | rfl : d = 0 ∨ d = 1 := by omega
  · exact small_of w0 w1 w4 h17 ⟨b, hb⟩ ⟨t, ht⟩ ⟨g, hg⟩
  · exact small_of w0 w9 w12 h18 ⟨b, hb⟩ ⟨2047 - t, by omega⟩ ⟨g, hg⟩

end Args

end Cert.Proof.Tame
end
-- ==== Proof.RefLoop.lean ====
/- The reference's loop: before each trip the carried state is the scan's, and the rows written so far are its outputs. -/
module

public import proofs.«01_k».proof.Proof.RefPre
public import Idealize.ShloMosaic.Lib.DynamicIndex

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.Tactic

variable {R : Reals} {V : Valuation τ sig (Elt Ideal)}

/-- The scan's output at time `t`, before the skip term. -/
def yrow (p : Spec.Par) (t c : ℕ) : ℝ := ∑ n : Fin 128, Spec.st p (t + 1) n c * Spec.xbc p t (2176 + n)

/-- What the loop carries before its trip `k`. -/
structure Inv (R : Reals) (k : ℕ) (V : Valuation τ sig (Elt Ideal)) : Prop where
  x : Re5 (V main_v88_0 : FVec Ideal S2048x2x2x32x64 .f32) fun t d b h j => Spec.xbc (R.par d b) t (h * 64 + j)
  bm : Re4 (V main_v88_1 : FVec Ideal S2048x2x2x128 .f32) fun t d b n => Spec.xbc (R.par d b) t (2048 + n)
  cm : Re4 (V main_v88_2 : FVec Ideal S2048x2x2x128 .f32) fun t d b n => Spec.xbc (R.par d b) t (2176 + n)
  dt : Re4 (V main_v88_3 : FVec Ideal S2048x2x2x32 .f32) fun t d b j => Spec.dt (R.par d b) t j
  a : Re2 (V main_v88_4 : FVec Ideal S2x32 .f32) fun d h => - Real.exp (R.alog d h)
  ctr : (V main_v88_5 : IVec S_ 32) = fun _ => BitVec.ofNat 32 k
  s : Re5 (V main_v88_6 : FVec Ideal S2x2x32x64x128 .f32) fun d b h j n => Spec.st (R.par d b) k n (h * 64 + j)
  y : ∀ (t : Fin 2048) (d b : Fin 2) (h : Fin 32) (j : Fin 64), t.val < k →
    (V main_v88_7 : FVec Ideal S2048x2x2x32x64 .f32) (ix5 t d b h j) = ((yrow (R.par d b) t (h * 64 + j) : ℝ) : EReal)

/-- The counter's words as starts: the trip on the first axis, zero on the others. -/
theorem start5 {k : ℕ} (hk : k < 2048) : ∀ a : Fin 5, (((![fun _ => BitVec.ofNat 32 k, constantI S_ 32 0#32, constantI S_ 32 0#32, constantI S_ 32 0#32, constantI S_ 32 0#32]
    : Fin 5 → (⟨S_, .i32⟩ : BufTy).Contents (Elt Ideal))) a (Shape.Idx.first h_S_)).toInt = ((![k, 0, 0, 0, 0] a : ℕ) : ℤ) := by
  intro a
  fin_cases a
  · exact toInt_ofNat_of_lt (by omega)
  all_goals rfl

/-- The same starts for the arrays of four axes. -/
theorem start4 {k : ℕ} (hk : k < 2048) : ∀ a : Fin 4, (((![fun _ => BitVec.ofNat 32 k, constantI S_ 32 0#32, constantI S_ 32 0#32, constantI S_ 32 0#32]
    : Fin 4 → (⟨S_, .i32⟩ : BufTy).Contents (Elt Ideal))) a (Shape.Idx.first h_S_)).toInt = ((![k, 0, 0, 0] a : ℕ) : ℤ) := by
  intro a
  fin_cases a
  · exact toInt_ofNat_of_lt (by omega)
  all_goals rfl

/-- A trip's row of the inner features. -/
def slX (ct : IVec S_ 32) (X : FVec Ideal S2048x2x2x32x64 .f32) : FVec Ideal S2x2x32x64 .f32 :=
  shapeCast S2x2x32x64 (Host.dynamicSlice S1x2x2x32x64 X (fun k => (((![ct, constantI S_ 32 0#32, constantI S_ 32 0#32, constantI S_ 32 0#32, constantI S_ 32 0#32] : Fin 5 → (⟨S_, .i32⟩ : BufTy).Contents (Elt Ideal))) k (Shape.Idx.first h_S_)).toInt) sliceFits_S2048x2x2x32x64_S1x2x2x32x64) shapeCasts_S1x2x2x32x64_S2x2x32x64

/-- A trip's row of a state projection. -/
def slB (ct : IVec S_ 32) (X : FVec Ideal S2048x2x2x128 .f32) : FVec Ideal S2x2x128 .f32 :=
  shapeCast S2x2x128 (Host.dynamicSlice S1x2x2x128 X (fun k => (((![ct, constantI S_ 32 0#32, constantI S_ 32 0#32, constantI S_ 32 0#32] : Fin 4 → (⟨S_, .i32⟩ : BufTy).Contents (Elt Ideal))) k (Shape.Idx.first h_S_)).toInt) sliceFits_S2048x2x2x128_S1x2x2x128) shapeCasts_S1x2x2x128_S2x2x128

/-- A trip's row of the time steps. -/
def slD (ct : IVec S_ 32) (X : FVec Ideal S2048x2x2x32 .f32) : FVec Ideal S2x2x32 .f32 :=
  shapeCast S2x2x32 (Host.dynamicSlice S1x2x2x32 X (fun k => (((![ct, constantI S_ 32 0#32, constantI S_ 32 0#32, constantI S_ 32 0#32] : Fin 4 → (⟨S_, .i32⟩ : BufTy).Contents (Elt Ideal))) k (Shape.Idx.first h_S_)).toInt) sliceFits_S2048x2x2x32_S1x2x2x32) shapeCasts_S1x2x2x32_S2x2x32

/-- The row is the array's at the trip. -/
theorem slX_at {k : ℕ} (hk : k < 2048) (X : FVec Ideal S2048x2x2x32x64 .f32) (d b : Fin 2) (g : Fin 32) (j : Fin 64) : slX (fun _ => BitVec.ofNat 32 k) X (ix4 d b g j) = X (ix5 ⟨k, hk⟩ d b g j) := by
  unfold slX
  have hoff : S2048x2x2x32x64.Slices ![k, 0, 0, 0, 0] S1x2x2x32x64 := ⟨rfl, fun a => by fin_cases a <;> simp <;> omega⟩
  rw [Host.dynamicSlice_eq_extractStridedSlice _ _ _ ![k, 0, 0, 0, 0] _ hoff (start5 hk)]
  pointwise

/-- The row is the array's at the trip. -/
theorem slB_at {k : ℕ} (hk : k < 2048) (X : FVec Ideal S2048x2x2x128 .f32) (d b : Fin 2) (n : Fin 128) : slB (fun _ => BitVec.ofNat 32 k) X (ix3 d b n) = X (ix4 ⟨k, hk⟩ d b n) := by
  unfold slB
  have hoff : S2048x2x2x128.Slices ![k, 0, 0, 0] S1x2x2x128 := ⟨rfl, fun a => by fin_cases a <;> simp <;> omega⟩
  rw [Host.dynamicSlice_eq_extractStridedSlice _ _ _ ![k, 0, 0, 0] _ hoff (start4 hk)]
  pointwise

/-- The row is the array's at the trip. -/
theorem slD_at {k : ℕ} (hk : k < 2048) (X : FVec Ideal S2048x2x2x32 .f32) (d b : Fin 2) (g : Fin 32) : slD (fun _ => BitVec.ofNat 32 k) X (ix3 d b g) = X (ix4 ⟨k, hk⟩ d b g) := by
  unfold slD
  have hoff : S2048x2x2x32.Slices ![k, 0, 0, 0] S1x2x2x32 := ⟨rfl, fun a => by fin_cases a <;> simp <;> omega⟩
  rw [Host.dynamicSlice_eq_extractStridedSlice _ _ _ ![k, 0, 0, 0] _ hoff (start4 hk)]
  pointwise

/-- The next state, from the trip's rows. -/
theorem s_eq (ct : IVec S_ 32) (h : (V main_v88_5 : IVec S_ 32) = ct) : (res_main_while0b_v139 V : FVec Ideal S2x2x32x64x128 .f32) =
    addf (mulf (V main_v88_6) (broadcastInDim S2x2x32x64x128 ![0, 1, 2, 3, 4] bcast_S2x2x32x1x1_S2x2x32x64x128_0_1_2_3_4 (broadcastInDim S2x2x32x1x1 ![0, 1, 2] bcast_S2x2x32_S2x2x32x1x1_0_1_2 (Host.exp (mulf (slD ct (V main_v88_3)) (broadcastInDim S2x2x32 ![0, 1, 2] bcast_S2x1x32_S2x2x32_0_1_2 (broadcastInDim S2x1x32 ![0, 2] bcast_S2x32_S2x1x32_0_2 (V main_v88_4)))))))) (mulf (broadcastInDim S2x2x32x64x128 ![0, 1, 2, 3, 4] bcast_S2x2x32x64x1_S2x2x32x64x128_0_1_2_3_4 (broadcastInDim S2x2x32x64x1 ![0, 1, 2, 3] bcast_S2x2x32x64_S2x2x32x64x1_0_1_2_3 (mulf (broadcastInDim S2x2x32x64 ![0, 1, 2, 3] bcast_S2x2x32x1_S2x2x32x64_0_1_2_3 (broadcastInDim S2x2x32x1 ![0, 1, 2] bcast_S2x2x32_S2x2x32x1_0_1_2 (slD ct (V main_v88_3)))) (slX ct (V main_v88_0))))) (broadcastInDim S2x2x32x64x128 ![0, 1, 2, 3, 4] bcast_S2x2x1x1x128_S2x2x32x64x128_0_1_2_3_4 (broadcastInDim S2x2x1x1x128 ![0, 1, 4] bcast_S2x2x128_S2x2x1x1x128_0_1_4 (slB ct (V main_v88_1))))) := by
  subst h; rfl

/-- The rows after a trip. -/
theorem y_eq (ct : IVec S_ 32) (h : (V main_v88_5 : IVec S_ 32) = ct) (S : FVec Ideal S2x2x32x64x128 .f32) (hS : (res_main_while0b_v139 V : FVec Ideal S2x2x32x64x128 .f32) = S) : (step_main_v88_7 V : FVec Ideal S2048x2x2x32x64 .f32) =
    id (Host.dynamicUpdateSlice (V main_v88_7) (broadcastInDim S1x2x2x32x64 ![1, 2, 3, 4] bcast_S2x2x32x64_S1x2x2x32x64_1_2_3_4 (Host.dotGeneral dot_S2x2x32x64x128_S2x2x128_S2x2x32x64_4_2_23_n_01_01 none (S) (slB ct (V main_v88_2)))) (fun k => (((![ct, constantI S_ 32 0#32, constantI S_ 32 0#32, constantI S_ 32 0#32, constantI S_ 32 0#32] : Fin 5 → (⟨S_, .i32⟩ : BufTy).Contents (Elt Ideal))) k (Shape.Idx.first h_S_)).toInt) updateFits_S2048x2x2x32x64_S1x2x2x32x64) := by
  subst h; subst hS; rfl

/-- One element's step of the scan, on the reals. -/
theorem step_val {s t a x b : EReal} {s' t' a' x' b' : ℝ} (hs : s = (s' : EReal)) (ht : t = (t' : EReal)) (ha : a = (a' : EReal)) (hx : x = (x' : EReal)) (hb : b = (b' : EReal)) :
    s * Ideal.exp (t * a) + t * x * b = ((s' * Real.exp (t' * a') + t' * x' * b' : ℝ) : EReal) := by
  rw [hs, ht, ha, hx, hb, ← EReal.coe_mul, Ideal.exp_coe, ← EReal.coe_mul, ← EReal.coe_mul, ← EReal.coe_mul, ← EReal.coe_add]

/-- The scan's state one step on. -/
theorem st_succ (p : Spec.Par) (t n c : ℕ) : Spec.st p (t + 1) n c =
    Spec.st p t n c * Real.exp (Spec.dt p t (c / 64) * -Real.exp (p.alog (c / 64))) + Spec.dt p t (c / 64) * Spec.xbc p t c * Spec.xbc p t (2048 + n) := rfl

/-- A trip steps the state. -/
theorem s_next {k : ℕ} (hk : k < 2048) (h : Inv R k V) :
    Re5 (res_main_while0b_v139 V : FVec Ideal S2x2x32x64x128 .f32) fun d b h j n => Spec.st (R.par d b) (k + 1) n (h * 64 + j) := by
  intro d b g j n
  rw [s_eq _ h.ctr]
  pointwise
  refine (step_val (h.s d b g j n) ((slD_at hk (V main_v88_3) d b g).trans (h.dt ⟨k, hk⟩ d b g)) (h.a d g) ((slX_at hk (V main_v88_0) d b g j).trans (h.x ⟨k, hk⟩ d b g j)) ((slB_at hk (V main_v88_1) d b n).trans (h.bm ⟨k, hk⟩ d b n))).trans ?_
  have hj := j.isLt
  have e : (g.val * 64 + j.val) / 64 = g.val := by omega
  show _ = ((Spec.st (R.par d b) (k + 1) n (g * 64 + j) : ℝ) : EReal)
  rw [st_succ, e]
  rfl

/-- A trip writes its own row and keeps the others. -/
theorem y_next {k : ℕ} (hk : k < 2048) (h : Inv R k V) (t : Fin 2048) (d b : Fin 2) (g : Fin 32) (j : Fin 64) (ht : t.val < k + 1) :
    (step_main_v88_7 V : FVec Ideal S2048x2x2x32x64 .f32) (ix5 t d b g j) = ((yrow (R.par d b) t (g * 64 + j) : ℝ) : EReal) := by
  have hs := s_next hk h
  rw [y_eq _ h.ctr _ rfl]
  simp only [id_eq]
  generalize (res_main_while0b_v139 V : FVec Ideal S2x2x32x64x128 .f32) = S at hs ⊢
  have hoff : S2048x2x2x32x64.Slices ![k, 0, 0, 0, 0] S1x2x2x32x64 := ⟨rfl, fun a => by fin_cases a <;> simp <;> omega⟩
  rw [Host.dynamicUpdateSlice_eq_updateSlice _ _ _ _ ![k, 0, 0, 0, 0] (fun a => by obtain ⟨_, h2⟩ := hoff; have := h2 a; have e := start5 hk a; refine (congrArg (fun z : ℤ => (min (max z 0) ((S2048x2x2x32x64.size a - S1x2x2x32x64.size a : ℕ) : ℤ)).toNat) e).trans ?_; show (min (max ((![k, 0, 0, 0, 0] a : ℕ) : ℤ) 0) _).toNat = ![k, 0, 0, 0, 0] a; change ![k, 0, 0, 0, 0] a + S1x2x2x32x64.size a ≤ _ at this; omega) hoff]
  pointwise
  by_cases e : t.val = k
  · rw [dif_pos (by
      intro a
      fin_cases a
      · exact ⟨(show k ≤ t.val by omega), (show t.val < k + 1 by omega)⟩
      · exact ⟨Nat.zero_le _, (show d.val < 0 + 2 by omega)⟩
      · exact ⟨Nat.zero_le _, (show b.val < 0 + 2 by omega)⟩
      · exact ⟨Nat.zero_le _, (show g.val < 0 + 32 by omega)⟩
      · exact ⟨Nat.zero_le _, (show j.val < 0 + 64 by omega)⟩)]
    unfold yrow
    refine coe_sum_mul (fun n => ?_) fun n => ?_
    · rw [hs d b g j n, e]
    · exact (slB_at hk (V main_v88_2) d b n).trans (by rw [h.cm ⟨k, hk⟩ d b n, e])
  · rw [dif_neg (fun ha => e (by have := ha 0; simp at this; omega))]
    exact h.y t d b g j (by omega)

/-- One trip keeps the invariant. -/
theorem step_inv {k : ℕ} (hk : k < 2048) (h : Inv R k V) : Inv R (k + 1) (STEP V) where
  x := by rw [STEP_main_v88_0]; exact h.x
  bm := by rw [STEP_main_v88_1]; exact h.bm
  cm := by rw [STEP_main_v88_2]; exact h.cm
  dt := by rw [STEP_main_v88_3]; exact h.dt
  a := by rw [STEP_main_v88_4]; exact h.a
  ctr := by
    rw [STEP_main_v88_5]
    unfold step_main_v88_5
    rw [h.ctr]
    funext i
    exact (BitVec.ofNat_add k 1).symm
  s := by rw [STEP_main_v88_6]; exact s_next hk h
  y t d b g j ht := by rw [STEP_main_v88_7]; exact y_next hk h t d b g j ht

/-- The invariant after any number of trips. -/
theorem iter_inv (h : Inv R 0 V) : ∀ k ≤ 2048, Inv R k (STEP^[k] V)
  | 0, _ => h
  | k + 1, hk => by
    rw [Function.iterate_succ_apply']
    exact step_inv (by omega) (iter_inv h k (by omega))

end Cert.Proof.RI
end
-- ==== Proof.RefPost.lean ====
/- The reference's host lines after its loop: gate, normalise, project, and the two directions' mean. -/
module

public import proofs.«01_k».proof.Proof.RefLoop

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.ShloMosaic.Tactic

variable {R : Reals} {V : Valuation τ sig (Elt Ideal)}

/-- The scan's output with the skip term, features together. -/
theorem v94_re (hy : Re5 (V main_v88_7 : FVec Ideal S2048x2x2x32x64 .f32) fun t d b h j => yrow (R.par d b) t (h * 64 + j))
    (hd : Re2 (V main_v21 : FVec Ideal S2x32 .f32) fun d j => R.dd d j)
    (hx : Re5 (V main_v68 : FVec Ideal S2x2x2048x32x64 .f32) fun d b t h j => Spec.xbc (R.par d b) t (h * 64 + j)) :
    Re4 (StableHlo.after hostOps0_7 V main_v94 : FVec Ideal S2x2x2048x2048 .f32) fun d b t j => Spec.ysc (R.par d b) t j := by
  intro d b t j
  after_reads_at
  have e : j.val / 64 * 64 + j.val % 64 = j.val := by omega
  rw [hy, hd, hx, ← EReal.coe_mul, ← EReal.coe_add]
  show ((yrow (R.par d b) t (j.val / 64 * 64 + j.val % 64) + R.dd d (j.val / 64) * Spec.xbc (R.par d b) t (j.val / 64 * 64 + j.val % 64) : ℝ) : EReal) = _
  rw [e]
  rfl

/-- The gate. -/
theorem v95_re (h : Re4 (V main_v30 : FVec Ideal S2x2x2048x2048 .f32) fun d b t j => Spec.zx (R.par d b) t j) :
    Re4 (StableHlo.after hostOps0_8 V main_v95 : FVec Ideal S2x2x2048x2048 .f32) fun d b t j => Spec.silu (Spec.zx (R.par d b) t j) := by
  intro d b t j
  after_reads_at
  rw [h]
  exact silu_host _

/-- The gated output. -/
theorem v96_re (h : Re4 (V main_v94 : FVec Ideal S2x2x2048x2048 .f32) fun d b t j => Spec.ysc (R.par d b) t j)
    (hg : Re4 (V main_v95 : FVec Ideal S2x2x2048x2048 .f32) fun d b t j => Spec.silu (Spec.zx (R.par d b) t j)) :
    Re4 (StableHlo.after hostOps0_9 V main_v96 : FVec Ideal S2x2x2048x2048 .f32) fun d b t j => Spec.yg (R.par d b) t j := by
  intro d b t j
  after_reads_at
  rw [h, hg, ← EReal.coe_mul]
  rfl

/-- The normalised output. -/
theorem v109_re (h : Re4 (V main_v94 : FVec Ideal S2x2x2048x2048 .f32) fun d b t j => Spec.ysc (R.par d b) t j)
    (hg : Re4 (V main_v95 : FVec Ideal S2x2x2048x2048 .f32) fun d b t j => Spec.silu (Spec.zx (R.par d b) t j))
    (hn : Re2 (V main_v24 : FVec Ideal S2x2048 .f32) fun d j => R.nw d j) :
    Re4 (StableHlo.after hostOps0_9 V main_v109 : FVec Ideal S2x2x2048x2048 .f32) fun d b t j => Spec.yn (R.par d b) t j := by
  intro d b t j
  after_reads_at
  have hpos : 0 < Spec.ms (R.par d b) t + Spec.eps := add_pos_of_nonneg_of_pos (Spec.ms_nonneg _ _) (by norm_num [Spec.eps])
  have e : ∀ x : Fin 2048, @HMul.hMul EReal EReal EReal _ ((V main_v94 : FVec Ideal S2x2x2048x2048 .f32) (ix4 d b t x)) ((V main_v95 : FVec Ideal S2x2x2048x2048 .f32) (ix4 d b t x)) = ((Spec.yg (R.par d b) t x : ℝ) : EReal) := fun x => by
    rw [h, hg, ← EReal.coe_mul]; rfl
  rw [coe_sum_mul e e, e, hn, show (1157627904#32 : BitVec 32) = 0x45000000#32 from rfl, word_2048,
    show (925353388#32 : BitVec 32) = 0x3727C5AC#32 from rfl, word_eps, Ideal.div_coe (by norm_num), ← EReal.coe_mul, mul_one_div, ← EReal.coe_add]
  show _ * Ideal.rsqrt ((Spec.ms (R.par d b) t + Spec.eps : ℝ) : EReal) * _ = _
  rw [Ideal.rsqrt_coe, if_neg (not_lt.mpr hpos.le), if_neg hpos.ne', ← EReal.coe_mul, ← EReal.coe_mul]
  rfl

/-- The projected output. -/
theorem v111_re (h : Re4 (V main_v94 : FVec Ideal S2x2x2048x2048 .f32) fun d b t j => Spec.ysc (R.par d b) t j)
    (hg : Re4 (V main_v95 : FVec Ideal S2x2x2048x2048 .f32) fun d b t j => Spec.silu (Spec.zx (R.par d b) t j))
    (hn : Re2 (V main_v24 : FVec Ideal S2x2048 .f32) fun d j => R.nw d j)
    (ho : Re3 (V main_v27 : FVec Ideal S2x1024x2048 .f32) fun d j k => R.wo d j k) :
    Re4 (StableHlo.after hostOps0_9 V main_v111 : FVec Ideal S2x2x2048x1024 .f32) fun d b t j => Spec.out (R.par d b) t j := by
  intro d b t j
  have e := v109_re h hg hn d b t
  revert e
  after_reads_at
  intro e
  exact coe_sum_mul e fun x => ho d j x

/-- The result: the two directions' mean. -/
theorem v119_re (h : Re4 (V main_v94 : FVec Ideal S2x2x2048x2048 .f32) fun d b t j => Spec.ysc (R.par d b) t j)
    (hg : Re4 (V main_v95 : FVec Ideal S2x2x2048x2048 .f32) fun d b t j => Spec.silu (Spec.zx (R.par d b) t j))
    (hn : Re2 (V main_v24 : FVec Ideal S2x2048 .f32) fun d j => R.nw d j)
    (ho : Re3 (V main_v27 : FVec Ideal S2x1024x2048 .f32) fun d j k => R.wo d j k) :
    Re3 (StableHlo.after hostOps0_9 V main_v119 : FVec Ideal S2x2048x1024 .f32) R.res := by
  intro b t o
  have e0 := v111_re h hg hn ho 0 b t o
  have e1 := v111_re h hg hn ho 1 b t.rev o
  revert e0 e1
  after_reads_at
  intro e0 e1
  refine (congrArg₂ (fun x y : EReal => (x + y) * Ideal.ofBits .f32 1056964608#32) e0 e1).trans ?_
  show (((Spec.out (R.par 0 b) t o : ℝ) : EReal) + ((Spec.out (R.par 1 b) t.rev o : ℝ) : EReal)) * Ideal.ofBits .f32 1056964608#32 = _
  rw [show (1056964608#32 : BitVec 32) = 0x3F000000#32 from rfl, word_half, ← EReal.coe_add, ← EReal.coe_mul]
  have er : t.rev.val = 2047 - t.val := by rw [Fin.val_rev]; omega
  rw [er]
  rfl

end Cert.Proof.RI
end
-- ==== Proof.RefValue.lean ====
/- The reference's whole run: from its launch memory to the two directions' mean. -/
module

public import proofs.«01_k».proof.Proof.RefPost

@[expose] public section

set_option maxRecDepth 16384

noncomputable section

namespace Cert.Proof.RI

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ) (c : Dev nD) {R : Reals}

/-- The contents after host stretch 0. -/
def pre0 : Valuation τ sig (Elt Ideal) := after hostOps0 (fun b => m (c, b))
/-- The contents after host stretch 1. -/
def pre1 : Valuation τ sig (Elt Ideal) := after hostOps0_1 (pre0 m c)
/-- The contents after host stretch 2. -/
def pre2 : Valuation τ sig (Elt Ideal) := after hostOps0_2 (pre1 m c)
/-- The contents after host stretch 3. -/
def pre3 : Valuation τ sig (Elt Ideal) := after hostOps0_3 (pre2 m c)
/-- The contents after host stretch 4. -/
def pre4 : Valuation τ sig (Elt Ideal) := after hostOps0_4 (pre3 m c)
/-- The contents after host stretch 5. -/
def pre5 : Valuation τ sig (Elt Ideal) := after hostOps0_5 (pre4 m c)
/-- The contents after host stretch 6, as the loop finds them. -/
def pre6 : Valuation τ sig (Elt Ideal) := after hostOps0_6 (pre5 m c)

/-- The loop's entry contents are those. -/
theorem entry_eq : entryContents preI m c = pre6 m c := by
  simp only [entryContents, afterL_cons, afterL_nil]
  rfl

/-- What the first stretch leaves and no later one before the loop writes stays. -/
theorem pre_stay (b : Ref sig .tc) (h : b ∉ hostOps0_1_W ∧ b ∉ hostOps0_2_W ∧ b ∉ hostOps0_3_W ∧ b ∉ hostOps0_4_W ∧ b ∉ hostOps0_5_W ∧ b ∉ hostOps0_6_W) :
    pre1 m c (Proc.devRef .tc b) = pre0 m c (Proc.devRef .tc b) ∧ pre3 m c (Proc.devRef .tc b) = pre0 m c (Proc.devRef .tc b)
      ∧ pre5 m c (Proc.devRef .tc b) = pre0 m c (Proc.devRef .tc b) ∧ pre6 m c (Proc.devRef .tc b) = pre0 m c (Proc.devRef .tc b) := by
  obtain ⟨h1, h2, h3, h4, h5, h6⟩ := h
  have e1 : pre1 m c (Proc.devRef .tc b) = pre0 m c (Proc.devRef .tc b) := after_of_writes_sub _ _ hostOps0_1_writes h1
  have e2 : pre2 m c (Proc.devRef .tc b) = pre0 m c (Proc.devRef .tc b) := (after_of_writes_sub _ _ hostOps0_2_writes h2).trans e1
  have e3 : pre3 m c (Proc.devRef .tc b) = pre0 m c (Proc.devRef .tc b) := (after_of_writes_sub _ _ hostOps0_3_writes h3).trans e2
  have e4 : pre4 m c (Proc.devRef .tc b) = pre0 m c (Proc.devRef .tc b) := (after_of_writes_sub _ _ hostOps0_4_writes h4).trans e3
  have e5 : pre5 m c (Proc.devRef .tc b) = pre0 m c (Proc.devRef .tc b) := (after_of_writes_sub _ _ hostOps0_5_writes h5).trans e4
  exact ⟨e1, e3, e5, (after_of_writes_sub _ _ hostOps0_6_writes h6).trans e5⟩

variable {m c}

/-- The activated convolution, before the loop. -/
theorem pre3_v66 (h : Real m c R) : Re4 (pre3 m c main_v66 : FVec Ideal S2x2x2048x2304 .f32) fun d b t j => Spec.xbc (R.par d b) t j := by
  have w9 : Re4 (pre1 m c main_v9 : FVec Ideal S2x2304x1x4 .f32) fun d j _ k => R.cw d k j := by
    rw [(pre_stay m c main_v9 (by decide)).1]; exact v9_re h
  have w12 : Re2 (pre1 m c main_v12 : FVec Ideal S2x2304 .f32) fun d j => R.cb d j := by
    rw [(pre_stay m c main_v12 (by decide)).1]; exact v12_re h
  exact v66_re (v65_re (v33_re (v31_re h) c_word) w9 w12)

/-- The time steps, before the loop. -/
theorem pre5_v74 (h : Real m c R) : Re4 (pre5 m c main_v74 : FVec Ideal S2x2x2048x32 .f32) fun d b t j => Spec.dt (R.par d b) t j := by
  have w32 : Re4 (pre3 m c main_v32 : FVec Ideal S2x2x2048x32 .f32) fun d b t j => Spec.zx (R.par d b) t (4352 + j) := by
    rw [(pre_stay m c main_v32 (by decide)).2.1]; exact v32_re h
  have w15 : Re2 (pre3 m c main_v15 : FVec Ideal S2x32 .f32) fun d j => R.dtb d j := by
    rw [(pre_stay m c main_v15 (by decide)).2.1]; exact v15_re h
  exact v74_re (v73_re w32 w15)

/-- The inner features by head stay through the last two stretches. -/
theorem pre5_v68 (h : Real m c R) : Re5 (pre5 m c main_v68 : FVec Ideal S2x2x2048x32x64 .f32) fun d b t h j => Spec.xbc (R.par d b) t (h * 64 + j) := by
  rw [show pre5 m c main_v68 = pre4 m c main_v68 from after_of_writes_sub _ _ hostOps0_5_writes (by decide)]
  exact v68_re (pre3_v66 h)

/-- What the loop carries, on entry. -/
theorem entry_inv (h : Real m c R) : Inv R 0 (entryContents preI m c) where
  x := by rw [entry_eq]; exact v88_0_re (pre5_v68 h)
  bm := by
    rw [entry_eq]
    refine v88_1_re ?_
    rw [show pre5 m c main_v69 = pre4 m c main_v69 from after_of_writes_sub _ _ hostOps0_5_writes (by decide)]
    exact v69_re (pre3_v66 h)
  cm := by
    rw [entry_eq]
    refine v88_2_re ?_
    rw [show pre5 m c main_v70 = pre4 m c main_v70 from after_of_writes_sub _ _ hostOps0_5_writes (by decide)]
    exact v70_re (pre3_v66 h)
  dt := by rw [entry_eq]; exact v88_3_re (pre5_v74 h)
  a := by
    rw [entry_eq]
    refine v88_4_re ?_
    rw [(pre_stay m c main_v18 (by decide)).2.2.1]
    exact v18_re h
  ctr := (atK_ctr m c 0).trans (funext fun _ => by simp [Scf.iv_zero])
  s := by rw [entry_eq]; exact v88_6_re
  y t d b g j ht := absurd ht (Nat.not_lt_zero _)

/-- The contents after the loop. -/
def done (m : (ℓ : Loc nD τ sig) → Buf (Elt Ideal) ℓ) (c : Dev nD) : Valuation τ sig (Elt Ideal) := after condOps (atK m 2048 c)

/-- The loop leaves what it does not write. -/
theorem done_keeps {b : Ref sig .tc} (h : LoopKept b) : done m c (Proc.devRef .tc b) = pre6 m c (Proc.devRef .tc b) :=
  (cond_keeps _ h).trans ((trips_keep _ h c 2048).trans (congrFun (entry_eq m c) _))

/-- The loop's rows are the scan's outputs. -/
theorem done_y (h : Real m c R) : Re5 (done m c main_v88_7 : FVec Ideal S2048x2x2x32x64 .f32) fun t d b h j => yrow (R.par d b) t (h * 64 + j) := by
  intro t d b g j
  rw [show done m c main_v88_7 = (STEP^[2048] (entryContents preI m c)) main_v88_7 from
    (after_of_writes_sub _ _ condOps_writes (by decide)).trans (atK_agree m c 2048 main_v88_7 (by decide))]
  exact (iter_inv (entry_inv h) 2048 le_rfl).y t d b g j t.isLt

/-- The run's result, in the reals. -/
theorem final_re (h : Real m c R) :
    Re3 (finalContents condOps preI bodyI postI 2048 m c (Proc.devRef .tc main_v119) : FVec Ideal S2x2048x1024 .f32) R.res := by
  show Re3 (afterL postI (done m c) main_v119 : FVec Ideal S2x2048x1024 .f32) R.res
  simp only [postI, afterL_cons, afterL_nil]
  have k0 (b : Ref sig .tc) (hl : LoopKept b) (h1 : b ∉ hostOps0_1_W ∧ b ∉ hostOps0_2_W ∧ b ∉ hostOps0_3_W ∧ b ∉ hostOps0_4_W ∧ b ∉ hostOps0_5_W ∧ b ∉ hostOps0_6_W) :
      done m c (Proc.devRef .tc b) = pre0 m c (Proc.devRef .tc b) := (done_keeps hl).trans (pre_stay m c b h1).2.2.2
  have w21 : Re2 (done m c main_v21 : FVec Ideal S2x32 .f32) fun d j => R.dd d j := by
    rw [k0 main_v21 (by unfold LoopKept; decide) (by decide)]; exact v21_re h
  have w68 : Re5 (done m c main_v68 : FVec Ideal S2x2x2048x32x64 .f32) fun d b t h j => Spec.xbc (R.par d b) t (h * 64 + j) := by
    rw [done_keeps (b := main_v68) (by unfold LoopKept; decide), show pre6 m c main_v68 = pre5 m c main_v68 from after_of_writes_sub _ _ hostOps0_6_writes (by decide)]
    exact pre5_v68 h
  have w30 : Re4 (after hostOps0_7 (done m c) main_v30 : FVec Ideal S2x2x2048x2048 .f32) fun d b t j => Spec.zx (R.par d b) t j := by
    rw [after_of_writes_sub _ _ hostOps0_7_writes (show main_v30 ∉ hostOps0_7_W by decide), k0 main_v30 (by unfold LoopKept; decide) (by decide)]
    exact v30_re h
  have w94 : Re4 (after hostOps0_8 (after hostOps0_7 (done m c)) main_v94 : FVec Ideal S2x2x2048x2048 .f32) fun d b t j => Spec.ysc (R.par d b) t j := by
    rw [after_of_writes_sub _ _ hostOps0_8_writes (show main_v94 ∉ hostOps0_8_W by decide)]
    exact v94_re (done_y h) w21 w68
  have w24 : Re2 (after hostOps0_8 (after hostOps0_7 (done m c)) main_v24 : FVec Ideal S2x2048 .f32) fun d j => R.nw d j := by
    rw [after_of_writes_sub _ _ hostOps0_8_writes (show main_v24 ∉ hostOps0_8_W by decide), after_of_writes_sub _ _ hostOps0_7_writes (show main_v24 ∉ hostOps0_7_W by decide),
      k0 main_v24 (by unfold LoopKept; decide) (by decide)]
    exact v24_re h
  have w27 : Re3 (after hostOps0_8 (after hostOps0_7 (done m c)) main_v27 : FVec Ideal S2x1024x2048 .f32) fun d j k => R.wo d j k := by
    rw [after_of_writes_sub _ _ hostOps0_8_writes (show main_v27 ∉ hostOps0_8_W by decide), after_of_writes_sub _ _ hostOps0_7_writes (show main_v27 ∉ hostOps0_7_W by decide),
      k0 main_v27 (by unfold LoopKept; decide) (by decide)]
    exact v27_re h
  exact v119_re w94 (v95_re w30) w24 w27

end Cert.Proof.RI
end
-- ==== Proof.lean ====
module

public import proofs.«01_k».proof.Defs
public import proofs.«01_k».proof.Proof.KernelMain
public import proofs.«01_k».proof.Proof.PreTame
public import proofs.«01_k».proof.Proof.RefValue

@[expose] public section

set_option maxRecDepth 16384

noncomputable section

namespace Cert.Proof

open Idealize.ShloMosaic Idealize.ShloMosaic.TcCoe Idealize.SL.Sem

/-- Two arrays holding the same reals are equal. -/
theorem eq_of_re {l m n : ℕ} {v w : (⟨3, ![l, m, n]⟩ : Shape).Idx → EReal} {f : ℕ → ℕ → ℕ → ℝ} (hv : Re3 v f) (hw : Re3 w f) : v = w := by
  funext i
  rw [eq_ix3 i]
  exact (hv _ _ _).trans (hw _ _ _).symm

/-- From arguments that agree and satisfy the precondition, the kernel's result is the reference's. -/
theorem value : Cert.algebraic_KernelIdeal_ReferenceIdeal_pre_tame := by
  intro m g m' g' hp ha
  refine ⟨fun c => Cert.KernelIdeal.Gen.V5 m (KI.outs m) c Cert.KernelIdeal.main_v0, θ_run_mono (KI.run m g) fun _ h => h.1, θ_run_mono (RI.run m' g') fun r h c => ?_⟩
  obtain ⟨e0, e1, e2, e3, e4, e5, e6, e7, e8, e9, e10, e11, e12, e13, e14, e15, e16⟩ := ha c
  have hk : KI.Real m c (Tame.reals m c) := Tame.real_of hp
  have hr : RI.Real m' c (Tame.reals m c) := by
    show IsReal _ _ _ _ _ _ _ _ _ _ _ _ _ _ _ _ _ _
    rw [e0, e1, e2, e3, e4, e5, e6, e7, e8, e9, e10, e11, e12, e13, e14, e15, e16]
    exact hk
  exact ⟨(h.1 c).1.trans (eq_of_re (RI.final_re hr) (KI.v0_re hk)), (h.1 c).2⟩

/-- The certificate's claim: the frames, the mask constant's name, and the value. -/
theorem claim : Cert.Claim :=
  ⟨Cert.Kernel.Gen.facts, Cert.KernelIdeal.Gen.facts, Cert.ReferenceIdeal.Gen.facts, Tame.facts,
    fun m g _ => K.frame m g, fun m g _ => KI.frame m g, fun m g _ => KI.frame m g, fun m g _ => RI.frame m g, fun m g _ => RI.frame m g,
    IdealRules.named_const.statement Cert.KernelIdeal.κ "mask" .f32 0xF149F2CA#32 _ rfl, value⟩

end Cert.Proof

end
